-- ==== Defs.lean ====
def Pre_Kernel [hPre_groups : Cert.Pre_groups.Facts] (m : (ℓ : Loc Cert.Kernel.nD Cert.Kernel.τ Cert.Kernel.sig) → Buf (Elt Bits) ℓ) : Prop :=
  ∀ c : Dev Cert.Kernel.nD,
    (Cert.Pre_groups.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_groups : Cert.Pre_groups.Facts] (m : (ℓ : Loc Cert.KernelIdeal.nD Cert.KernelIdeal.τ Cert.KernelIdeal.sig) → Buf (Elt Ideal) ℓ) : Prop :=
  ∀ c : Dev Cert.KernelIdeal.nD,
    (Cert.Pre_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] [hPre_groups : Cert.Pre_groups.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_groups : Cert.Pre_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v257) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_groups : Cert.Pre_groups.Facts) (hPre_pre : Cert.Pre_pre.Facts) (hPre_finite : Cert.Pre_finite.Facts),
    quiescent_Kernel (hKernel := hKernel) (hPre_groups := hPre_groups)
    ∧ quiescent_KernelIdeal (hKernelIdeal := hKernelIdeal) (hPre_groups := hPre_groups)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S65536x1024 : Shape := ⟨2, ![65536, 1024]⟩
abbrev S1024 : Shape := ⟨1, ![1024]⟩
abbrev S1024x1024 : Shape := ⟨2, ![1024, 1024]⟩
abbrev S4096x2048 : Shape := ⟨2, ![4096, 2048]⟩
abbrev S4096x1024 : Shape := ⟨2, ![4096, 1024]⟩
abbrev S4x1024x1024 : Shape := ⟨3, ![4, 1024, 1024]⟩
abbrev S_ : Shape := ⟨0, ![]⟩
abbrev S1x1024 : Shape := ⟨2, ![1, 1024]⟩
abbrev S1x1024x1024 : Shape := ⟨3, ![1, 1024, 1024]⟩

class Facts : Prop where
  slices_S4096x2048_S4096x1024_0_0 : S4096x2048.Slices ![0, 0] S4096x1024
  shapeCasts_S4096x1024_S4x1024x1024 : S4096x1024.ShapeCasts S4x1024x1024
  bcast_S_S1024 : S_.BroadcastsInDim S1024 (![] : Fin 0 → Fin S1024.rank)
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S4x1024x1024 : S_.BroadcastsInDim S4x1024x1024 (![] : Fin 0 → Fin S4x1024x1024.rank)
  bcast_S1024x1024_S1x1024x1024_1_2 : S1024x1024.BroadcastsInDim S1x1024x1024 (![1, 2] : Fin 2 → Fin S1x1024x1024.rank)
  bcast_S1x1024x1024_S4x1024x1024_0_1_2 : S1x1024x1024.BroadcastsInDim S4x1024x1024 (![0, 1, 2] : Fin 3 → Fin S4x1024x1024.rank)

variable [Facts]

def fn_part1 {F : FTy → Type} [FloatOps F] (main_v1 : FVec F S4x1024x1024 .bf16) (main_v16 : IVec S4x1024x1024 1) (main_v18 : IVec S4x1024x1024 1) : IVec S4x1024x1024 1 :=
  let main_v19 : IVec S4x1024x1024 1 := andi main_v18 main_v16
  let main_cst_4 : FVec F S_ .bf16 := constant S_ .bf16 0x7F80#16
  let main_v20 : FVec F S4x1024x1024 .bf16 := broadcastInDim S4x1024x1024 ![] bcast_S_S4x1024x1024 main_cst_4
  let main_v21 : IVec S4x1024x1024 1 := cmpf .olt main_v1 main_v20
  let main_v22 : IVec S4x1024x1024 1 := andi main_v19 main_v21
  main_v22

def fn {F : FTy → Type} [FloatOps F] (main_arg0 : FVec F S65536x1024 .f32) (main_arg1 : FVec F S1024 .f32) (main_arg2 : FVec F S1024x1024 .bf16) (main_arg3 : FVec F S4096x2048 .bf16) (main_arg4 : FVec F S1024x1024 .bf16) : IVec S4x1024x1024 1 :=
  let main_v0 : FVec F S4096x1024 .bf16 := (extractStridedSlice S4096x1024 ![0, 0] · slices_S4096x2048_S4096x1024_0_0) main_arg3
  let main_v1 : FVec F S4x1024x1024 .bf16 := shapeCast S4x1024x1024 main_v0 shapeCasts_S4096x1024_S4x1024x1024
  let main_cst : FVec F S_ .f32 := constant S_ .f32 0xFF800000#32
  let main_v2 : FVec F S1024 .f32 := broadcastInDim S1024 ![] bcast_S_S1024 main_cst
  let main_v3 : IVec S1024 1 := cmpf .ogt main_arg1 main_v2
  let main_cst_0 : FVec F S_ .f32 := constant S_ .f32 0x7F800000#32
  let main_v4 : FVec F S1024 .f32 := broadcastInDim S1024 ![] bcast_S_S1024 main_cst_0
  let main_v5 : IVec S1024 1 := cmpf .olt main_arg1 main_v4
  let main_v6 : IVec S1024 1 := andi main_v3 main_v5
  let main_cst_1 : FVec F S_ .bf16 := constant S_ .bf16 0xFF80#16
  let main_v7 : FVec F S1024x1024 .bf16 := broadcastInDim S1024x1024 ![] bcast_S_S1024x1024 main_cst_1
  let main_v8 : IVec S1024x1024 1 := cmpf .ogt main_arg2 main_v7
  let main_v9 : IVec S1x1024 1 := broadcastInDim S1x1024 ![1] bcast_S1024_S1x1024_1 main_v6
  let main_v10 : IVec S1024x1024 1 := broadcastInDim S1024x1024 ![0, 1] bcast_S1x1024_S1024x1024_0_1 main_v9
  let main_v11 : IVec S1024x1024 1 := andi main_v10 main_v8
  let main_cst_2 : FVec F S_ .bf16 := constant S_ .bf16 0x7F80#16
  let main_v12 : FVec F S1024x1024 .bf16 := broadcastInDim S1024x1024 ![] bcast_S_S1024x1024 main_cst_2
  let main_v13 : IVec S1024x1024 1 := cmpf .olt main_arg2 main_v12
  let main_v14 : IVec S1024x1024 1 := andi main_v11 main_v13
  let main_cst_3 : FVec F S_ .bf16 := constant S_ .bf16 0xFF80#16
  let main_v15 : FVec F S4x1024x1024 .bf16 := broadcastInDim S4x1024x1024 ![] bcast_S_S4x1024x1024 main_cst_3
  let main_v16 : IVec S4x1024x1024 1 := cmpf .ogt main_v1 main_v15
  let main_v17 : IVec S1x1024x1024 1 := broadcastInDim S1x1024x1024 ![1, 2] bcast_S1024x1024_S1x1024x1024_1_2 main_v14
  let main_v18 : IVec S4x1024x1024 1 := broadcastInDim S4x1024x1024 ![0, 1, 2] bcast_S1x1024x1024_S4x1024x1024_0_1_2 main_v17
  fn_part1 (F := F) main_v1 main_v16 main_v18
-- ==== Pre_groups.lean ====
abbrev S557056x128 : Shape := ⟨2, ![557056, 128]⟩
abbrev S68 : Shape := ⟨1, ![68]⟩
abbrev S1 : Shape := ⟨1, ![1]⟩
abbrev S4x4x1024x512 : Shape := ⟨4, ![4, 4, 1024, 512]⟩
abbrev S4x4x512x1024 : Shape := ⟨4, ![4, 4, 512, 1024]⟩
abbrev S_ : Shape := ⟨0, ![]⟩

class Facts : Prop where
  bcast_S_S68 : S_.BroadcastsInDim S68 (![] : Fin 0 → Fin S68.rank)

variable [Facts]

def fn {F : FTy → Type} [FloatOps F] (main_arg0 : IVec S557056x128 32) (main_arg1 : IVec S68 32) (main_arg2 : IVec S1 32) (main_arg3 : FVec F S4x4x1024x512 .bf16) (main_arg4 : FVec F S4x4x1024x512 .bf16) (main_arg5 : FVec F S4x4x512x1024 .bf16) : IVec S68 1 :=
  let main_c : IVec S_ 32 := constantI S_ 32 0#32
  let main_v0 : IVec S68 32 := broadcastInDim S68 ![] bcast_S_S68 main_c
  let main_v1 : IVec S68 1 := cmpi .sge main_arg1 main_v0
  let main_c_0 : IVec S_ 32 := constantI S_ 32 4#32
  let main_v2 : IVec S68 32 := broadcastInDim S68 ![] bcast_S_S68 main_c_0
  let main_v3 : IVec S68 1 := cmpi .slt main_arg1 main_v2
  let main_v4 : IVec S68 1 := andi main_v1 main_v3
  main_v4
-- ==== Pre_pre.lean ====
abbrev S557056x128 : Shape := ⟨2, ![557056, 128]⟩
abbrev S68 : Shape := ⟨1, ![68]⟩
abbrev S1 : Shape := ⟨1, ![1]⟩
abbrev S4x4x1024x512 : Shape := ⟨4, ![4, 4, 1024, 512]⟩
abbrev S4x4x512x1024 : Shape := ⟨4, ![4, 4, 512, 1024]⟩
abbrev S69632x1024 : Shape := ⟨2, ![69632, 1024]⟩
abbrev S69632x16 : Shape := ⟨2, ![69632, 16]⟩
abbrev S68x1024x16 : Shape := ⟨3, ![68, 1024, 16]⟩
abbrev S68x1x1 : Shape := ⟨3, ![68, 1, 1]⟩
abbrev S_ : Shape := ⟨0, ![]⟩

class Facts : Prop where
  shapeCasts_S557056x128_S69632x1024 : S557056x128.ShapeCasts S69632x1024
  slices_S69632x1024_S69632x16_0_512 : S69632x1024.Slices ![0, 512] S69632x16
  shapeCasts_S69632x16_S68x1024x16 : S69632x16.ShapeCasts S68x1024x16
  bcast_S68_S68x1x1_0 : S68.BroadcastsInDim S68x1x1 (![0] : Fin 1 → Fin S68x1x1.rank)
  bcast_S_S68x1x1 : S_.BroadcastsInDim S68x1x1 (![] : Fin 0 → Fin S68x1x1.rank)
  bcast_S_S68x1024x16 : S_.BroadcastsInDim S68x1024x16 (![] : Fin 0 → Fin S68x1024x16.rank)
  bcast_S68x1x1_S68x1024x16_0_1_2 : S68x1x1.BroadcastsInDim S68x1024x16 (![0, 1, 2] : Fin 3 → Fin S68x1024x16.rank)

variable [Facts]

def fn {F : FTy → Type} [FloatOps F] (main_arg0 : IVec S557056x128 32) (main_arg1 : IVec S68 32) (main_arg2 : IVec S1 32) (main_arg3 : FVec F S4x4x1024x512 .bf16) (main_arg4 : FVec F S4x4x1024x512 .bf16) (main_arg5 : FVec F S4x4x512x1024 .bf16) : IVec S68x1024x16 1 :=
  let main_v0 : IVec S69632x1024 32 := shapeCast S69632x1024 main_arg0 shapeCasts_S557056x128_S69632x1024
  let main_v1 : IVec S69632x16 32 := (extractStridedSlice S69632x16 ![0, 512] · slices_S69632x1024_S69632x16_0_512) main_v0
  let main_v2 : FVec F S69632x16 .f32 := bitcastToFloat .f32 main_v1
  let main_v3 : FVec F S68x1024x16 .f32 := shapeCast S68x1024x16 main_v2 shapeCasts_S69632x16_S68x1024x16
  let main_v4 : IVec S68x1x1 32 := broadcastInDim S68x1x1 ![0] bcast_S68_S68x1x1_0 main_arg1
  let main_c : IVec S_ 32 := constantI S_ 32 0#32
  let main_v5 : IVec S68x1x1 32 := broadcastInDim S68x1x1 ![] bcast_S_S68x1x1 main_c
  let main_v6 : IVec S68x1x1 1 := cmpi .sge main_v4 main_v5
  let main_c_0 : IVec S_ 32 := constantI S_ 32 4#32
  let main_v7 : IVec S68x1x1 32 := broadcastInDim S68x1x1 ![] bcast_S_S68x1x1 main_c_0
  let main_v8 : IVec S68x1x1 1 := cmpi .slt main_v4 main_v7
  let main_v9 : IVec S68x1x1 1 := andi main_v6 main_v8
  let main_cst : FVec F S_ .f32 := constant S_ .f32 0x00000000#32
  let main_v10 : FVec F S68x1024x16 .f32 := broadcastInDim S68x1024x16 ![] bcast_S_S68x1024x16 main_cst
  let main_v11 : IVec S68x1024x16 1 := cmpf .oge main_v3 main_v10
  let main_v12 : IVec S68x1024x16 1 := broadcastInDim S68x1024x16 ![0, 1, 2] bcast_S68x1x1_S68x1024x16_0_1_2 main_v9
  let main_v13 : IVec S68x1024x16 1 := andi main_v12 main_v11
  let main_cst_1 : FVec F S_ .f32 := constant S_ .f32 0x3F800000#32
  let main_v14 : FVec F S68x1024x16 .f32 := broadcastInDim S68x1024x16 ![] bcast_S_S68x1024x16 main_cst_1
  let main_v15 : IVec S68x1024x16 1 := cmpf .ole main_v3 main_v14
  let main_v16 : IVec S68x1024x16 1 := andi main_v13 main_v15
  main_v16
-- ==== Kernel.lean ====
abbrev S557056x128 : Shape := ⟨2, ![557056, 128]⟩
abbrev S68 : Shape := ⟨1, ![68]⟩
abbrev S1 : Shape := ⟨1, ![1]⟩
abbrev S4x4x1024x512 : Shape := ⟨4, ![4, 4, 1024, 512]⟩
abbrev S4x4x512x1024 : Shape := ⟨4, ![4, 4, 512, 1024]⟩
abbrev S8192x128 : Shape := ⟨2, ![8192, 128]⟩
abbrev S1x4x1024x512 : Shape := ⟨4, ![1, 4, 1024, 512]⟩
abbrev S1x4x512x1024 : Shape := ⟨4, ![1, 4, 512, 1024]⟩
abbrev S1024x128 : Shape := ⟨2, ![1024, 128]⟩
abbrev S1024x1024 : Shape := ⟨2, ![1024, 1024]⟩
abbrev S1x128 : Shape := ⟨2, ![1, 128]⟩
abbrev S1024 : Shape := ⟨1, ![1024]⟩
abbrev S1024x1 : Shape := ⟨2, ![1024, 1]⟩
abbrev S1x1x1024x512 : Shape := ⟨4, ![1, 1, 1024, 512]⟩
abbrev S1024x512 : Shape := ⟨2, ![1024, 512]⟩
abbrev S1x1x512x1024 : Shape := ⟨4, ![1, 1, 512, 1024]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S557056x128, .i32⟩
  | .hbm, ⟨1, _⟩ => ⟨S4x4x1024x512, .bf16⟩
  | .hbm, ⟨2, _⟩ => ⟨S4x4x1024x512, .bf16⟩
  | .hbm, ⟨3, _⟩ => ⟨S4x4x512x1024, .bf16⟩
  | .hbm, ⟨4, _⟩ => ⟨S557056x128, .f32⟩
  | .local _ .vmem, ⟨0, _⟩ => ⟨S8192x128, .i32⟩
  | .local _ .vmem, ⟨1, _⟩ => ⟨S8192x128, .i32⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x512x1024, .bf16⟩
  | .local _ .vmem, ⟨7, _⟩ => ⟨S1x4x512x1024, .bf16⟩
  | .local _ .vmem, ⟨8, _⟩ => ⟨S8192x128, .f32⟩
  | .local _ .vmem, ⟨9, _⟩ => ⟨S8192x128, .f32⟩
  | .local _ .smem, ⟨0, _⟩ => ⟨S68, .i32⟩
  | .local _ .smem, ⟨1, _⟩ => ⟨S1, .i32⟩
  | _, _ => ⟨S557056x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v48 : Index := Scalar.indexCast arg0
  ![v48.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S557056x128 : Shape := ⟨2, ![557056, 128]⟩
abbrev S68 : Shape := ⟨1, ![68]⟩
abbrev S1 : Shape := ⟨1, ![1]⟩
abbrev S4x4x1024x512 : Shape := ⟨4, ![4, 4, 1024, 512]⟩
abbrev S4x4x512x1024 : Shape := ⟨4, ![4, 4, 512, 1024]⟩
abbrev S69632x1024 : Shape := ⟨2, ![69632, 1024]⟩
abbrev S69632x512 : Shape := ⟨2, ![69632, 512]⟩
abbrev S_ : Shape := ⟨0, ![]⟩
abbrev S69632x16 : Shape := ⟨2, ![69632, 16]⟩
abbrev S69632x4x4 : Shape := ⟨3, ![69632, 4, 4]⟩
abbrev S68x1024 : Shape := ⟨2, ![68, 1024]⟩
abbrev S69632 : Shape := ⟨1, ![69632]⟩
abbrev S69632x1 : Shape := ⟨2, ![69632, 1]⟩
abbrev S4 : Shape := ⟨1, ![4]⟩
abbrev S1x4 : Shape := ⟨2, ![1, 4]⟩
abbrev S69632x4 : Shape := ⟨2, ![69632, 4]⟩
abbrev S69632x4x1 : Shape := ⟨3, ![69632, 4, 1]⟩
abbrev S69632x4x4x512 : Shape := ⟨4, ![69632, 4, 4, 512]⟩
abbrev S4x4x69632 : Shape := ⟨3, ![4, 4, 69632]⟩
abbrev S4x4x69632x1 : Shape := ⟨4, ![4, 4, 69632, 1]⟩
abbrev S4x4x69632x1024 : Shape := ⟨4, ![4, 4, 69632, 1024]⟩

abbrev nBuf : Space → Nat
  | .hbm => 67
  | .vmem => 0
  | .smem => 0
  | _ => 0

abbrev bufTy : (tb : Table) → Fin (tcTables nBuf tb) → BufTy
  | .hbm, ⟨0, _⟩ => ⟨S557056x128, .i32⟩
  | .hbm, ⟨1, _⟩ => ⟨S68, .i32⟩
  | .hbm, ⟨2, _⟩ => ⟨S1, .i32⟩
  | .hbm, ⟨3, _⟩ => ⟨S4x4x1024x512, .bf16⟩
  | .hbm, ⟨4, _⟩ => ⟨S4x4x1024x512, .bf16⟩
  | .hbm, ⟨5, _⟩ => ⟨S4x4x512x1024, .bf16⟩
  | .hbm, ⟨6, _⟩ => ⟨S69632x1024, .i32⟩
  | .hbm, ⟨7, _⟩ => ⟨S69632x512, .i32⟩
  | .hbm, ⟨8, _⟩ => ⟨S_, .i32⟩
  | .hbm, ⟨9, _⟩ => ⟨S69632x512, .i32⟩
  | .hbm, ⟨10, _⟩ => ⟨S69632x512, .i32⟩
  | .hbm, ⟨11, _⟩ => ⟨S69632x512, .f32⟩
  | .hbm, ⟨12, _⟩ => ⟨S_, .i32⟩
  | .hbm, ⟨13, _⟩ => ⟨S69632x512, .i32⟩
  | .hbm, ⟨14, _⟩ => ⟨S69632x512, .i32⟩
  | .hbm, ⟨15, _⟩ => ⟨S69632x512, .f32⟩
  | .hbm, ⟨16, _⟩ => ⟨S69632x1024, .f32⟩
  | .hbm, ⟨17, _⟩ => ⟨S69632x1024, .i32⟩
  | .hbm, ⟨18, _⟩ => ⟨S69632x16, .i32⟩
  | .hbm, ⟨19, _⟩ => ⟨S69632x16, .f32⟩
  | .hbm, ⟨20, _⟩ => ⟨S69632x4x4, .f32⟩
  | .hbm, ⟨21, _⟩ => ⟨S68x1024, .i32⟩
  | .hbm, ⟨22, _⟩ => ⟨S69632, .i32⟩
  | .hbm, ⟨23, _⟩ => ⟨S69632x1, .i32⟩
  | .hbm, ⟨24, _⟩ => ⟨S68, .i32⟩
  | .hbm, ⟨25, _⟩ => ⟨S_, .i32⟩
  | .hbm, ⟨26, _⟩ => ⟨S68, .i32⟩
  | .hbm, ⟨27, _⟩ => ⟨S68, .i1⟩
  | .hbm, ⟨28, _⟩ => ⟨S68x1024, .i1⟩
  | .hbm, ⟨29, _⟩ => ⟨S69632, .i1⟩
  | .hbm, ⟨30, _⟩ => ⟨S69632x1, .i1⟩
  | .hbm, ⟨31, _⟩ => ⟨S4, .i32⟩
  | .hbm, ⟨32, _⟩ => ⟨S1x4, .i32⟩
  | .hbm, ⟨33, _⟩ => ⟨S69632x4, .i32⟩
  | .hbm, ⟨34, _⟩ => ⟨S69632x4, .i32⟩
  | .hbm, ⟨35, _⟩ => ⟨S69632x4, .i1⟩
  | .hbm, ⟨36, _⟩ => ⟨S69632x4, .i1⟩
  | .hbm, ⟨37, _⟩ => ⟨S69632x4, .i1⟩
  | .hbm, ⟨38, _⟩ => ⟨S69632x4x1, .i1⟩
  | .hbm, ⟨39, _⟩ => ⟨S_, .f32⟩
  | .hbm, ⟨40, _⟩ => ⟨S_, .f32⟩
  | .hbm, ⟨41, _⟩ => ⟨S69632x4x4, .i1⟩
  | .hbm, ⟨42, _⟩ => ⟨S69632x4x4, .f32⟩
  | .hbm, ⟨43, _⟩ => ⟨S69632x4x4, .f32⟩
  | .hbm, ⟨44, _⟩ => ⟨S4x4x1024x512, .f32⟩
  | .hbm, ⟨45, _⟩ => ⟨S69632x4x4x512, .f32⟩
  | .hbm, ⟨46, _⟩ => ⟨S69632x4x4x512, .f32⟩
  | .hbm, ⟨47, _⟩ => ⟨S69632x4x4x512, .f32⟩
  | .hbm, ⟨48, _⟩ => ⟨S_, .f32⟩
  | .hbm, ⟨49, _⟩ => ⟨S69632x4x4x512, .f32⟩
  | .hbm, ⟨50, _⟩ => ⟨S69632x4x4x512, .f32⟩
  | .hbm, ⟨51, _⟩ => ⟨S_, .f32⟩
  | .hbm, ⟨52, _⟩ => ⟨S69632x4x4x512, .f32⟩
  | .hbm, ⟨53, _⟩ => ⟨S69632x4x4x512, .f32⟩
  | .hbm, ⟨54, _⟩ => ⟨S69632x4x4x512, .f32⟩
  | .hbm, ⟨55, _⟩ => ⟨S4x4x1024x512, .f32⟩
  | .hbm, ⟨56, _⟩ => ⟨S69632x4x4x512, .f32⟩
  | .hbm, ⟨57, _⟩ => ⟨S69632x4x4x512, .f32⟩
  | .hbm, ⟨58, _⟩ => ⟨S4x4x69632, .f32⟩
  | .hbm, ⟨59, _⟩ => ⟨S4x4x69632x1, .f32⟩
  | .hbm, ⟨60, _⟩ => ⟨S4x4x512x1024, .f32⟩
  | .hbm, ⟨61, _⟩ => ⟨S4x4x69632x1024, .f32⟩
  | .hbm, ⟨62, _⟩ => ⟨S4x4x69632x1024, .f32⟩
  | .hbm, ⟨63, _⟩ => ⟨S4x4x69632x1024, .f32⟩
  | .hbm, ⟨64, _⟩ => ⟨S_, .f32⟩
  | .hbm, ⟨65, _⟩ => ⟨S69632x1024, .f32⟩
  | .hbm, ⟨66, _⟩ => ⟨S557056x128, .f32⟩
  | _, _ => ⟨S557056x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_1 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x1024 : Shape := ⟨2, ![1024, 1024]⟩
abbrev S4096x2048 : Shape := ⟨2, ![4096, 2048]⟩
abbrev S1x1024 : Shape := ⟨2, ![1, 1024]⟩
abbrev S512x1024 : Shape := ⟨2, ![512, 1024]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .bf16⟩
  | .hbm, ⟨3, _⟩ => ⟨S4096x2048, .bf16⟩
  | .hbm, ⟨4, _⟩ => ⟨S1024x1024, .bf16⟩
  | .hbm, ⟨5, _⟩ => ⟨S1x1024, .f32⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S1024 : Shape := ⟨1, ![1024]⟩
abbrev S1024x1024 : Shape := ⟨2, ![1024, 1024]⟩
abbrev S4096x2048 : Shape := ⟨2, ![4096, 2048]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4x256 : Shape := ⟨4, ![16, 4096, 4, 256]⟩
abbrev S16x256x2048 : Shape := ⟨3, ![16, 256, 2048]⟩
abbrev S16x256x1024 : Shape := ⟨3, ![16, 256, 1024]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .bf16⟩
  | .hbm, ⟨3, _⟩ => ⟨S4096x2048, .bf16⟩
  | .hbm, ⟨4, _⟩ => ⟨S1024x1024, .bf16⟩
  | .hbm, ⟨5, _⟩ => ⟨S16x4096x1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S1024x1024, .f32⟩
  | .hbm, ⟨23, _⟩ => ⟨S16x4096x1024, .f32⟩
  | .hbm, ⟨24, _⟩ => ⟨S16x4096x4x256, .f32⟩
  | .hbm, ⟨25, _⟩ => ⟨S4096x2048, .f32⟩
  | .hbm, ⟨26, _⟩ => ⟨S16x256x2048, .f32⟩
  | .hbm, ⟨27, _⟩ => ⟨S16x256x1024, .f32⟩
  | .hbm, ⟨28, _⟩ => ⟨S16x256x1024, .f32⟩
  | .hbm, ⟨29, _⟩ => ⟨S16x256x4x256, .f32⟩
  | .hbm, ⟨30, _⟩ => ⟨S16x256x4x256, .f32⟩
  | .hbm, ⟨31, _⟩ => ⟨S16x4x4096x256, .f32⟩
  | .hbm, ⟨32, _⟩ => ⟨S_, .f32⟩
  | .hbm, ⟨33, _⟩ => ⟨S16x4x4096x256, .f32⟩
  | .hbm, ⟨34, _⟩ => ⟨S16x4x4096x256, .f32⟩
  | .hbm, ⟨35, _⟩ => ⟨S_, .f32⟩
  | .hbm, ⟨36, _⟩ => ⟨S16x4x4096, .f32⟩
  | .hbm, ⟨37, _⟩ => ⟨S_, .f32⟩
  | .hbm, ⟨38, _⟩ => ⟨S16x4x4096, .f32⟩
  | .hbm, ⟨39, _⟩ => ⟨S16x4x4096, .f32⟩
  | .hbm, ⟨40, _⟩ => ⟨S16x4x4096x1, .f32⟩
  | .hbm, ⟨41, _⟩ => ⟨S16x4x4096x256, .f32⟩
  | .hbm, ⟨42, _⟩ => ⟨S16x4x4096x256, .f32⟩
  | .hbm, ⟨43, _⟩ => ⟨S16x4x4096x256, .f32⟩
  | .hbm, ⟨44, _⟩ => ⟨S_, .f32⟩
  | .hbm, ⟨45, _⟩ => ⟨S16x4x4096, .f32⟩
  | .hbm, ⟨46, _⟩ => ⟨S16x4x4096x1, .f32⟩
  | .hbm, ⟨47, _⟩ => ⟨S16x4x4096x256, .f32⟩
  | .hbm, ⟨48, _⟩ => ⟨S16x4x4096x256, .f32⟩
  | .hbm, ⟨49, _⟩ => ⟨S16x4x256x4096, .f32⟩
  | .hbm, ⟨50, _⟩ => ⟨S16x4096x4x256, .f32⟩
  | .hbm, ⟨51, _⟩ => ⟨S16x4096x1024, .f32⟩
  | .hbm, ⟨52, _⟩ => ⟨S1024x1024, .f32⟩
  | .hbm, ⟨53, _⟩ => ⟨S16x4096x1024, .f32⟩
  | .hbm, ⟨54, _⟩ => ⟨S16x4096x1024, .f32⟩
  | .hbm, ⟨55, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel3.lean ====
abbrev S65536x1024 : Shape := ⟨2, ![65536, 1024]⟩
abbrev S524288x128 : Shape := ⟨2, ![524288, 128]⟩
abbrev S1024 : Shape := ⟨1, ![1024]⟩
abbrev S1024x3072 : Shape := ⟨2, ![1024, 3072]⟩
abbrev S1x1024 : Shape := ⟨2, ![1, 1024]⟩
abbrev S65536x3072 : Shape := ⟨2, ![65536, 3072]⟩
abbrev S512x1024 : Shape := ⟨2, ![512, 1024]⟩
abbrev S4096x128 : Shape := ⟨2, ![4096, 128]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S524288x128, .f32⟩
  | .hbm, ⟨2, _⟩ => ⟨S1024, .f32⟩
  | .hbm, ⟨3, _⟩ => ⟨S1024x3072, .bf16⟩
  | .hbm, ⟨4, _⟩ => ⟨S1x1024, .f32⟩
  | .hbm, ⟨5, _⟩ => ⟨S65536x1024, .f32⟩
  | .hbm, ⟨6, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S1x1024, .f32⟩
  | .local _ .vmem, ⟨5, _⟩ => ⟨S1024x3072, .bf16⟩
  | .local _ .vmem, ⟨6, _⟩ => ⟨S512x1024, .f32⟩
  | .local _ .vmem, ⟨7, _⟩ => ⟨S512x1024, .f32⟩
  | .local _ .vmem, ⟨8, _⟩ => ⟨S512x3072, .bf16⟩
  | .local _ .vmem, ⟨9, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x1024 : Shape := ⟨2, ![65536, 1024]⟩
abbrev S524288x128 : Shape := ⟨2, ![524288, 128]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S524288x128, .f32⟩
  | .hbm, ⟨2, _⟩ => ⟨S1024, .f32⟩
  | .hbm, ⟨3, _⟩ => ⟨S1024x3072, .bf16⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x3072, .f32⟩
  | .hbm, ⟨23, _⟩ => ⟨S65536x3072, .f32⟩
  | .hbm, ⟨24, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x3072 : Shape := ⟨2, ![1024, 3072]⟩
abbrev S1x1024 : Shape := ⟨2, ![1, 1024]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S1x1024, .f32⟩
  | .hbm, ⟨4, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩

abbrev nBuf : Space → Nat
  | .hbm => 22
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S1024x3072, .f32⟩
  | .hbm, ⟨20, _⟩ => ⟨S65536x3072, .f32⟩
  | .hbm, ⟨21, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S65536x1024 : Shape := ⟨2, ![65536, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S65536x1024 : Shape := ⟨2, ![65536, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S65536x1024, .f32⟩
  | .hbm, ⟨4, _⟩ => ⟨S1024x1024, .f32⟩
  | .hbm, ⟨5, _⟩ => ⟨S65536x1024, .f32⟩
  | .hbm, ⟨6, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S65536x1024 : Shape := ⟨2, ![65536, 1024]⟩
abbrev S65536x512 : Shape := ⟨2, ![65536, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S65536x1024 : Shape := ⟨2, ![65536, 1024]⟩
abbrev S65536x512 : Shape := ⟨2, ![65536, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S65536x1024, .bf16⟩
  | .hbm, ⟨5, _⟩ => ⟨S65536x1024, .f32⟩
  | .hbm, ⟨6, _⟩ => ⟨S1024x1024, .f32⟩
  | .hbm, ⟨7, _⟩ => ⟨S65536x1024, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .bf16⟩
  | .hbm, ⟨3, _⟩ => ⟨S1x1024, .f32⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x2048, .f32⟩
  | .hbm, ⟨20, _⟩ => ⟨S4096x2048, .f32⟩
  | .hbm, ⟨21, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S65536x3072 : Shape := ⟨2, ![65536, 3072]⟩
abbrev S8x3x512x512 : Shape := ⟨4, ![8, 3, 512, 512]⟩
abbrev S4x64 : Shape := ⟨2, ![4, 64]⟩
abbrev S128 : Shape := ⟨1, ![128]⟩
abbrev S128x1 : Shape := ⟨2, ![128, 1]⟩
abbrev S65536x1024 : Shape := ⟨2, ![65536, 1024]⟩
abbrev S512x128 : Shape := ⟨2, ![512, 128]⟩
abbrev S4096x128 : Shape := ⟨2, ![4096, 128]⟩
abbrev S1x3x512x512 : Shape := ⟨4, ![1, 3, 512, 512]⟩
abbrev S8x128x512 : Shape := ⟨3, ![8, 128, 512]⟩
abbrev S2x512x128 : Shape := ⟨3, ![2, 512, 128]⟩
abbrev S2x1x512 : Shape := ⟨3, ![2, 1, 512]⟩
abbrev S2x128x512 : Shape := ⟨3, ![2, 128, 512]⟩
abbrev S2x512x512 : Shape := ⟨3, ![2, 512, 512]⟩
abbrev S128x512 : Shape := ⟨2, ![128, 512]⟩
abbrev S1x128x512 : Shape := ⟨3, ![1, 128, 512]⟩
abbrev S1x128 : Shape := ⟨2, ![1, 128]⟩
abbrev S1x512x128 : Shape := ⟨3, ![1, 512, 128]⟩
abbrev S1x1x512x512 : Shape := ⟨4, ![1, 1, 512, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x1x256 : Shape := ⟨3, ![1, 1, 256]⟩
abbrev S1x256 : Shape := ⟨2, ![1, 256]⟩
abbrev S1x512x256 : Shape := ⟨3, ![1, 512, 256]⟩
abbrev S512x256 : Shape := ⟨2, ![512, 256]⟩
abbrev S256 : Shape := ⟨1, ![256]⟩
abbrev S1x128x256 : Shape := ⟨3, ![1, 128, 256]⟩
abbrev S128x256 : Shape := ⟨2, ![128, 256]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 21
  | .smem => 0
  | _ => 0

abbrev bufTy : (tb : Table) → Fin (tcTables nBuf tb) → BufTy
  | .hbm, ⟨0, _⟩ => ⟨S65536x3072, .bf16⟩
  | .hbm, ⟨1, _⟩ => ⟨S8x3x512x512, .f32⟩
  | .hbm, ⟨2, _⟩ => ⟨S4x64, .f32⟩
  | .hbm, ⟨3, _⟩ => ⟨S128, .f32⟩
  | .hbm, ⟨4, _⟩ => ⟨S128x1, .f32⟩
  | .hbm, ⟨5, _⟩ => ⟨S65536x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x3x512x512, .f32⟩
  | .local _ .vmem, ⟨7, _⟩ => ⟨S1x3x512x512, .f32⟩
  | .local _ .vmem, ⟨8, _⟩ => ⟨S4x64, .f32⟩
  | .local _ .vmem, ⟨9, _⟩ => ⟨S128x1, .f32⟩
  | .local _ .vmem, ⟨10, _⟩ => ⟨S512x128, .bf16⟩
  | .local _ .vmem, ⟨11, _⟩ => ⟨S512x128, .bf16⟩
  | .local _ .vmem, ⟨12, _⟩ => ⟨S8x128x512, .bf16⟩
  | .local _ .vmem, ⟨13, _⟩ => ⟨S2x512x128, .bf16⟩
  | .local _ .vmem, ⟨14, _⟩ => ⟨S2x1x512, .f32⟩
  | .local _ .vmem, ⟨15, _⟩ => ⟨S2x1x512, .f32⟩
  | .local _ .vmem, ⟨16, _⟩ => ⟨S2x128x512, .f32⟩
  | .local _ .vmem, ⟨17, _⟩ => ⟨S2x512x512, .f32⟩
  | .local _ .vmem, ⟨18, _⟩ => ⟨S2x512x512, .f32⟩
  | .local _ .vmem, ⟨19, _⟩ => ⟨S2x1x512, .f32⟩
  | .local _ .vmem, ⟨20, _⟩ => ⟨S2x1x512, .f32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 8, 8], ![false, false, false]⟩

def k0_mult1 : BitVec 32 :=
  let c0_i32_22 : BitVec 32 := 0#32
  c0_i32_22
def k0_off1 (i : grid0.Coords) : Fin 4 → Nat :=
  let c0_25 : Index := 0#32
  let arg2 : BitVec 32 := BitVec.ofNat 32 (i 2).val
  let c0_i32_24 : BitVec 32 := 0#32
  let v43 : BitVec 32 := Scalar.subi arg2 c0_i32_24
  let c2_i32 : BitVec 32 := 2#32
  let v44 : BitVec 32 := Scalar.minsi v43 c2_i32
  let v45 : Index := Scalar.indexCast v44
  let c0_26 : Index := 0#32
  let c0_27 : Index := 0#32
  ![0, v45.toNat, 0, 0]
@[reducible] def k0_t1_loop (i : grid0.Coords) : Scf.Loop 32 :=
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let c1_i32_55 : BitVec 32 := 1#32
  ⟨c0_i32_53, v79, c1_i32_55⟩
def k0_mult2 (i : grid0.Coords) (k0_t1 : Fin (k0_t1_loop i).trips) : BitVec 32 :=
  let c2_i32_95 : BitVec 32 := 2#32
  let c0_i32_53 : BitVec 32 := 0#32
  let c1_i32_55 : BitVec 32 := 1#32
  let arg19 : BitVec 32 := Scf.iv c0_i32_53 c1_i32_55 k0_t1
  let v148 : BitVec 32 := Scalar.muli c2_i32_95 arg19
  let c1_i32_96 : BitVec 32 := 1#32
  let v149 : BitVec 32 := Scalar.addi v148 c1_i32_96
  let c512_i32 : BitVec 32 := 512#32
  let v150 : BitVec 32 := Scalar.muli v149 c512_i32
  v150
def k0_off2 (i : grid0.Coords) (k0_t1 : Fin (k0_t1_loop i).trips) (c1_i32_96 : BitVec 32) : Fin 2 → Nat :=
  let c2_i32_95 : BitVec 32 := 2#32
  let c0_i32_53 : BitVec 32 := 0#32
  let c1_i32_55 : BitVec 32 := 1#32
  let arg19 : BitVec 32 := Scf.iv c0_i32_53 c1_i32_55 k0_t1
  let v148 : BitVec 32 := Scalar.muli c2_i32_95 arg19
  let v149 : BitVec 32 := Scalar.addi v148 c1_i32_96
  let c512_i32 : BitVec 32 := 512#32
  let v150 : BitVec 32 := Scalar.muli v149 c512_i32
  let v151 : BitVec 32 := v150
  let v152 : Index := Scalar.indexCast v151
  let c0_97 : Index := 0#32
  ![v152.toNat, 0]
def k0_off3 (i : grid0.Coords) (k0_t1 : Fin (k0_t1_loop i).trips) : Fin 3 → Nat :=
  let c2_i32_95 : BitVec 32 := 2#32
  let c0_i32_53 : BitVec 32 := 0#32
  let c1_i32_55 : BitVec 32 := 1#32
  let arg19 : BitVec 32 := Scf.iv c0_i32_53 c1_i32_55 k0_t1
  let v148 : BitVec 32 := Scalar.muli c2_i32_95 arg19
  let v176 : Index := Scalar.indexCast v148
  let c0_120 : Index := 0#32
  let c0_121 : Index := 0#32
  ![v176.toNat, 0, 0]
def k0_mult3 (i : grid0.Coords) (k0_t1 : Fin (k0_t1_loop i).trips) : BitVec 32 :=
  let c2_i32_95 : BitVec 32 := 2#32
  let c0_i32_53 : BitVec 32 := 0#32
  let c1_i32_55 : BitVec 32 := 1#32
  let arg19 : BitVec 32 := Scf.iv c0_i32_53 c1_i32_55 k0_t1
  let v148 : BitVec 32 := Scalar.muli c2_i32_95 arg19
  let c2_i32_225 : BitVec 32 := 2#32
  let v315 : BitVec 32 := Scalar.addi v148 c2_i32_225
  let c512_i32_226 : BitVec 32 := 512#32
  let v316 : BitVec 32 := Scalar.muli v315 c512_i32_226
  v316
def k0_off4 (i : grid0.Coords) (k0_t1 : Fin (k0_t1_loop i).trips) : Fin 3 → Nat :=
  let c2_i32_95 : BitVec 32 := 2#32
  let c0_i32_53 : BitVec 32 := 0#32
  let c1_i32_55 : BitVec 32 := 1#32
  let arg19 : BitVec 32 := Scf.iv c0_i32_53 c1_i32_55 k0_t1
  let v148 : BitVec 32 := Scalar.muli c2_i32_95 arg19
  let c1_i32_250 : BitVec 32 := 1#32
  let v342 : BitVec 32 := Scalar.addi v148 c1_i32_250
  let v343 : Index := Scalar.indexCast v342
  let c0_251 : Index := 0#32
  let c0_252 : Index := 0#32
  ![v343.toNat, 0, 0]
@[reducible] def k0_t2_loop (i : grid0.Coords) : Scf.Loop 32 :=
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let v76 : BitVec 32 := Scalar.addi c0_i32_53 v75
  let c1_i32_56 : BitVec 32 := 1#32
  ⟨v79, v76, c1_i32_56⟩
def k0_mult4 (i : grid0.Coords) (k0_t2 : Fin (k0_t2_loop i).trips) : BitVec 32 :=
  let c2_i32_95 : BitVec 32 := 2#32
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let c1_i32_56 : BitVec 32 := 1#32
  let arg19 : BitVec 32 := Scf.iv v79 c1_i32_56 k0_t2
  let v148 : BitVec 32 := Scalar.muli c2_i32_95 arg19
  let c1_i32_96 : BitVec 32 := 1#32
  let v149 : BitVec 32 := Scalar.addi v148 c1_i32_96
  let c512_i32 : BitVec 32 := 512#32
  let v150 : BitVec 32 := Scalar.muli v149 c512_i32
  v150
def k0_off5 (i : grid0.Coords) (k0_t2 : Fin (k0_t2_loop i).trips) (c1_i32_96 : BitVec 32) : Fin 2 → Nat :=
  let c2_i32_95 : BitVec 32 := 2#32
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let c1_i32_56 : BitVec 32 := 1#32
  let arg19 : BitVec 32 := Scf.iv v79 c1_i32_56 k0_t2
  let v148 : BitVec 32 := Scalar.muli c2_i32_95 arg19
  let v149 : BitVec 32 := Scalar.addi v148 c1_i32_96
  let c512_i32 : BitVec 32 := 512#32
  let v150 : BitVec 32 := Scalar.muli v149 c512_i32
  let v151 : BitVec 32 := v150
  let v152 : Index := Scalar.indexCast v151
  let c0_97 : Index := 0#32
  ![v152.toNat, 0]
def k0_off6 (i : grid0.Coords) (k0_t2 : Fin (k0_t2_loop i).trips) : Fin 3 → Nat :=
  let c2_i32_95 : BitVec 32 := 2#32
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let c1_i32_56 : BitVec 32 := 1#32
  let arg19 : BitVec 32 := Scf.iv v79 c1_i32_56 k0_t2
  let v148 : BitVec 32 := Scalar.muli c2_i32_95 arg19
  let v176 : Index := Scalar.indexCast v148
  let c0_120 : Index := 0#32
  let c0_121 : Index := 0#32
  ![v176.toNat, 0, 0]
def k0_mult5 (i : grid0.Coords) (k0_t2 : Fin (k0_t2_loop i).trips) : BitVec 32 :=
  let c2_i32_95 : BitVec 32 := 2#32
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let c1_i32_56 : BitVec 32 := 1#32
  let arg19 : BitVec 32 := Scf.iv v79 c1_i32_56 k0_t2
  let v148 : BitVec 32 := Scalar.muli c2_i32_95 arg19
  let c2_i32_225 : BitVec 32 := 2#32
  let v315 : BitVec 32 := Scalar.addi v148 c2_i32_225
  let c512_i32_226 : BitVec 32 := 512#32
  let v316 : BitVec 32 := Scalar.muli v315 c512_i32_226
  v316
def k0_off7 (i : grid0.Coords) (k0_t2 : Fin (k0_t2_loop i).trips) : Fin 3 → Nat :=
  let c2_i32_95 : BitVec 32 := 2#32
  let c0_i32_53 : BitVec 32 := 0#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let v75 : BitVec 32 := Scalar.subi v74 c0_i32_53
  let c1_i32_54 : BitVec 32 := 1#32
  let v77 : BitVec 32 := Scalar.divsi v75 c1_i32_54
  let v78 : BitVec 32 := Scalar.muli v77 c1_i32_54
  let v79 : BitVec 32 := Scalar.addi c0_i32_53 v78
  let c1_i32_56 : BitVec 32 := 1#32
  let arg19 : BitVec 32 := Scf.iv v79 c1_i32_56 k0_t2
  let v148 : BitVec 32 := Scalar.muli c2_i32_95 arg19
  let c1_i32_250 : BitVec 32 := 1#32
  let v342 : BitVec 32 := Scalar.addi v148 c1_i32_250
  let v343 : Index := Scalar.indexCast v342
  let c0_251 : Index := 0#32
  let c0_252 : Index := 0#32
  ![v343.toNat, 0, 0]
@[reducible] def k0_t3_loop (i : grid0.Coords) : Scf.Loop 32 :=
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_60 : BitVec 32 := 1#32
  ⟨v74, v85, c1_i32_60⟩
def k0_mult6 (i : grid0.Coords) (k0_t3 : Fin (k0_t3_loop i).trips) : BitVec 32 :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_60 : BitVec 32 := 1#32
  let arg19 : BitVec 32 := Scf.iv v74 c1_i32_60 k0_t3
  let v148 : BitVec 32 := Scalar.muli c2_i32_95 arg19
  let c1_i32_96 : BitVec 32 := 1#32
  let v149 : BitVec 32 := Scalar.addi v148 c1_i32_96
  let c512_i32 : BitVec 32 := 512#32
  let v150 : BitVec 32 := Scalar.muli v149 c512_i32
  v150
def k0_off8 (i : grid0.Coords) (k0_t3 : Fin (k0_t3_loop i).trips) (c1_i32_96 : BitVec 32) : Fin 2 → Nat :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_60 : BitVec 32 := 1#32
  let arg19 : BitVec 32 := Scf.iv v74 c1_i32_60 k0_t3
  let v148 : BitVec 32 := Scalar.muli c2_i32_95 arg19
  let v149 : BitVec 32 := Scalar.addi v148 c1_i32_96
  let c512_i32 : BitVec 32 := 512#32
  let v150 : BitVec 32 := Scalar.muli v149 c512_i32
  let v151 : BitVec 32 := v150
  let v152 : Index := Scalar.indexCast v151
  let c0_97 : Index := 0#32
  ![v152.toNat, 0]
def k0_off9 (i : grid0.Coords) (k0_t3 : Fin (k0_t3_loop i).trips) (c1_i32_96 : BitVec 32) : Fin 4 → Nat :=
  let c0_99 : Index := 0#32
  let arg2 : BitVec 32 := BitVec.ofNat 32 (i 2).val
  let c2_i32_95 : BitVec 32 := 2#32
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_60 : BitVec 32 := 1#32
  let arg19 : BitVec 32 := Scf.iv v74 c1_i32_60 k0_t3
  let v148 : BitVec 32 := Scalar.muli c2_i32_95 arg19
  let v149 : BitVec 32 := Scalar.addi v148 c1_i32_96
  let v154 : BitVec 32 := Scalar.subi arg2 v149
  let c2_i32_98 : BitVec 32 := 2#32
  let v155 : BitVec 32 := Scalar.minsi v154 c2_i32_98
  let v156 : Index := Scalar.indexCast v155
  let c0_100 : Index := 0#32
  let c0_101 : Index := 0#32
  ![0, v156.toNat, 0, 0]
def k0_off10 (i : grid0.Coords) (k0_t3 : Fin (k0_t3_loop i).trips) : Fin 3 → Nat :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_60 : BitVec 32 := 1#32
  let arg19 : BitVec 32 := Scf.iv v74 c1_i32_60 k0_t3
  let v148 : BitVec 32 := Scalar.muli c2_i32_95 arg19
  let v183 : Index := Scalar.indexCast v148
  let c0_124 : Index := 0#32
  let c0_125 : Index := 0#32
  ![v183.toNat, 0, 0]
def k0_mult7 (i : grid0.Coords) (k0_t3 : Fin (k0_t3_loop i).trips) : BitVec 32 :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_60 : BitVec 32 := 1#32
  let arg19 : BitVec 32 := Scf.iv v74 c1_i32_60 k0_t3
  let v148 : BitVec 32 := Scalar.muli c2_i32_95 arg19
  let c2_i32_229 : BitVec 32 := 2#32
  let v322 : BitVec 32 := Scalar.addi v148 c2_i32_229
  let c512_i32_230 : BitVec 32 := 512#32
  let v323 : BitVec 32 := Scalar.muli v322 c512_i32_230
  v323
def k0_off11 (i : grid0.Coords) (k0_t3 : Fin (k0_t3_loop i).trips) : Fin 3 → Nat :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_60 : BitVec 32 := 1#32
  let arg19 : BitVec 32 := Scf.iv v74 c1_i32_60 k0_t3
  let v148 : BitVec 32 := Scalar.muli c2_i32_95 arg19
  let c1_i32_258 : BitVec 32 := 1#32
  let v356 : BitVec 32 := Scalar.addi v148 c1_i32_258
  let v357 : Index := Scalar.indexCast v356
  let c0_259 : Index := 0#32
  let c0_260 : Index := 0#32
  ![v357.toNat, 0, 0]
@[reducible] def k0_t4_loop (i : grid0.Coords) : Scf.Loop 32 :=
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let v82 : BitVec 32 := Scalar.addi v74 v81
  let c1_i32_61 : BitVec 32 := 1#32
  ⟨v85, v82, c1_i32_61⟩
def k0_mult8 (i : grid0.Coords) (k0_t4 : Fin (k0_t4_loop i).trips) : BitVec 32 :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_61 : BitVec 32 := 1#32
  let arg19 : BitVec 32 := Scf.iv v85 c1_i32_61 k0_t4
  let v148 : BitVec 32 := Scalar.muli c2_i32_95 arg19
  let c1_i32_96 : BitVec 32 := 1#32
  let v149 : BitVec 32 := Scalar.addi v148 c1_i32_96
  let c512_i32 : BitVec 32 := 512#32
  let v150 : BitVec 32 := Scalar.muli v149 c512_i32
  v150
def k0_off12 (i : grid0.Coords) (k0_t4 : Fin (k0_t4_loop i).trips) (c1_i32_96 : BitVec 32) : Fin 2 → Nat :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_61 : BitVec 32 := 1#32
  let arg19 : BitVec 32 := Scf.iv v85 c1_i32_61 k0_t4
  let v148 : BitVec 32 := Scalar.muli c2_i32_95 arg19
  let v149 : BitVec 32 := Scalar.addi v148 c1_i32_96
  let c512_i32 : BitVec 32 := 512#32
  let v150 : BitVec 32 := Scalar.muli v149 c512_i32
  let v151 : BitVec 32 := v150
  let v152 : Index := Scalar.indexCast v151
  let c0_97 : Index := 0#32
  ![v152.toNat, 0]
def k0_off13 (i : grid0.Coords) (k0_t4 : Fin (k0_t4_loop i).trips) (c1_i32_96 : BitVec 32) : Fin 4 → Nat :=
  let c0_99 : Index := 0#32
  let arg2 : BitVec 32 := BitVec.ofNat 32 (i 2).val
  let c2_i32_95 : BitVec 32 := 2#32
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_61 : BitVec 32 := 1#32
  let arg19 : BitVec 32 := Scf.iv v85 c1_i32_61 k0_t4
  let v148 : BitVec 32 := Scalar.muli c2_i32_95 arg19
  let v149 : BitVec 32 := Scalar.addi v148 c1_i32_96
  let v154 : BitVec 32 := Scalar.subi arg2 v149
  let c2_i32_98 : BitVec 32 := 2#32
  let v155 : BitVec 32 := Scalar.minsi v154 c2_i32_98
  let v156 : Index := Scalar.indexCast v155
  let c0_100 : Index := 0#32
  let c0_101 : Index := 0#32
  ![0, v156.toNat, 0, 0]
def k0_off14 (i : grid0.Coords) (k0_t4 : Fin (k0_t4_loop i).trips) : Fin 3 → Nat :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_61 : BitVec 32 := 1#32
  let arg19 : BitVec 32 := Scf.iv v85 c1_i32_61 k0_t4
  let v148 : BitVec 32 := Scalar.muli c2_i32_95 arg19
  let v183 : Index := Scalar.indexCast v148
  let c0_124 : Index := 0#32
  let c0_125 : Index := 0#32
  ![v183.toNat, 0, 0]
def k0_mult9 (i : grid0.Coords) (k0_t4 : Fin (k0_t4_loop i).trips) : BitVec 32 :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_61 : BitVec 32 := 1#32
  let arg19 : BitVec 32 := Scf.iv v85 c1_i32_61 k0_t4
  let v148 : BitVec 32 := Scalar.muli c2_i32_95 arg19
  let c2_i32_229 : BitVec 32 := 2#32
  let v322 : BitVec 32 := Scalar.addi v148 c2_i32_229
  let c512_i32_230 : BitVec 32 := 512#32
  let v323 : BitVec 32 := Scalar.muli v322 c512_i32_230
  v323
def k0_off15 (i : grid0.Coords) (k0_t4 : Fin (k0_t4_loop i).trips) : Fin 3 → Nat :=
  let c2_i32_95 : BitVec 32 := 2#32
  let arg2 : BitVec 32 := BitVec.ofNat 32 (i 2).val
  let c2_i32_50 : BitVec 32 := 2#32
  let v72 : BitVec 32 := Scalar.subi arg2 c2_i32_50
  let c0_i32_51 : BitVec 32 := 0#32
  let v73 : BitVec 32 := Scalar.maxsi v72 c0_i32_51
  let c1_i32 : BitVec 32 := 1#32
  let v74 : BitVec 32 := Scalar.shrsi v73 c1_i32
  let c1_i32_57 : BitVec 32 := 1#32
  let v80 : BitVec 32 := Scalar.shrsi arg2 c1_i32_57
  let v81 : BitVec 32 := Scalar.subi v80 v74
  let c1_i32_59 : BitVec 32 := 1#32
  let v83 : BitVec 32 := Scalar.divsi v81 c1_i32_59
  let v84 : BitVec 32 := Scalar.muli v83 c1_i32_59
  let v85 : BitVec 32 := Scalar.addi v74 v84
  let c1_i32_61 : BitVec 32 := 1#32
  let arg19 : BitVec 32 := Scf.iv v85 c1_i32_61 k0_t4
  let v148 : BitVec 32 := Scalar.muli c2_i32_95 arg19
  let c1_i32_258 : BitVec 32 := 1#32
  let v356 : BitVec 32 := Scalar.addi v148 c1_i32_258
  let v357 : Index := Scalar.indexCast v356
  let c0_259 : Index := 0#32
  let c0_260 : Index := 0#32
  ![v357.toNat, 0, 0]
def k0_cond2 (i : grid0.Coords) : BitVec 1 :=
  let arg2 : BitVec 32 := BitVec.ofNat 32 (i 2).val
  let c1_i32_62 : BitVec 32 := 1#32
  let v86 : BitVec 32 := Scalar.andi arg2 c1_i32_62
  let c0_i32_63 : BitVec 32 := 0#32
  let v87 : BitVec 1 := Scalar.cmpi .eq v86 c0_i32_63
  let v88 : BitVec 32 := Scalar.extui v87
  let c0_i32_64 : BitVec 32 := 0#32
  let v89 : BitVec 1 := Scalar.cmpi .ne v88 c0_i32_64
  v89

def k0_off16 (i : grid0.Coords) : Fin 3 → Nat :=
  let arg2 : BitVec 32 := BitVec.ofNat 32 (i 2).val
  let v148 : Index := Scalar.indexCast arg2
  let c0_95 : Index := 0#32
  let c0_96 : Index := 0#32
  ![v148.toNat, 0, 0]
def k0_cond3 (i : grid0.Coords) : BitVec 1 :=
  let arg2 : BitVec 32 := BitVec.ofNat 32 (i 2).val
  let c1_i32_65 : BitVec 32 := 1#32
  let v90 : BitVec 32 := Scalar.andi arg2 c1_i32_65
  let c1_i32_66 : BitVec 32 := 1#32
  let v91 : BitVec 1 := Scalar.cmpi .eq v90 c1_i32_66
  let v92 : BitVec 32 := Scalar.extui v91
  let c0_i32_67 : BitVec 32 := 0#32
  let v93 : BitVec 1 := Scalar.cmpi .ne v92 c0_i32_67
  v93

def k0_mult10 (i : grid0.Coords) : BitVec 32 :=
  let arg2 : BitVec 32 := BitVec.ofNat 32 (i 2).val
  let c512_i32 : BitVec 32 := 512#32
  let v148 : BitVec 32 := Scalar.muli arg2 c512_i32
  v148
def k0_off17 (i : grid0.Coords) : Fin 2 → Nat :=
  let arg2 : BitVec 32 := BitVec.ofNat 32 (i 2).val
  let c512_i32 : BitVec 32 := 512#32
  let v148 : BitVec 32 := Scalar.muli arg2 c512_i32
  let v149 : BitVec 32 := v148
  let v150 : Index := Scalar.indexCast v149
  let c0_95 : Index := 0#32
  ![v150.toNat, 0]
def k0_off18 (i : grid0.Coords) : Fin 4 → Nat :=
  let c0_97 : Index := 0#32
  let arg2 : BitVec 32 := BitVec.ofNat 32 (i 2).val
  let v152 : BitVec 32 := Scalar.subi arg2 arg2
  let c2_i32_96 : BitVec 32 := 2#32
  let v153 : BitVec 32 := Scalar.minsi v152 c2_i32_96
  let v154 : Index := Scalar.indexCast v153
  let c0_98 : Index := 0#32
  let c0_99 : Index := 0#32
  ![0, v154.toNat, 0, 0]
def k0_off19 (i : grid0.Coords) : Fin 3 → Nat :=
  let arg2 : BitVec 32 := BitVec.ofNat 32 (i 2).val
  let c1_i32_122 : BitVec 32 := 1#32
  let v181 : BitVec 32 := Scalar.subi arg2 c1_i32_122
  let v182 : Index := Scalar.indexCast v181
  let c0_123 : Index := 0#32
  let c0_124 : Index := 0#32
  ![v182.toNat, 0, 0]
def k0_off20 (i : grid0.Coords) : Fin 3 → Nat :=
  let arg2 : BitVec 32 := BitVec.ofNat 32 (i 2).val
  let v321 : Index := Scalar.indexCast arg2
  let c0_228 : Index := 0#32
  let c0_229 : Index := 0#32
  ![v321.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel9.lean ====
abbrev S65536x1024 : Shape := ⟨2, ![65536, 1024]⟩
abbrev S524288x128 : Shape := ⟨2, ![524288, 128]⟩
abbrev S1024 : Shape := ⟨1, ![1024]⟩
abbrev S1x1024 : Shape := ⟨2, ![1, 1024]⟩
abbrev S512x1024 : Shape := ⟨2, ![512, 1024]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S524288x128, .f32⟩
  | .hbm, ⟨2, _⟩ => ⟨S1024, .f32⟩
  | .hbm, ⟨3, _⟩ => ⟨S1x1024, .f32⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S65536x1024 : Shape := ⟨2, ![65536, 1024]⟩
abbrev S524288x128 : Shape := ⟨2, ![524288, 128]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S524288x128, .f32⟩
  | .hbm, ⟨2, _⟩ => ⟨S1024, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S65536x3072 : Shape := ⟨2, ![65536, 3072]⟩
abbrev S31x512 : Shape := ⟨2, ![31, 512]⟩
abbrev S512 : Shape := ⟨1, ![512]⟩
abbrev S1x512 : Shape := ⟨2, ![1, 512]⟩
abbrev S65536x512 : Shape := ⟨2, ![65536, 512]⟩
abbrev S512x512 : Shape := ⟨2, ![512, 512]⟩
abbrev S544x512 : Shape := ⟨2, ![544, 512]⟩
abbrev S7x536x512 : Shape := ⟨3, ![7, 536, 512]⟩
abbrev S32x512 : Shape := ⟨2, ![32, 512]⟩
abbrev S536x512 : Shape := ⟨2, ![536, 512]⟩
abbrev S1x536x512 : Shape := ⟨3, ![1, 536, 512]⟩
abbrev S1x512x512 : Shape := ⟨3, ![1, 512, 512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S65536x3072, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S544x512, .f32⟩
  | .local _ .vmem, ⟨11, _⟩ => ⟨S7x536x512, .f32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S65536x3072 : Shape := ⟨2, ![65536, 3072]⟩
abbrev S31x512 : Shape := ⟨2, ![31, 512]⟩
abbrev S512 : Shape := ⟨1, ![512]⟩
abbrev S16x4096x3072 : Shape := ⟨3, ![16, 4096, 3072]⟩
abbrev S16x4096x512 : Shape := ⟨3, ![16, 4096, 512]⟩
abbrev S_ : Shape := ⟨0, ![]⟩
abbrev S16x4126x512 : Shape := ⟨3, ![16, 4126, 512]⟩
abbrev S1x512 : Shape := ⟨2, ![1, 512]⟩
abbrev S1x1x512 : Shape := ⟨3, ![1, 1, 512]⟩
abbrev S16x4096 : Shape := ⟨2, ![16, 4096]⟩
abbrev S16x4096x1 : Shape := ⟨3, ![16, 4096, 1]⟩
abbrev S65536x512 : Shape := ⟨2, ![65536, 512]⟩

abbrev nBuf : Space → Nat
  | .hbm => 281
  | .vmem => 0
  | .smem => 0
  | _ => 0

abbrev hbmTy0_0 (i : Nat) : BufTy := match i % 128 with
  | 0 => ⟨S65536x3072, .bf16⟩
  | 1 => ⟨S31x512, .f32⟩
  | 2 => ⟨S512, .f32⟩
  | 3 => ⟨S512, .f32⟩
  | 4 => ⟨S512, .f32⟩
  | 5 => ⟨S65536x3072, .f32⟩
  | 6 => ⟨S16x4096x3072, .f32⟩
  | 7 => ⟨S16x4096x512, .f32⟩
  | 8 => ⟨S16x4096x512, .f32⟩
  | 9 => ⟨S16x4096x512, .f32⟩
  | 10 => ⟨S16x4096x512, .f32⟩
  | 11 => ⟨S_, .f32⟩
  | 12 => ⟨S16x4096x512, .f32⟩
  | 13 => ⟨S16x4096x512, .f32⟩
  | 14 => ⟨S_, .f32⟩
  | 15 => ⟨S16x4096x512, .f32⟩
  | 16 => ⟨S16x4096x512, .f32⟩
  | 17 => ⟨S16x4096x512, .f32⟩
  | 18 => ⟨S_, .i32⟩
  | 19 => ⟨S_, .f32⟩
  | 20 => ⟨S16x4126x512, .f32⟩
  | 21 => ⟨S16x4096x512, .f32⟩
  | 22 => ⟨S1x512, .f32⟩
  | 23 => ⟨S512, .f32⟩
  | 24 => ⟨S1x1x512, .f32⟩
  | 25 => ⟨S16x4096x512, .f32⟩
  | 26 => ⟨S16x4096x512, .f32⟩
  | 27 => ⟨S_, .f32⟩
  | 28 => ⟨S16x4096x512, .f32⟩
  | 29 => ⟨S16x4096x512, .f32⟩
  | 30 => ⟨S16x4096x512, .f32⟩
  | 31 => ⟨S1x512, .f32⟩
  | 32 => ⟨S512, .f32⟩
  | 33 => ⟨S1x1x512, .f32⟩
  | 34 => ⟨S16x4096x512, .f32⟩
  | 35 => ⟨S16x4096x512, .f32⟩
  | 36 => ⟨S16x4096x512, .f32⟩
  | 37 => ⟨S16x4096x512, .f32⟩
  | 38 => ⟨S1x512, .f32⟩
  | 39 => ⟨S512, .f32⟩
  | 40 => ⟨S1x1x512, .f32⟩
  | 41 => ⟨S16x4096x512, .f32⟩
  | 42 => ⟨S16x4096x512, .f32⟩
  | 43 => ⟨S16x4096x512, .f32⟩
  | 44 => ⟨S16x4096x512, .f32⟩
  | 45 => ⟨S1x512, .f32⟩
  | 46 => ⟨S512, .f32⟩
  | 47 => ⟨S1x1x512, .f32⟩
  | 48 => ⟨S16x4096x512, .f32⟩
  | 49 => ⟨S16x4096x512, .f32⟩
  | 50 => ⟨S16x4096x512, .f32⟩
  | 51 => ⟨S16x4096x512, .f32⟩
  | 52 => ⟨S1x512, .f32⟩
  | 53 => ⟨S512, .f32⟩
  | 54 => ⟨S1x1x512, .f32⟩
  | 55 => ⟨S16x4096x512, .f32⟩
  | 56 => ⟨S16x4096x512, .f32⟩
  | 57 => ⟨S16x4096x512, .f32⟩
  | 58 => ⟨S16x4096x512, .f32⟩
  | 59 => ⟨S1x512, .f32⟩
  | 60 => ⟨S512, .f32⟩
  | 61 => ⟨S1x1x512, .f32⟩
  | 62 => ⟨S16x4096x512, .f32⟩
  | 63 => ⟨S16x4096x512, .f32⟩
  | 64 => ⟨S16x4096x512, .f32⟩
  | 65 => ⟨S16x4096x512, .f32⟩
  | 66 => ⟨S1x512, .f32⟩
  | 67 => ⟨S512, .f32⟩
  | 68 => ⟨S1x1x512, .f32⟩
  | 69 => ⟨S16x4096x512, .f32⟩
  | 70 => ⟨S16x4096x512, .f32⟩
  | 71 => ⟨S16x4096x512, .f32⟩
  | 72 => ⟨S16x4096x512, .f32⟩
  | 73 => ⟨S1x512, .f32⟩
  | 74 => ⟨S512, .f32⟩
  | 75 => ⟨S1x1x512, .f32⟩
  | 76 => ⟨S16x4096x512, .f32⟩
  | 77 => ⟨S16x4096x512, .f32⟩
  | 78 => ⟨S16x4096x512, .f32⟩
  | 79 => ⟨S16x4096x512, .f32⟩
  | 80 => ⟨S1x512, .f32⟩
  | 81 => ⟨S512, .f32⟩
  | 82 => ⟨S1x1x512, .f32⟩
  | 83 => ⟨S16x4096x512, .f32⟩
  | 84 => ⟨S16x4096x512, .f32⟩
  | 85 => ⟨S16x4096x512, .f32⟩
  | 86 => ⟨S16x4096x512, .f32⟩
  | 87 => ⟨S1x512, .f32⟩
  | 88 => ⟨S512, .f32⟩
  | 89 => ⟨S1x1x512, .f32⟩
  | 90 => ⟨S16x4096x512, .f32⟩
  | 91 => ⟨S16x4096x512, .f32⟩
  | 92 => ⟨S16x4096x512, .f32⟩
  | 93 => ⟨S16x4096x512, .f32⟩
  | 94 => ⟨S1x512, .f32⟩
  | 95 => ⟨S512, .f32⟩
  | 96 => ⟨S1x1x512, .f32⟩
  | 97 => ⟨S16x4096x512, .f32⟩
  | 98 => ⟨S16x4096x512, .f32⟩
  | 99 => ⟨S16x4096x512, .f32⟩
  | 100 => ⟨S16x4096x512, .f32⟩
  | 101 => ⟨S1x512, .f32⟩
  | 102 => ⟨S512, .f32⟩
  | 103 => ⟨S1x1x512, .f32⟩
  | 104 => ⟨S16x4096x512, .f32⟩
  | 105 => ⟨S16x4096x512, .f32⟩
  | 106 => ⟨S16x4096x512, .f32⟩
  | 107 => ⟨S16x4096x512, .f32⟩
  | 108 => ⟨S1x512, .f32⟩
  | 109 => ⟨S512, .f32⟩
  | 110 => ⟨S1x1x512, .f32⟩
  | 111 => ⟨S16x4096x512, .f32⟩
  | 112 => ⟨S16x4096x512, .f32⟩
  | 113 => ⟨S16x4096x512, .f32⟩
  | 114 => ⟨S16x4096x512, .f32⟩
  | 115 => ⟨S1x512, .f32⟩
  | 116 => ⟨S512, .f32⟩
  | 117 => ⟨S1x1x512, .f32⟩
  | 118 => ⟨S16x4096x512, .f32⟩
  | 119 => ⟨S16x4096x512, .f32⟩
  | 120 => ⟨S16x4096x512, .f32⟩
  | 121 => ⟨S16x4096x512, .f32⟩
  | 122 => ⟨S1x512, .f32⟩
  | 123 => ⟨S512, .f32⟩
  | 124 => ⟨S1x1x512, .f32⟩
  | 125 => ⟨S16x4096x512, .f32⟩
  | 126 => ⟨S16x4096x512, .f32⟩
  | 127 => ⟨S16x4096x512, .f32⟩
  | _ => ⟨S65536x3072, .bf16⟩

abbrev hbmTy0_1 (i : Nat) : BufTy := match i % 128 with
  | 0 => ⟨S16x4096x512, .f32⟩
  | 1 => ⟨S1x512, .f32⟩
  | 2 => ⟨S512, .f32⟩
  | 3 => ⟨S1x1x512, .f32⟩
  | 4 => ⟨S16x4096x512, .f32⟩
  | 5 => ⟨S16x4096x512, .f32⟩
  | 6 => ⟨S16x4096x512, .f32⟩
  | 7 => ⟨S16x4096x512, .f32⟩
  | 8 => ⟨S1x512, .f32⟩
  | 9 => ⟨S512, .f32⟩
  | 10 => ⟨S1x1x512, .f32⟩
  | 11 => ⟨S16x4096x512, .f32⟩
  | 12 => ⟨S16x4096x512, .f32⟩
  | 13 => ⟨S16x4096x512, .f32⟩
  | 14 => ⟨S16x4096x512, .f32⟩
  | 15 => ⟨S1x512, .f32⟩
  | 16 => ⟨S512, .f32⟩
  | 17 => ⟨S1x1x512, .f32⟩
  | 18 => ⟨S16x4096x512, .f32⟩
  | 19 => ⟨S16x4096x512, .f32⟩
  | 20 => ⟨S16x4096x512, .f32⟩
  | 21 => ⟨S16x4096x512, .f32⟩
  | 22 => ⟨S1x512, .f32⟩
  | 23 => ⟨S512, .f32⟩
  | 24 => ⟨S1x1x512, .f32⟩
  | 25 => ⟨S16x4096x512, .f32⟩
  | 26 => ⟨S16x4096x512, .f32⟩
  | 27 => ⟨S16x4096x512, .f32⟩
  | 28 => ⟨S16x4096x512, .f32⟩
  | 29 => ⟨S1x512, .f32⟩
  | 30 => ⟨S512, .f32⟩
  | 31 => ⟨S1x1x512, .f32⟩
  | 32 => ⟨S16x4096x512, .f32⟩
  | 33 => ⟨S16x4096x512, .f32⟩
  | 34 => ⟨S16x4096x512, .f32⟩
  | 35 => ⟨S16x4096x512, .f32⟩
  | 36 => ⟨S1x512, .f32⟩
  | 37 => ⟨S512, .f32⟩
  | 38 => ⟨S1x1x512, .f32⟩
  | 39 => ⟨S16x4096x512, .f32⟩
  | 40 => ⟨S16x4096x512, .f32⟩
  | 41 => ⟨S16x4096x512, .f32⟩
  | 42 => ⟨S16x4096x512, .f32⟩
  | 43 => ⟨S1x512, .f32⟩
  | 44 => ⟨S512, .f32⟩
  | 45 => ⟨S1x1x512, .f32⟩
  | 46 => ⟨S16x4096x512, .f32⟩
  | 47 => ⟨S16x4096x512, .f32⟩
  | 48 => ⟨S16x4096x512, .f32⟩
  | 49 => ⟨S16x4096x512, .f32⟩
  | 50 => ⟨S1x512, .f32⟩
  | 51 => ⟨S512, .f32⟩
  | 52 => ⟨S1x1x512, .f32⟩
  | 53 => ⟨S16x4096x512, .f32⟩
  | 54 => ⟨S16x4096x512, .f32⟩
  | 55 => ⟨S16x4096x512, .f32⟩
  | 56 => ⟨S16x4096x512, .f32⟩
  | 57 => ⟨S1x512, .f32⟩
  | 58 => ⟨S512, .f32⟩
  | 59 => ⟨S1x1x512, .f32⟩
  | 60 => ⟨S16x4096x512, .f32⟩
  | 61 => ⟨S16x4096x512, .f32⟩
  | 62 => ⟨S16x4096x512, .f32⟩
  | 63 => ⟨S16x4096x512, .f32⟩
  | 64 => ⟨S1x512, .f32⟩
  | 65 => ⟨S512, .f32⟩
  | 66 => ⟨S1x1x512, .f32⟩
  | 67 => ⟨S16x4096x512, .f32⟩
  | 68 => ⟨S16x4096x512, .f32⟩
  | 69 => ⟨S16x4096x512, .f32⟩
  | 70 => ⟨S16x4096x512, .f32⟩
  | 71 => ⟨S1x512, .f32⟩
  | 72 => ⟨S512, .f32⟩
  | 73 => ⟨S1x1x512, .f32⟩
  | 74 => ⟨S16x4096x512, .f32⟩
  | 75 => ⟨S16x4096x512, .f32⟩
  | 76 => ⟨S16x4096x512, .f32⟩
  | 77 => ⟨S16x4096x512, .f32⟩
  | 78 => ⟨S1x512, .f32⟩
  | 79 => ⟨S512, .f32⟩
  | 80 => ⟨S1x1x512, .f32⟩
  | 81 => ⟨S16x4096x512, .f32⟩
  | 82 => ⟨S16x4096x512, .f32⟩
  | 83 => ⟨S16x4096x512, .f32⟩
  | 84 => ⟨S16x4096x512, .f32⟩
  | 85 => ⟨S1x512, .f32⟩
  | 86 => ⟨S512, .f32⟩
  | 87 => ⟨S1x1x512, .f32⟩
  | 88 => ⟨S16x4096x512, .f32⟩
  | 89 => ⟨S16x4096x512, .f32⟩
  | 90 => ⟨S16x4096x512, .f32⟩
  | 91 => ⟨S16x4096x512, .f32⟩
  | 92 => ⟨S1x512, .f32⟩
  | 93 => ⟨S512, .f32⟩
  | 94 => ⟨S1x1x512, .f32⟩
  | 95 => ⟨S16x4096x512, .f32⟩
  | 96 => ⟨S16x4096x512, .f32⟩
  | 97 => ⟨S16x4096x512, .f32⟩
  | 98 => ⟨S16x4096x512, .f32⟩
  | 99 => ⟨S1x512, .f32⟩
  | 100 => ⟨S512, .f32⟩
  | 101 => ⟨S1x1x512, .f32⟩
  | 102 => ⟨S16x4096x512, .f32⟩
  | 103 => ⟨S16x4096x512, .f32⟩
  | 104 => ⟨S16x4096x512, .f32⟩
  | 105 => ⟨S16x4096x512, .f32⟩
  | 106 => ⟨S1x512, .f32⟩
  | 107 => ⟨S512, .f32⟩
  | 108 => ⟨S1x1x512, .f32⟩
  | 109 => ⟨S16x4096x512, .f32⟩
  | 110 => ⟨S16x4096x512, .f32⟩
  | 111 => ⟨S16x4096x512, .f32⟩
  | 112 => ⟨S1x1x512, .f32⟩
  | 113 => ⟨S16x4096x512, .f32⟩
  | 114 => ⟨S16x4096x512, .f32⟩
  | 115 => ⟨S_, .f32⟩
  | 116 => ⟨S16x4096, .f32⟩
  | 117 => ⟨S16x4096x1, .f32⟩
  | 118 => ⟨S_, .f32⟩
  | 119 => ⟨S16x4096x1, .f32⟩
  | 120 => ⟨S16x4096x1, .f32⟩
  | 121 => ⟨S16x4096x512, .f32⟩
  | 122 => ⟨S16x4096x512, .f32⟩
  | 123 => ⟨S16x4096x512, .f32⟩
  | 124 => ⟨S_, .f32⟩
  | 125 => ⟨S16x4096, .f32⟩
  | 126 => ⟨S16x4096x1, .f32⟩
  | 127 => ⟨S_, .f32⟩
  | _ => ⟨S65536x3072, .bf16⟩

abbrev hbmTy0_2 (i : Nat) : BufTy := match i % 128 with
  | 0 => ⟨S16x4096x1, .f32⟩
  | 1 => ⟨S16x4096x1, .f32⟩
  | 2 => ⟨S_, .f32⟩
  | 3 => ⟨S16x4096x1, .f32⟩
  | 4 => ⟨S16x4096x1, .f32⟩
  | 5 => ⟨S16x4096x1, .f32⟩
  | 6 => ⟨S16x4096x512, .f32⟩
  | 7 => ⟨S16x4096x512, .f32⟩
  | 8 => ⟨S1x1x512, .f32⟩
  | 9 => ⟨S16x4096x512, .f32⟩
  | 10 => ⟨S16x4096x512, .f32⟩
  | 11 => ⟨S1x1x512, .f32⟩
  | 12 => ⟨S16x4096x512, .f32⟩
  | 13 => ⟨S16x4096x512, .f32⟩
  | 14 => ⟨S16x4096x512, .f32⟩
  | 15 => ⟨S16x4096x512, .f32⟩
  | 16 => ⟨S_, .f32⟩
  | 17 => ⟨S16x4096x512, .f32⟩
  | 18 => ⟨S16x4096x512, .f32⟩
  | 19 => ⟨S_, .f32⟩
  | 20 => ⟨S16x4096x512, .f32⟩
  | 21 => ⟨S16x4096x512, .f32⟩
  | 22 => ⟨S16x4096x512, .f32⟩
  | 23 => ⟨S65536x512, .f32⟩
  | 24 => ⟨S65536x512, .bf16⟩
  | _ => ⟨S65536x3072, .bf16⟩

abbrev hbmTy (i : Nat) : BufTy := match i / 128 with
  | 0 => hbmTy0_0 i
  | 1 => hbmTy0_1 i
  | 2 => hbmTy0_2 i
  | _ => ⟨S65536x3072, .bf16⟩

abbrev bufTy : (tb : Table) → Fin (tcTables nBuf tb) → BufTy
  | .hbm, ⟨i, _⟩ => hbmTy i
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩

abbrev nD : Nat := 1
abbrev τ : Topo := Topo.v7x

variable {F : FTy → Type} [FloatOps F]
-- ==== Proof.PI.Setup.lean ====
/-
The launch of the experts' call: what @main hands the region, the two prefetched tables (the blocks' groups and the number of blocks in use),
the blocks that the windows stage, and how a run of the region gives the claim that every argument array ends unchanged.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched, since @main is the region alone. -/
abbrev V (c : Dev nD) (b : Ref sig .tc) : Buf (Elt F) ((c : Thread nD τ).loc b) := m ((c : Thread nD τ).loc b)

set_option maxHeartbeats 800000 in
/-- @main is the region and nothing before it. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The contents of the two tables. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block that an index map picks by the groups' table lies inside its array. -/
abbrev Ok : Prop := ok0 (F := F) (tbl m)

/-- The tables' contents as admissible ones, and the pipeline at them. -/
abbrev adm (hO : Ok m) : (pcfg0 (F := F)).Adm := ⟨tbl m, hO⟩
abbrev cfgM (hO : Ok m) : Pipeline.Cfg sig Λ₀ := cfg0 (adm m hO)

/-- The tables as the body is handed them: the table of the blocks' groups and the one-word table of the number of blocks in use. -/
abbrev grpM : Memref sig .tc .smem S68 .i32 := Memref.whole main_arg1
abbrev hgrpM : grpM.IsWhole := Memref.isWhole_whole _
abbrev nbM : Memref sig .tc .smem S1 .i32 := Memref.whole main_arg2
abbrev hnbM : nbM.IsWhole := Memref.isWhole_whole _

/-- A table's contents on core `c`, and the half of it that the body holds while it runs. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the region hands the body of the tables, one table after the other. -/
theorem PhiT_eq (c : Dev nD) : (Pipeline.ΦT pre0 (tbl m) c : sProp 𝕄) = iprop(tbPt c grpM (tbl m 0) ∗ tbPt c nbM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's staging buffer holds the input's block before the body runs, if the body leaves it there at every point: the tokens, -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; rfl) t d).trans
    (by unfold Dat.fetched Dat.blockOf iblk; rw [hA]; rfl)
/-- the first weights of the gated product, -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; rfl) t d).trans
    (by unfold Dat.fetched Dat.blockOf iblk; rw [hA]; rfl)
/-- the second ones, -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; rfl) t d).trans
    (by unfold Dat.fetched Dat.blockOf iblk; rw [hA]; rfl)
/-- and the output weights. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; rfl) t d).trans
    (by unfold Dat.fetched Dat.blockOf iblk; rw [hA]; rfl)

/-- After a run of the region the arguments are what they were: the staged ones by the pipeline's own account, the tables because nothing
    writes them. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans (hA c 0)),
    (h c).2 main_arg1 (by decide : main_arg1 ∈ Pipeline.restRefs sig spec0),
    (h c).2 main_arg2 (by decide : main_arg2 ∈ Pipeline.restRefs sig spec0),
    ((h c).1 1).trans (((dats 0 c).arrAt_in 1 rfl _).trans (hA c 1)),
    ((h c).1 2).trans (((dats 0 c).arrAt_in 2 rfl _).trans (hA c 2)),
    ((h c).1 3).trans (((dats 0 c).arrAt_in 3 rfl _).trans (hA c 3))⟩

/-- Each window's staging buffer at point `t`, and that it is a whole buffer. -/
abbrev ms0 (hO : Ok m) (t : Fin (cfgM m hO).N) : Memref sig .tc .vmem S8192x128 .i32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x4x1024x512 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x4x1024x512 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x4x512x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S8192x128 .f32 := spec0_4.stage ((cfgM m hO).slots t 4)
abbrev hs4 (hO : Ok m) (t : Fin (cfgM m hO).N) : (ms4 m hO t).IsWhole := hstage0_4 (((cfgM m hO).slots t 4).cast nbuf0_4)

/-- The body as the pipeline calls it at point `t`. -/
abbrev bodyAt (hO : Ok m) (t : Fin (cfgM m hO).N) : Prog (TpuEff nD τ sig (Elt F) Λ₀ .tc) PUnit :=
  cc0_moe_experts (grid0.coords t) grpM hgrpM nbM hnbM (ms0 m hO t) (hs0 m hO t) (ms1 m hO t) (hs1 m hO t) (ms2 m hO t) (hs2 m hO t)
    (ms3 m hO t) (hs3 m hO t) (ms4 m hO t) (hs4 m hO t)

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.KernelIdeal.Experts

end
-- ==== Proof.PI.Run.lean ====
/-
The body of the experts' kernel, run at any grid point.
-/
module

public import proofs.«01_k».proof.Proof.PI.Setup

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one word of the second table. -/
abbrev nbWord (c : Dev nD) (xt1 : TbBuf (F := F) c nbM) : Elt F .i32 :=
  nbM.view.readAt (Elt F) (Rect.unit (s := S1) ![0] S1.size inb_S1_S1_0).toLoadRect xt1 (Shape.Idx.first (numel1_S1.symm ▸ Nat.one_pos))

set_option maxHeartbeats 1000000 in
noncomputable def runLive (c : Dev nD) (i : grid0.Coords) (arg3 : Memref sig .tc .vmem S8192x128 .i32) (harg3 : arg3.IsWhole) (arg4 : Memref sig .tc .vmem S1x4x1024x512 .bf16) (harg4 : arg4.IsWhole) (arg5 : Memref sig .tc .vmem S1x4x1024x512 .bf16) (harg5 : arg5.IsWhole) (arg6 : Memref sig .tc .vmem S1x4x512x1024 .bf16) (harg6 : arg6.IsWhole) (arg7 : Memref sig .tc .vmem S8192x128 .f32) (harg7 : arg7.IsWhole)
    (x0 : Vec F S8192x128 .i32) (x1 : Vec F S1x4x1024x512 .bf16) (x2 : Vec F S1x4x1024x512 .bf16) (x3 : Vec F S1x4x512x1024 .bf16) (xt0 : TbBuf (F := F) c grpM) (xt1 : TbBuf (F := F) c nbM)
    (h1 : k0_cond1 i (nbWord c xt1) = 1#1) (h2 : ¬ k0_cond2 i (nbWord c xt1) = 1#1) :
    { L4 : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c grpM xt0 ∗ tbPt c nbM xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt c grpM xt0 ∗ tbPt c nbM xt1) -∗ K ⟨⟩))
          ⊢ wp frame (wpE (defs₀ (F := F)) Variants.none c none) E (cc0_moe_experts i grpM hgrpM nbM hnbM arg3 harg3 arg4 harg4 arg5 harg5 arg6 harg6 arg7 harg7) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
noncomputable def runDead (c : Dev nD) (i : grid0.Coords) (arg3 : Memref sig .tc .vmem S8192x128 .i32) (harg3 : arg3.IsWhole) (arg4 : Memref sig .tc .vmem S1x4x1024x512 .bf16) (harg4 : arg4.IsWhole) (arg5 : Memref sig .tc .vmem S1x4x1024x512 .bf16) (harg5 : arg5.IsWhole) (arg6 : Memref sig .tc .vmem S1x4x512x1024 .bf16) (harg6 : arg6.IsWhole) (arg7 : Memref sig .tc .vmem S8192x128 .f32) (harg7 : arg7.IsWhole)
    (x0 : Vec F S8192x128 .i32) (x1 : Vec F S1x4x1024x512 .bf16) (x2 : Vec F S1x4x1024x512 .bf16) (x3 : Vec F S1x4x512x1024 .bf16) (xt0 : TbBuf (F := F) c grpM) (xt1 : TbBuf (F := F) c nbM)
    (h1 : ¬ k0_cond1 i (nbWord c xt1) = 1#1) (h2 : k0_cond2 i (nbWord c xt1) = 1#1) :
    { L4 : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c grpM xt0 ∗ tbPt c nbM xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt c grpM xt0 ∗ tbPt c nbM xt1) -∗ K ⟨⟩))
          ⊢ wp frame (wpE (defs₀ (F := F)) Variants.none c none) E (cc0_moe_experts i grpM hgrpM nbM hnbM arg3 harg3 arg4 harg4 arg5 harg5 arg6 harg6 arg7 harg7) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.KernelIdeal.Experts

end
-- ==== Proof.PI.Block.lean ====
/-
What the body of the experts' kernel leaves in the output's staging buffer, as a function of the blocks it reads.
-/
module

public import proofs.«01_k».proof.Proof.PI.Run
public import Idealize.ShloMosaic.Lib.Pointwise
public import Idealize.ShloMosaic.Lib.WholeRead

@[expose] public section

set_option maxRecDepth 16384

noncomputable section

namespace Cert.KernelIdeal.Experts

open Cert.KernelIdeal.Gen
open Idealize.ShloMosaic Idealize.ShloMosaic.TcCoe Idealize.ShloMosaic.Tactic

variable {F : FTy → Type} [FloatOps F]

/-- The part of an array that a load through a rectangle takes. -/
abbrev part {s : Shape} {e : EltTy} (x : Vec F s e) (B : LoadRect s) : B.shape.Idx → Elt F e := fun y => x (B.idx y)

/-- Row `s` of every token's eight rows. -/
abbrev rows0 : Rect S8192x128 := ⟨⟨![0, 0], S1024x128.size, ![8, 1], inb_S8192x128_S1024x128_0_0_s_8_1⟩, spos_8_1⟩
abbrev rows1 : Rect S8192x128 := ⟨⟨![1, 0], S1024x128.size, ![8, 1], inb_S8192x128_S1024x128_1_0_s_8_1⟩, spos_8_1⟩
abbrev rows2 : Rect S8192x128 := ⟨⟨![2, 0], S1024x128.size, ![8, 1], inb_S8192x128_S1024x128_2_0_s_8_1⟩, spos_8_1⟩
abbrev rows3 : Rect S8192x128 := ⟨⟨![3, 0], S1024x128.size, ![8, 1], inb_S8192x128_S1024x128_3_0_s_8_1⟩, spos_8_1⟩
abbrev rows4 : Rect S8192x128 := ⟨⟨![4, 0], S1024x128.size, ![8, 1], inb_S8192x128_S1024x128_4_0_s_8_1⟩, spos_8_1⟩
abbrev rows5 : Rect S8192x128 := ⟨⟨![5, 0], S1024x128.size, ![8, 1], inb_S8192x128_S1024x128_5_0_s_8_1⟩, spos_8_1⟩
abbrev rows6 : Rect S8192x128 := ⟨⟨![6, 0], S1024x128.size, ![8, 1], inb_S8192x128_S1024x128_6_0_s_8_1⟩, spos_8_1⟩
abbrev rows7 : Rect S8192x128 := ⟨⟨![7, 0], S1024x128.size, ![8, 1], inb_S8192x128_S1024x128_7_0_s_8_1⟩, spos_8_1⟩

/-- The weights of one of the group's four experts: into the hidden layer and out of it. -/
abbrev up0 : LoadRect S1x4x1024x512 := (Rect.unit (s := S1x4x1024x512) ![0, 0, 0, 0] S1x1x1024x512.size inb_S1x4x1024x512_S1x1x1024x512_0_0_0_0).toLoadRect
abbrev up1 : LoadRect S1x4x1024x512 := (Rect.unit (s := S1x4x1024x512) ![0, 1, 0, 0] S1x1x1024x512.size inb_S1x4x1024x512_S1x1x1024x512_0_1_0_0).toLoadRect
abbrev up2 : LoadRect S1x4x1024x512 := (Rect.unit (s := S1x4x1024x512) ![0, 2, 0, 0] S1x1x1024x512.size inb_S1x4x1024x512_S1x1x1024x512_0_2_0_0).toLoadRect
abbrev up3 : LoadRect S1x4x1024x512 := (Rect.unit (s := S1x4x1024x512) ![0, 3, 0, 0] S1x1x1024x512.size inb_S1x4x1024x512_S1x1x1024x512_0_3_0_0).toLoadRect
abbrev dn0 : LoadRect S1x4x512x1024 := (Rect.unit (s := S1x4x512x1024) ![0, 0, 0, 0] S1x1x512x1024.size inb_S1x4x512x1024_S1x1x512x1024_0_0_0_0).toLoadRect
abbrev dn1 : LoadRect S1x4x512x1024 := (Rect.unit (s := S1x4x512x1024) ![0, 1, 0, 0] S1x1x512x1024.size inb_S1x4x512x1024_S1x1x512x1024_0_1_0_0).toLoadRect
abbrev dn2 : LoadRect S1x4x512x1024 := (Rect.unit (s := S1x4x512x1024) ![0, 2, 0, 0] S1x1x512x1024.size inb_S1x4x512x1024_S1x1x512x1024_0_2_0_0).toLoadRect
abbrev dn3 : LoadRect S1x4x512x1024 := (Rect.unit (s := S1x4x512x1024) ![0, 3, 0, 0] S1x1x512x1024.size inb_S1x4x512x1024_S1x1x512x1024_0_3_0_0).toLoadRect

/-- The tokens of a block, unpacked from their words. -/
def tokens (x0 : Vec F S8192x128 .i32) : FVec F S1024x1024 .bf16 :=
  k0_pay9 (part x0 rows0.toLoadRect) (part x0 rows1.toLoadRect) (part x0 rows2.toLoadRect) (part x0 rows3.toLoadRect)

/-- Their gates, unpacked from the words after the token's own. -/
def gateRow (x0 : Vec F S8192x128 .i32) : FVec F S1024x128 .f32 := k0_pay10 (part x0 rows4.toLoadRect)

/-- The numbers of the lanes. -/
abbrev lanes : IVec S1x128 32 := iota .tc S1x128 32 [1] iota_S1x128_d1_w32

/-- The sum of the group's experts on every token of the block, each weighted by its gate, after the first two experts; -/
def acc2 (g : BitVec 32) (x0 : Vec F S8192x128 .i32) (x1 x2 : Vec F S1x4x1024x512 .bf16) (x3 : Vec F S1x4x512x1024 .bf16) : FVec F S1024x1024 .f32 :=
  k0_pay13 (tokens x0) (k0_pay11 (tokens x0) (gateRow x0) lanes g (part x1 up0) (part x2 up0) (part x3 dn0)) (k0_pay12 (gateRow x0) lanes g)
    (part x1 up1) (part x2 up1) (part x3 dn1)

/-- and after all four. -/
def acc (g : BitVec 32) (x0 : Vec F S8192x128 .i32) (x1 x2 : Vec F S1x4x1024x512 .bf16) (x3 : Vec F S1x4x512x1024 .bf16) : FVec F S1024x1024 .f32 :=
  k0_pay17 (tokens x0) (gateRow x0) lanes (Scalar.muli g 4#32) (acc2 g x0 x1 x2 x3) (k0_pay14 (gateRow x0) lanes (Scalar.muli g 4#32))
    (k0_pay15 (tokens x0) (part x1 up2)) (k0_pay16 (tokens x0) (part x2 up2)) (part x3 dn2) (part x1 up3) (part x2 up3) (part x3 dn3)

/-- The eight stores of the sum: of each token, 128 features to each of its eight rows. -/
def pieces (A : FVec F S1024x1024 .f32) : List (View.Piece (Elt F) S8192x128 .f32) :=
  [⟨rows7, k0_pay7 A⟩, ⟨rows6, k0_pay6 A⟩, ⟨rows5, k0_pay5 A⟩, ⟨rows4, k0_pay4 A⟩, ⟨rows3, k0_pay3 A⟩, ⟨rows2, k0_pay2 A⟩, ⟨rows1, k0_pay1 A⟩,
    ⟨rows0, extractStridedSlice S1024x128 ![0, 0] A slices_S1024x1024_o0_0_S1024x128⟩]

/-- An array of 1024 tokens of 1024 features laid out as eight rows of 128 to a token. -/
def spread (A : FVec F S1024x1024 .f32) : Vec F S8192x128 .f32 := fun y =>
  A (ix2 (n0 := 1024) (n1 := 1024) ⟨(y 0).val / 8, by have h : (y 0).val < 8192 := (y 0).isLt; omega⟩
    ⟨128 * ((y 0).val % 8) + (y 1).val, by have h : (y 1).val < 128 := (y 1).isLt; omega⟩)

/-- Every place of the buffer is under one of the eight stores. -/
theorem pieces_cover (A : FVec F S1024x1024 .f32) (y : S8192x128.Idx) : ∃ p ∈ pieces A, y ∈ p.1.set := by
  have h0 : (y 0).val < 8192 := (y 0).isLt
  have h1 : (y 1).val < 128 := (y 1).isLt
  have key : ∀ (r : Rect S8192x128) (s : ℕ), r.off = ![s, 0] → r.size = S1024x128.size → r.stride = ![8, 1] → (y 0).val % 8 = s → y ∈ r.set := by
    intro r s ho hz hs hy
    rw [r.mem_set]
    intro a
    rw [ho, hz, hs]
    match a with
    | ⟨0, _⟩ => exact ⟨(y 0).val / 8, (by omega : (y 0).val / 8 < 1024), (by omega : (y 0).val = s + 8 * ((y 0).val / 8))⟩
    | ⟨1, _⟩ => exact ⟨(y 1).val, h1, (by omega : (y 1).val = 0 + 1 * (y 1).val)⟩
  have h8 : (y 0).val % 8 < 8 := Nat.mod_lt _ (by omega)
  unfold pieces
  generalize hs : (y 0).val % 8 = s at h8
  interval_cases s
  · exact ⟨⟨rows0, extractStridedSlice S1024x128 ![0, 0] A slices_S1024x1024_o0_0_S1024x128⟩, by simp, key rows0 0 rfl rfl rfl hs⟩
  · exact ⟨⟨rows1, k0_pay1 A⟩, by simp, key rows1 1 rfl rfl rfl hs⟩
  · exact ⟨⟨rows2, k0_pay2 A⟩, by simp, key rows2 2 rfl rfl rfl hs⟩
  · exact ⟨⟨rows3, k0_pay3 A⟩, by simp, key rows3 3 rfl rfl rfl hs⟩
  · exact ⟨⟨rows4, k0_pay4 A⟩, by simp, key rows4 4 rfl rfl rfl hs⟩
  · exact ⟨⟨rows5, k0_pay5 A⟩, by simp, key rows5 5 rfl rfl rfl hs⟩
  · exact ⟨⟨rows6, k0_pay6 A⟩, by simp, key rows6 6 rfl rfl rfl hs⟩
  · exact ⟨⟨rows7, k0_pay7 A⟩, by simp, key rows7 7 rfl rfl rfl hs⟩

/-- Each store puts the features where `spread` has them. -/
theorem pieces_spread (A : FVec F S1024x1024 .f32) : ∀ p ∈ pieces A, ∀ x : p.1.shape.Idx, p.2 x = spread A (p.1.emb x) := by
  have key : ∀ (r : Rect S8192x128) (s : ℕ) (hs : s < 8) (a b : ℕ) (ha : a < 1024) (hb : b < 128) (y : S8192x128.Idx),
      (y 0).val = s + 8 * a → (y 1).val = 0 + 1 * b →
      spread A y = A (ix2 (n0 := 1024) (n1 := 1024) ⟨a, ha⟩ ⟨128 * s + b, by omega⟩) := by
    intro r s hs a b ha hb y e0 e1
    unfold spread
    congr 2
    · exact Fin.ext (by show (y 0).val / 8 = a; omega)
    · exact Fin.ext (by show 128 * ((y 0).val % 8) + (y 1).val = 128 * s + b; omega)
  intro p hp
  simp only [pieces, List.mem_cons, List.not_mem_nil, or_false] at hp
  rcases hp with rfl | rfl | rfl | rfl | rfl | rfl | rfl | rfl <;> intro x
  · rw [key rows7 7 (by omega) (x 0).val (x 1).val (x 0).isLt (x 1).isLt _ rfl rfl]; pointwise [k0_pay7]
  · rw [key rows6 6 (by omega) (x 0).val (x 1).val (x 0).isLt (x 1).isLt _ rfl rfl]; pointwise [k0_pay6]
  · rw [key rows5 5 (by omega) (x 0).val (x 1).val (x 0).isLt (x 1).isLt _ rfl rfl]; pointwise [k0_pay5]
  · rw [key rows4 4 (by omega) (x 0).val (x 1).val (x 0).isLt (x 1).isLt _ rfl rfl]; pointwise [k0_pay4]
  · rw [key rows3 3 (by omega) (x 0).val (x 1).val (x 0).isLt (x 1).isLt _ rfl rfl]; pointwise [k0_pay3]
  · rw [key rows2 2 (by omega) (x 0).val (x 1).val (x 0).isLt (x 1).isLt _ rfl rfl]; pointwise [k0_pay2]
  · rw [key rows1 1 (by omega) (x 0).val (x 1).val (x 0).isLt (x 1).isLt _ rfl rfl]; pointwise [k0_pay1]
  · rw [key rows0 0 (by omega) (x 0).val (x 1).val (x 0).isLt (x 1).isLt _ rfl rfl]; pointwise

/-- So the eight stores, over whatever the buffer held, leave the sum laid out by `spread`. -/
theorem read_pieces {sig' : RefSig} {κ : Kind} {sp : Space} (v : View sig' κ sp S8192x128 .f32) (f : v.ty.Contents (Elt F)) (A : FVec F S1024x1024 .f32) :
    v.read (Elt F) (v.writes (Elt F) f (pieces A)) = spread A :=
  funext fun y => v.read_writes_apply_of_pieces f (spread A) (pieces A) (pieces_spread A) y (pieces_cover A y)

/-- A load through a whole buffer that holds `x` takes the rectangle's part of `x`. -/
theorem readAt_part {s : Shape} {e : EltTy} {sp : Space} {M : Memref sig .tc sp s e} (h : M.IsWhole) (x : Vec F s e) (B : LoadRect s) :
    View.readAt (Elt F) M.view B (h.unread x) = part x B :=
  funext fun y => h.readAt_unread x B y

/-- The group of the point's block: the word of the first table that the body reads. -/
abbrev grpWord (c : Dev nD) (i : grid0.Coords) (xt0 : TbBuf (F := F) c grpM) : Elt F .i32 :=
  grpM.view.readAt (Elt F) (Rect.unit (s := S68) (k0_off2 i) S1.size (k0_off2_inb i)).toLoadRect xt0 (Shape.Idx.first (numel1_S1.symm ▸ Nat.one_pos))

/-- At a point whose block is in use the body's stores are the eight of the experts' sum. -/
theorem runLive_pieces (c : Dev nD) (i : grid0.Coords) (arg3 : Memref sig .tc .vmem S8192x128 .i32) (harg3 : arg3.IsWhole) (arg4 : Memref sig .tc .vmem S1x4x1024x512 .bf16) (harg4 : arg4.IsWhole) (arg5 : Memref sig .tc .vmem S1x4x1024x512 .bf16) (harg5 : arg5.IsWhole) (arg6 : Memref sig .tc .vmem S1x4x512x1024 .bf16) (harg6 : arg6.IsWhole) (arg7 : Memref sig .tc .vmem S8192x128 .f32) (harg7 : arg7.IsWhole)
    (x0 : Vec F S8192x128 .i32) (x1 : Vec F S1x4x1024x512 .bf16) (x2 : Vec F S1x4x1024x512 .bf16) (x3 : Vec F S1x4x512x1024 .bf16) (xt0 : TbBuf (F := F) c grpM) (xt1 : TbBuf (F := F) c nbM)
    (h1 : k0_cond1 i (nbWord c xt1) = 1#1) (h2 : ¬ k0_cond2 i (nbWord c xt1) = 1#1) :
    (runLive c i arg3 harg3 arg4 harg4 arg5 harg5 arg6 harg6 arg7 harg7 x0 x1 x2 x3 xt0 xt1 h1 h2).1 = pieces (acc (grpWord c i xt0) x0 x1 x2 x3) := by
  have hA : acc (grpWord c i xt0) x0 x1 x2 x3 = runLive.sl.r_10 c i arg3 harg3 arg4 harg4 arg5 harg5 arg6 harg6 x0 x1 x2 x3 xt0 := by
    unfold acc acc2 tokens gateRow
    simp only [← readAt_part harg3 x0, ← readAt_part harg4 x1, ← readAt_part harg5 x2, ← readAt_part harg6 x3]
    rfl
  rw [hA]
  rfl

/-- At any other point the body's one store is of zeros over the whole buffer. -/
theorem runDead_pieces (c : Dev nD) (i : grid0.Coords) (arg3 : Memref sig .tc .vmem S8192x128 .i32) (harg3 : arg3.IsWhole) (arg4 : Memref sig .tc .vmem S1x4x1024x512 .bf16) (harg4 : arg4.IsWhole) (arg5 : Memref sig .tc .vmem S1x4x1024x512 .bf16) (harg5 : arg5.IsWhole) (arg6 : Memref sig .tc .vmem S1x4x512x1024 .bf16) (harg6 : arg6.IsWhole) (arg7 : Memref sig .tc .vmem S8192x128 .f32) (harg7 : arg7.IsWhole)
    (x0 : Vec F S8192x128 .i32) (x1 : Vec F S1x4x1024x512 .bf16) (x2 : Vec F S1x4x1024x512 .bf16) (x3 : Vec F S1x4x512x1024 .bf16) (xt0 : TbBuf (F := F) c grpM) (xt1 : TbBuf (F := F) c nbM)
    (h1 : ¬ k0_cond1 i (nbWord c xt1) = 1#1) (h2 : k0_cond2 i (nbWord c xt1) = 1#1) :
    (runDead c i arg3 harg3 arg4 harg4 arg5 harg5 arg6 harg6 arg7 harg7 x0 x1 x2 x3 xt0 xt1 h1 h2).1
      = [⟨Rect.unit (s := S8192x128) ![0, 0] S8192x128.size inb_S8192x128_S8192x128_0_0, k0_pay8⟩] := rfl

/-- That store, over whatever the buffer held, leaves zeros. -/
theorem read_zeros {sig' : RefSig} {κ : Kind} {sp : Space} (v : View sig' κ sp S8192x128 .f32) (f : v.ty.Contents (Elt F)) :
    v.read (Elt F) (v.writes (Elt F) f [⟨Rect.unit (s := S8192x128) ![0, 0] S8192x128.size inb_S8192x128_S8192x128_0_0, k0_pay8⟩])
      = fun _ => Scalar.ofBits .f32 0x00000000#32 := by
  funext y
  refine v.read_writes_apply_of_pieces f (fun _ => Scalar.ofBits .f32 0x00000000#32) _ (fun p hp => ?_) y
    ⟨_, List.mem_singleton.2 rfl, ?_⟩
  · obtain rfl := List.mem_singleton.1 hp
    exact fun x => rfl
  · rw [LoadRect.mem_set]
    intro a
    match a with
    | ⟨0, _⟩ => exact ⟨(y 0).val, (y 0).isLt, (by omega : (y 0).val = 0 + 1 * (y 0).val)⟩
    | ⟨1, _⟩ => exact ⟨(y 1).val, (y 1).isLt, (by omega : (y 1).val = 0 + 1 * (y 1).val)⟩

/-- The two conditions compare the point with the number of blocks in use: the first says that the point is below it, -/
theorem cond1_iff (i : grid0.Coords) (w : BitVec 32) : k0_cond1 i w = 1#1 ↔ (BitVec.ofNat 32 (i 0).val).toInt < w.toInt := by
  show Scalar.cmpi .ne (Scalar.extui (IntOp.cmpi .slt (BitVec.ofNat 32 (i 0).val) w)) 0#32 = 1#1 ↔ _
  rw [WordCmp.cmpi_slt_eq]
  by_cases h : (BitVec.ofNat 32 (i 0).val).toInt < w.toInt
  · simp only [h, decide_true, iff_true]; decide
  · simp only [h, decide_false, iff_false]; decide

/-- the second that it is not. -/
theorem cond2_iff (i : grid0.Coords) (w : BitVec 32) : k0_cond2 i w = 1#1 ↔ ¬ k0_cond1 i w = 1#1 := by
  rw [cond1_iff]
  show Scalar.cmpi .ne (Scalar.extui (IntOp.cmpi .sge (BitVec.ofNat 32 (i 0).val) w)) 0#32 = 1#1 ↔ _
  rw [WordCmp.cmpi_sge_eq]
  by_cases h : (BitVec.ofNat 32 (i 0).val).toInt < w.toInt
  · simp only [not_le.2 h, h, decide_false, not_true_eq_false, iff_false]; decide
  · simp only [not_lt.1 h, h, decide_true, not_false_eq_true, iff_true]; decide

end Cert.KernelIdeal.Experts

end
-- ==== Proof.PI.Frame.lean ====
/-
The run of the experts' call: what its output's staging buffer holds after each grid point, the pipeline's proof data, the body's obligation,
the run of @main, and the claim that the arguments end unchanged.
-/
module

public import proofs.«01_k».proof.Proof.PI.Block

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- What the output's block holds after the body at a point: the experts' sum if the block is in use, else zeros. -/
def left (hO : Ok m) (c : Dev nD) (t : Fin (cfgM m hO).N) : Vec F S8192x128 .f32 :=
  if k0_cond1 (grid0.coords t) (nbWord c (tbl m 1)) = 1#1 then
    spread (acc (grpWord c (grid0.coords t) (tbl m 0)) (iblk m hO c 0 t) (iblk m hO c 1 t) (iblk m hO c 2 t) (iblk m hO c 3 t))
  else fun _ => Scalar.ofBits .f32 0x00000000#32

theorem left_live (hO : Ok m) (c : Dev nD) (t : Fin (cfgM m hO).N) (h : k0_cond1 (grid0.coords t) (nbWord c (tbl m 1)) = 1#1) :
    left m hO c t = spread (acc (grpWord c (grid0.coords t) (tbl m 0)) (iblk m hO c 0 t) (iblk m hO c 1 t) (iblk m hO c 2 t) (iblk m hO c 3 t)) :=
  if_pos h

theorem left_dead (hO : Ok m) (c : Dev nD) (t : Fin (cfgM m hO).N) (h : ¬ k0_cond1 (grid0.coords t) (nbWord c (tbl m 1)) = 1#1) :
    left m hO c t = fun _ => Scalar.ofBits .f32 0x00000000#32 :=
  if_neg h

/-- The pipeline's proof data on core `c`: the arrays as launched, each input's block left as it is, the output's as `left` has it, and the
tables' halves beside the region's own rest. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => left m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = left m hO c t := by dsimp only [dats]; try rfl

/-- Each input's staging buffer holds its block when the body starts. -/
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at any point, the block in use or not. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, PhiT_eq]
  by_cases h1 : k0_cond1 (grid0.coords t) (nbWord c (tbl m 1)) = 1#1
  · have h2 : ¬ k0_cond2 (grid0.coords t) (nbWord c (tbl m 1)) = 1#1 := fun h => (cond2_iff _ _).1 h h1
    iintro ⟨⟨HΦ, ⟨HT0, HT1⟩⟩, Ho, ⟨%d0, H0⟩, ⟨%d1, H1⟩, ⟨%d2, H2⟩, ⟨%d3, H3⟩, ⟨%d4, H4⟩⟩
    iapply ((runLive c (grid0.coords t) _ _ _ _ _ _ _ _ _ _ (iblk m hO c 0 t) (iblk m hO c 1 t) (iblk m hO c 2 t) (iblk m hO c 3 t) (tbl m 0) (tbl m 1) h1 h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact ((congrArg (fun L => View.read (Elt F) (ms4 m hO t).view ((ms4 m hO t).view.writes (Elt F) e4 L))
      (runLive_pieces c _ _ _ _ _ _ _ _ _ _ _ _ _ _ _ _ _ h1 h2)).trans (read_pieces _ _ _)).trans (left_live m hO c t h1).symm
  · have h2 : k0_cond2 (grid0.coords t) (nbWord c (tbl m 1)) = 1#1 := (cond2_iff _ _).2 h1
    iintro ⟨⟨HΦ, ⟨HT0, HT1⟩⟩, Ho, ⟨%d0, H0⟩, ⟨%d1, H1⟩, ⟨%d2, H2⟩, ⟨%d3, H3⟩, ⟨%d4, H4⟩⟩
    iapply ((runDead c (grid0.coords t) _ _ _ _ _ _ _ _ _ _ (iblk m hO c 0 t) (iblk m hO c 1 t) (iblk m hO c 2 t) (iblk m hO c 3 t) (tbl m 0) (tbl m 1) h1 h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact ((congrArg (fun L => View.read (Elt F) (ms4 m hO t).view ((ms4 m hO t).view.writes (Elt F) e4 L))
      (runDead_pieces c _ _ _ _ _ _ _ _ _ _ _ _ _ _ _ _ _ h1 h2)).trans (read_zeros _ _)).trans (left_dead m hO c t h1).symm

/-- The output is stored at every point: one of the two conditions holds. -/
theorem stored (hO : Ok m) (t : Fin (cfgM m hO).N) : (cfgM m hO).idle 4 ((cfgM m hO).grid.coords t) = false := by
  show (!(k0_cond1 (grid0.coords t) ((tbl m).atD 1 ![0]) == 1#1) && !(k0_cond2 (grid0.coords t) ((tbl m).atD 1 ![0]) == 1#1)) = false
  by_cases h1 : k0_cond1 (grid0.coords t) ((tbl m).atD 1 ![0]) = 1#1
  · simp [h1]
  · simp [(cond2_iff _ _).2 h1]

/-- The pipeline's obligation of the body, at every point. -/
theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  unfold bodyPost
  iterate 6 refine sep_mono (PROP := sProp 𝕄) Entails.rfl ?_
  split
  · rename_i h
    exact Bool.noConfusion (show false = true from h)
  · split
    · rename_i h
      exact absurd (h.symm.trans (stored m hO t)) (by decide)
    · exact BIBase.Entails.rfl (PROP := sProp 𝕄)

set_option backward.isDefEq.respectTransparency.types false in
/-- Every run of @main ends, with the arrays as the proof data say and every counter at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: the arguments end unchanged and every counter at zero, whenever the tables pick blocks inside the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => unchanged_of m hO (dats m hO) (A_eq m hO) r h.1 c, h.2⟩) (run_main m ρ hO)

end Cert.KernelIdeal.Experts

end
-- ==== Proof.PI.Tables.lean ====
/-
The blocks that the weights' index maps pick: with every entry of the groups' table below four, each lies inside its array.
-/
module

public import proofs.«01_k».proof.Proof.PI.Frame

@[expose] public section

set_option maxRecDepth 16384

noncomputable section

namespace Cert.KernelIdeal.Experts

open Cert.KernelIdeal.Gen
open Idealize.ShloMosaic Idealize.ShloMosaic.TcCoe Idealize.ShloMosaic.Tactic

variable {F : FTy → Type} [FloatOps F]

/-- A block of the first two weights, at a group below four. -/
theorem inside_up (n : Nat) (hn : n < 4) : ∀ a : Fin 4, ((![n, 0, 0, 0] : Fin 4 → Nat) a + 1) * S1x4x1024x512.size a ≤ S4x4x1024x512.size a := by
  have h : ∀ k : Fin 4, ∀ a : Fin 4, ((![k.val, 0, 0, 0] : Fin 4 → Nat) a + 1) * S1x4x1024x512.size a ≤ S4x4x1024x512.size a := by decide
  exact h ⟨n, hn⟩

/-- A block of the output weights, at a group below four. -/
theorem inside_down (n : Nat) (hn : n < 4) : ∀ a : Fin 4, ((![n, 0, 0, 0] : Fin 4 → Nat) a + 1) * S1x4x512x1024.size a ≤ S4x4x512x1024.size a := by
  have h : ∀ k : Fin 4, ∀ a : Fin 4, ((![k.val, 0, 0, 0] : Fin 4 → Nat) a + 1) * S1x4x512x1024.size a ≤ S4x4x512x1024.size a := by decide
  exact h ⟨n, hn⟩

/-- A table with every group below four picks blocks inside the weights. -/
theorem ok_of (pf : pre0.Contents (Elt F)) (hw : ∀ y : S68.Idx, BitVec.toNat (w := 32) (pf 0 y) < 4) : ok0 (F := F) pf :=
  ⟨fun _ => ⟨inside_up _ (hw _), .inr (.inr ⟨by decide, rfl, rfl, rfl⟩)⟩,
    fun _ => ⟨inside_up _ (hw _), .inr (.inr ⟨by decide, rfl, rfl, rfl⟩)⟩,
    fun _ => ⟨inside_down _ (hw _), .inr (.inr ⟨by decide, rfl, rfl, rfl⟩)⟩⟩

/-- A word that is at least zero and less than four, read as signed, is below four. -/
theorem group_word (w : BitVec 32) (h : IntOp.andi (IntOp.cmpi .sge w 0#32) (IntOp.cmpi .slt w 4#32) = 1#1) : w.toNat < 4 := by
  rw [WordCmp.andi_sge_zero_slt_ofNat (by decide)] at h
  exact (WordCmp.ofBool_decide_eq_one_iff _).1 h

end Cert.KernelIdeal.Experts

end
-- ==== Proof.Math.lean ====
/-
The arithmetic behind the experts' sum: a gate from zero to one may be taken out of a sum of extended reals, the gates of the groups not chosen
drop out, and a gate picked by its lane is the one term of a sum over the lanes.
-/
module

public import Idealize.ShloMosaic.PureOps.Ideal
public import Mathlib.Data.EReal.Operations

@[expose] public section

noncomputable section

namespace Cert.Experts

/-- A finite factor that is not negative goes through a sum. -/
theorem gate_sum {n : ℕ} (c : EReal) (h0 : 0 ≤ c) (ht : c ≠ ⊤) (h w : Fin n → EReal) :
    c * ∑ f, h f * w f = ∑ f, (h f * c) * w f := by
  have key : ∀ s : Finset (Fin n), c * ∑ f ∈ s, h f * w f = ∑ f ∈ s, (h f * c) * w f := by
    intro s
    induction s using Finset.cons_induction with
    | empty => simp
    | cons a s ha ih =>
      rw [Finset.sum_cons, Finset.sum_cons, EReal.left_distrib_of_nonneg_of_ne_top h0 ht, ih, ← mul_assoc, mul_comm c (h a)]
  exact key Finset.univ

/-- Of the sixteen experts only the chosen group's four count, when the others' gates are zero. -/
theorem chosen_sum (g : Fin 4) (u : Prop) [Decidable u] (hu : u) (gate S : Fin 4 → Fin 4 → EReal) :
    ∑ a, ∑ e, (if a = g ∧ u then gate a e else 0) * S a e = ∑ e, gate g e * S g e := by
  rw [Finset.sum_eq_single g]
  · simp [hu]
  · intro a _ ha
    simp [ha]
  · simp

/-- A sum over the lanes of one lane's value. -/
theorem lane_sum {n : ℕ} (l : Fin n) (f : Fin n → EReal) : ∑ k, (if k = l then f k else 0) = f l := by
  simp

open Idealize.ShloMosaic

/-- The feature in a word's lower half, -/
def lower (w : BitVec 32) : EReal := Ideal.ofBits .f32 (IntOp.shli .vector w 16#32)

/-- the one in its upper half, -/
def upper (w : BitVec 32) : EReal := Ideal.ofBits .f32 (IntOp.andi w 4294901760#32)

/-- and the number that a whole word is. -/
def number (w : BitVec 32) : EReal := Ideal.ofBits .f32 w

/-- Feature `k` of a token, from the token's eight rows of words: the first half of the features are the lower halves of the first four rows'
    words, the second half the upper ones. -/
def feature (X : Fin 8 → Fin 128 → BitVec 32) (k : Fin 1024) : EReal :=
  if k.val < 512 then lower (X ⟨k.val / 128 % 4, by omega⟩ ⟨k.val % 128, by omega⟩)
  else upper (X ⟨k.val / 128 % 4, by omega⟩ ⟨k.val % 128, by omega⟩)

/-- The token's gate to the expert numbered `j` of sixteen. -/
def gate (X : Fin 8 → Fin 128 → BitVec 32) (j : Fin 16) : EReal := number (X 4 ⟨j.val, by omega⟩)

/-- One hidden unit of an expert: the gated product of two dot products. -/
def hiddenUnit (h a b : Fin 1024 → EReal) : EReal := (∑ k, h k * a k) * Ideal.logistic (∑ k, h k * a k) * ∑ k, h k * b k

/-- What the four experts of a group add up to on a token, each weighted by its gate. -/
def mixture (h : Fin 1024 → EReal) (G : Fin 4 → EReal) (w1 w3 : Fin 4 → Fin 1024 → Fin 512 → EReal) (w2 : Fin 4 → Fin 512 → Fin 1024 → EReal)
    (d : Fin 1024) : EReal :=
  ∑ e, ∑ f, hiddenUnit h (fun k => w1 e k f) (fun k => w3 e k f) * G e * w2 e f d

/-- Token `n`'s eight rows of words, from all the tokens' rows. -/
def wordsOf (X : Fin 557056 → Fin 128 → BitVec 32) (n : Fin 69632) (s : Fin 8) (l : Fin 128) : BitVec 32 := X ⟨8 * n.val + s.val, by omega⟩ l

/-- The group that serves token `n`, from the table of the blocks' groups: a block is 1024 tokens. -/
def groupOf (B : Fin 68 → BitVec 32) (n : Fin 69632) : Fin 4 := ⟨(B ⟨n.val / 1024, by omega⟩).toNat % 4, by omega⟩

/-- Whether token `n` is in a block in use, `u` blocks being in use. -/
def inUse (u : BitVec 32) (n : Fin 69632) : Prop := (BitVec.ofNat 32 (n.val / 1024)).toInt < u.toInt

open Classical in
/-- What the experts give token `n`: its group's mixture if its block is in use, and zeros otherwise. -/
def served (X : Fin 557056 → Fin 128 → BitVec 32) (B : Fin 68 → BitVec 32) (u : BitVec 32)
    (w1 w3 : Fin 4 → Fin 4 → Fin 1024 → Fin 512 → EReal) (w2 : Fin 4 → Fin 4 → Fin 512 → Fin 1024 → EReal) (n : Fin 69632) (d : Fin 1024) : EReal :=
  if inUse u n then
    mixture (feature (wordsOf X n)) (fun e => gate (wordsOf X n) ⟨4 * (groupOf B n).val + e.val, by omega⟩)
      (w1 (groupOf B n)) (w3 (groupOf B n)) (w2 (groupOf B n)) d
  else 0

end Cert.Experts

end
-- ==== Proof.PI.Sum.lean ====
/-
What the experts' kernel computes on a block, over the extended reals: on every token the sum of its group's four experts, each weighted by
the token's gate.
-/
module

public import proofs.«01_k».proof.Proof.PI.Tables
public import proofs.«01_k».proof.Proof.Math
public import Idealize.ShloMosaic.Lib.ValueIdx

@[expose] public section

set_option maxRecDepth 16384

noncomputable section

namespace Cert.KernelIdeal.Experts

open Cert.KernelIdeal.Gen Cert.Experts
open Idealize.ShloMosaic Idealize.ShloMosaic.TcCoe Idealize.ShloMosaic.Tactic

/-- Token `t`'s eight rows of words in a block. -/
def rowsOf (x0 : Vec Ideal S8192x128 .i32) (t : Fin 1024) (s : Fin 8) (l : Fin 128) : BitVec 32 :=
  x0 (ix2 (n0 := 8192) (n1 := 128) ⟨8 * t.val + s.val, by omega⟩ l)

/-- A load of row `s` of every token's rows, at a token and a lane. -/
theorem part_rows (x0 : Vec Ideal S8192x128 .i32) (s : Fin 8) (inb) (t : Fin 1024) (l : Fin 128) :
    part x0 { off := ![s.val, 0], size := ![1024, 128], stride := ![8, 1], inb := inb } (ix2 t l) = rowsOf x0 t s l := by
  unfold rowsOf
  show x0 _ = x0 _
  congr 1
  funext a
  match a with
  | ⟨0, _⟩ => exact Fin.ext (by show s.val + 8 * t.val = 8 * t.val + s.val; omega)
  | ⟨1, _⟩ => exact Fin.ext (by show 0 + 1 * l.val = l.val; omega)

/-- The unpacked tokens. -/
theorem tokens_at (x0 : Vec Ideal S8192x128 .i32) (t : Fin 1024) (k : Fin 1024) :
    tokens x0 (ix2 (n0 := 1024) (n1 := 1024) t k) = feature (rowsOf x0 t) k := by
  have hk := k.isLt
  have h0 := fun inb l => part_rows x0 0 inb t l
  have h1 := fun inb l => part_rows x0 1 inb t l
  have h2 := fun inb l => part_rows x0 2 inb t l
  have h3 := fun inb l => part_rows x0 3 inb t l
  have go : ∀ (s : ℕ) (hs : s < 8) (q : ℕ) (hq : q < 4) (hq' : s % 4 = q) (l : ℕ) (hl : l < 128), k.val = 128 * s + l →
      feature (rowsOf x0 t) k = if s < 4 then lower (rowsOf x0 t ⟨q, by omega⟩ ⟨l, hl⟩) else upper (rowsOf x0 t ⟨q, by omega⟩ ⟨l, hl⟩) := by
    intro s hs q hq hq' l hl e
    unfold feature
    have e1 : k.val / 128 % 4 = q := by omega
    have e2 : k.val % 128 = l := by omega
    simp only [e1, e2]
    by_cases h : s < 4
    · rw [if_pos h, if_pos (by omega)]
    · rw [if_neg h, if_neg (by omega)]
  pointwise [tokens, k0_pay9]
  split
  · rw [go 0 (by omega) 0 (by omega) rfl k.val (by omega) (by omega)]; exact congrArg lower (h0 _ _)
  split
  · rw [go 1 (by omega) 1 (by omega) rfl (k.val - 128) (by omega) (by omega)]; exact congrArg lower (h1 _ _)
  split
  · rw [go 2 (by omega) 2 (by omega) rfl (k.val - 128 - 128) (by omega) (by omega)]; exact congrArg lower (h2 _ _)
  split
  · rw [go 3 (by omega) 3 (by omega) rfl (k.val - 128 - 128 - 128) (by omega) (by omega)]; exact congrArg lower (h3 _ _)
  split
  · rw [go 4 (by omega) 0 (by omega) rfl (k.val - 128 - 128 - 128 - 128) (by omega) (by omega)]; exact congrArg upper (h0 _ _)
  split
  · rw [go 5 (by omega) 1 (by omega) rfl (k.val - 128 - 128 - 128 - 128 - 128) (by omega) (by omega)]; exact congrArg upper (h1 _ _)
  split
  · rw [go 6 (by omega) 2 (by omega) rfl (k.val - 128 - 128 - 128 - 128 - 128 - 128) (by omega) (by omega)]; exact congrArg upper (h2 _ _)
  rw [go 7 (by omega) 3 (by omega) rfl (k.val - 128 - 128 - 128 - 128 - 128 - 128 - 128) (by omega) (by omega)]; exact congrArg upper (h3 _ _)

/-- The sum over the lanes that picks a token's gate: group `g`'s expert `e` is in lane `4 g + e`. -/
theorem pick (v : Fin 128 → EReal) (w : BitVec 32) (hw : w.toNat < 4) (e : Fin 4) (x : BitVec 32) (hx : x = BitVec.ofNat 32 e.val) :
    ∑ l : Fin 128, Scalar.select (IntOp.cmpi CmpIPredicate.eq (BitVec.ofNat 32 l.val) (Scalar.addi (Scalar.muli w 4#32) x)) (v l) 0
      = v ⟨4 * w.toNat + e.val, by omega⟩ := by
  subst hx
  have hs : Scalar.addi (Scalar.muli w 4#32) (BitVec.ofNat 32 e.val) = BitVec.ofNat 32 (4 * w.toNat + e.val) := by
    apply BitVec.eq_of_toNat_eq
    show (w * 4#32 + BitVec.ofNat 32 e.val).toNat = _
    simp only [BitVec.toNat_add, BitVec.toNat_mul, BitVec.toNat_ofNat]
    omega
  rw [hs, ← lane_sum (⟨4 * w.toNat + e.val, by omega⟩ : Fin 128) v]
  refine Finset.sum_congr rfl fun l _ => ?_
  rw [WordCmp.cmpi_eq_ofNat (by omega) (by omega)]
  by_cases h : l = ⟨4 * w.toNat + e.val, by omega⟩
  · have h' : l.val = 4 * w.toNat + e.val := congrArg Fin.val h
    rw [if_pos h]; simp [h', Scalar.select]
  · have h' : ¬ l.val = 4 * w.toNat + e.val := fun h' => h (Fin.ext h')
    rw [if_neg h]; simp [h', Scalar.select]

/-- A load of one expert's weights. -/
theorem part_up (x : Vec Ideal S1x4x1024x512 .bf16) (e : Fin 4) (inb) (k : Fin 1024) (f : Fin 512) :
    part x (Rect.unit (s := S1x4x1024x512) ![0, e.val, 0, 0] S1x1x1024x512.size inb).toLoadRect (ix4 (n0 := 1) (n1 := 1) 0 0 k f)
      = x (ix4 (n0 := 1) (n1 := 4) 0 e k f) := by
  show x _ = x _
  congr 1
  funext a
  match a with
  | ⟨0, _⟩ => rfl
  | ⟨1, _⟩ => exact Fin.ext (by show e.val + 1 * 0 = e.val; omega)
  | ⟨2, _⟩ => exact Fin.ext (by show 0 + 1 * k.val = k.val; omega)
  | ⟨3, _⟩ => exact Fin.ext (by show 0 + 1 * f.val = f.val; omega)

theorem part_dn (x : Vec Ideal S1x4x512x1024 .bf16) (e : Fin 4) (inb) (f : Fin 512) (d : Fin 1024) :
    part x (Rect.unit (s := S1x4x512x1024) ![0, e.val, 0, 0] S1x1x512x1024.size inb).toLoadRect (ix4 (n0 := 1) (n1 := 1) 0 0 f d)
      = x (ix4 (n0 := 1) (n1 := 4) 0 e f d) := by
  show x _ = x _
  congr 1
  funext a
  match a with
  | ⟨0, _⟩ => rfl
  | ⟨1, _⟩ => exact Fin.ext (by show e.val + 1 * 0 = e.val; omega)
  | ⟨2, _⟩ => exact Fin.ext (by show 0 + 1 * f.val = f.val; omega)
  | ⟨3, _⟩ => exact Fin.ext (by show 0 + 1 * d.val = d.val; omega)

/-- The gates' row at a lane. -/
theorem gateRow_at (x0 : Vec Ideal S8192x128 .i32) (t : Fin 1024) (l : Fin 128) :
    gateRow x0 (ix2 (n0 := 1024) (n1 := 128) t l) = number (rowsOf x0 t 4 l) := by
  have h4 := fun inb l => part_rows x0 4 inb t l
  pointwise [gateRow, k0_pay10]
  exact congrArg number (h4 _ _)

/-- The kernel's sum over the four experts. -/
theorem acc_at (g : BitVec 32) (hg : g.toNat < 4) (x0 : Vec Ideal S8192x128 .i32) (x1 x2 : Vec Ideal S1x4x1024x512 .bf16) (x3 : Vec Ideal S1x4x512x1024 .bf16)
    (t d : Fin 1024) :
    acc g x0 x1 x2 x3 (ix2 (n0 := 1024) (n1 := 1024) t d)
      = mixture (feature (rowsOf x0 t)) (fun e => gate (rowsOf x0 t) ⟨4 * g.toNat + e.val, by omega⟩)
          (fun e k f => x1 (ix4 (n0 := 1) (n1 := 4) 0 e k f)) (fun e k f => x2 (ix4 (n0 := 1) (n1 := 4) 0 e k f))
          (fun e f d => x3 (ix4 (n0 := 1) (n1 := 4) 0 e f d)) d := by
  have u10 : ∀ (k : Fin 1024) (f : Fin 512), part x1 up0 (ix4 (n0 := 1) (n1 := 1) 0 0 k f) = x1 (ix4 (n0 := 1) (n1 := 4) 0 0 k f) :=
    fun k f => part_up x1 0 _ k f
  have u11 : ∀ (k : Fin 1024) (f : Fin 512), part x1 up1 (ix4 (n0 := 1) (n1 := 1) 0 0 k f) = x1 (ix4 (n0 := 1) (n1 := 4) 0 1 k f) :=
    fun k f => part_up x1 1 _ k f
  have u12 : ∀ (k : Fin 1024) (f : Fin 512), part x1 up2 (ix4 (n0 := 1) (n1 := 1) 0 0 k f) = x1 (ix4 (n0 := 1) (n1 := 4) 0 2 k f) :=
    fun k f => part_up x1 2 _ k f
  have u13 : ∀ (k : Fin 1024) (f : Fin 512), part x1 up3 (ix4 (n0 := 1) (n1 := 1) 0 0 k f) = x1 (ix4 (n0 := 1) (n1 := 4) 0 3 k f) :=
    fun k f => part_up x1 3 _ k f
  have u20 : ∀ (k : Fin 1024) (f : Fin 512), part x2 up0 (ix4 (n0 := 1) (n1 := 1) 0 0 k f) = x2 (ix4 (n0 := 1) (n1 := 4) 0 0 k f) :=
    fun k f => part_up x2 0 _ k f
  have u21 : ∀ (k : Fin 1024) (f : Fin 512), part x2 up1 (ix4 (n0 := 1) (n1 := 1) 0 0 k f) = x2 (ix4 (n0 := 1) (n1 := 4) 0 1 k f) :=
    fun k f => part_up x2 1 _ k f
  have u22 : ∀ (k : Fin 1024) (f : Fin 512), part x2 up2 (ix4 (n0 := 1) (n1 := 1) 0 0 k f) = x2 (ix4 (n0 := 1) (n1 := 4) 0 2 k f) :=
    fun k f => part_up x2 2 _ k f
  have u23 : ∀ (k : Fin 1024) (f : Fin 512), part x2 up3 (ix4 (n0 := 1) (n1 := 1) 0 0 k f) = x2 (ix4 (n0 := 1) (n1 := 4) 0 3 k f) :=
    fun k f => part_up x2 3 _ k f
  have d0 : ∀ (f : Fin 512), part x3 dn0 (ix4 (n0 := 1) (n1 := 1) 0 0 f d) = x3 (ix4 (n0 := 1) (n1 := 4) 0 0 f d) :=
    fun f => part_dn x3 0 _ f d
  have d1 : ∀ (f : Fin 512), part x3 dn1 (ix4 (n0 := 1) (n1 := 1) 0 0 f d) = x3 (ix4 (n0 := 1) (n1 := 4) 0 1 f d) :=
    fun f => part_dn x3 1 _ f d
  have d2 : ∀ (f : Fin 512), part x3 dn2 (ix4 (n0 := 1) (n1 := 1) 0 0 f d) = x3 (ix4 (n0 := 1) (n1 := 4) 0 2 f d) :=
    fun f => part_dn x3 2 _ f d
  have d3 : ∀ (f : Fin 512), part x3 dn3 (ix4 (n0 := 1) (n1 := 1) 0 0 f d) = x3 (ix4 (n0 := 1) (n1 := 4) 0 3 f d) :=
    fun f => part_dn x3 3 _ f d
  have p0 := pick (fun l => number (rowsOf x0 t 4 l)) g hg 0 0#32 rfl
  have p1 := pick (fun l => number (rowsOf x0 t 4 l)) g hg 1 1#32 rfl
  have p2 := pick (fun l => number (rowsOf x0 t 4 l)) g hg 2 2#32 rfl
  have p3 := pick (fun l => number (rowsOf x0 t 4 l)) g hg 3 3#32 rfl
  unfold mixture hiddenUnit acc acc2
  rw [Fin.sum_univ_four]
  pointwise [k0_pay17, k0_pay16, k0_pay15, k0_pay14, k0_pay13, k0_pay12, k0_pay11]
  simp only [tokens_at, gateRow_at, u10, u11, u12, u13, u20, u21, u22, u23, d0, d1, d2, d3, p0, p1, p2, p3]
  rfl

end Cert.KernelIdeal.Experts

end
-- ==== Proof.PI.Value.lean ====
/-
What the result array holds after a run of the experts' call over the extended reals: every token's sum, laid out as eight rows of 128.
-/
module

public import proofs.«01_k».proof.Proof.PI.Sum
public import Idealize.ShloMosaic.Lib.Pipeline.ValueKit
public import Idealize.ShloMosaic.Lib.Pipeline.Covers

@[expose] public section

set_option maxRecDepth 16384

noncomputable section

namespace Cert.KernelIdeal.Experts

open Cert.KernelIdeal.Gen Cert.Experts
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The arguments as functions of their places. -/
def argX (c : Dev nD) (r : Fin 557056) (l : Fin 128) : BitVec 32 := (m ((c : Thread nD τ).loc main_arg0) : S557056x128.Idx → BitVec 32) (ix2 r l)
def argB (c : Dev nD) (b : Fin 68) : BitVec 32 := (m ((c : Thread nD τ).loc main_arg1) : S68.Idx → BitVec 32) (ix1 b)
def argU (c : Dev nD) : BitVec 32 := (m ((c : Thread nD τ).loc main_arg2) : S1.Idx → BitVec 32) (ix1 0)
def arg1 (c : Dev nD) (g e : Fin 4) (k : Fin 1024) (f : Fin 512) : EReal := (m ((c : Thread nD τ).loc main_arg3) : S4x4x1024x512.Idx → EReal) (ix4 g e k f)
def arg2 (c : Dev nD) (g e : Fin 4) (k : Fin 1024) (f : Fin 512) : EReal := (m ((c : Thread nD τ).loc main_arg4) : S4x4x1024x512.Idx → EReal) (ix4 g e k f)
def arg3 (c : Dev nD) (g e : Fin 4) (f : Fin 512) (d : Fin 1024) : EReal := (m ((c : Thread nD τ).loc main_arg5) : S4x4x512x1024.Idx → EReal) (ix4 g e f d)

/-- The result: what the experts give every token, eight rows of 128 features to a token. -/
def result (c : Dev nD) : Buf (Elt Ideal) ((c : Thread nD τ).loc main_v0) := fun (y : S557056x128.Idx) =>
  served (argX m c) (argB m c) (argU m c) (arg1 m c) (arg2 m c) (arg3 m c)
    ⟨(y 0).val / 8, by have h : (y 0).val < 557056 := (y 0).isLt; omega⟩
    ⟨128 * ((y 0).val % 8) + (y 1).val, by have h : (y 1).val < 128 := (y 1).isLt; omega⟩

/-- The grid's points are the blocks. -/
theorem coord_lt (t : Fin grid0.N) : (grid0.coords t 0).val < 68 := (grid0.coords t 0).isLt

theorem word_of_coord (n : ℕ) (h : n < 68) : (BitVec.ofNat 32 n).toNat = n := by
  rw [BitVec.toNat_ofNat]; omega

/-- The table's entry that a point reads. -/
theorem grpWord_eq (c : Dev nD) (t : Fin grid0.N) : grpWord c (grid0.coords t) (tbl m 0) = argB m c ⟨(grid0.coords t 0).val, coord_lt t⟩ := by
  have hc : c = 0 := Subsingleton.elim _ _
  subst hc
  refine congrArg (m ((0 : Dev nD).tc.loc main_arg1) : S68.Idx → BitVec 32) (funext fun a => Fin.ext ?_)
  match a with
  | ⟨0, _⟩ => exact (Nat.add_zero _).trans (word_of_coord _ (coord_lt t))

theorem nbWord_eq (c : Dev nD) : nbWord c (tbl m 1) = argU m c := by
  have hc : c = 0 := Subsingleton.elim _ _
  subst hc
  refine congrArg (m ((0 : Dev nD).tc.loc main_arg2) : S1.Idx → BitVec 32) (funext fun a => ?_)
  match a with
  | ⟨0, _⟩ => exact Subsingleton.elim (α := Fin 1) _ _

/-- A block of tokens, at a row and a lane. -/
theorem iblk0_at (hO : Ok m) (c : Dev nD) (t : Fin (cfgM m hO).N) (r : Fin 8192) (l : Fin 128) :
    (iblk m hO c 0 t : S8192x128.Idx → BitVec 32) (ix2 r l) = argX m c ⟨8192 * (grid0.coords t 0).val + r.val, by have := coord_lt t; omega⟩ l := by
  unfold iblk argX
  refine congrArg (m ((c : Thread nD τ).loc main_arg0) : S557056x128.Idx → BitVec 32) (funext fun a => Fin.ext ?_)
  have h := Pipeline.Window.rect_emb_val ((cfgM m hO).win 0) t (ix2 (n0 := 8192) (n1 := 128) r l)
  match a with
  | ⟨0, p⟩ =>
    refine (h ⟨0, p⟩).trans ?_
    show (BitVec.ofNat 32 (grid0.coords t 0).val).toNat * 8192 + r.val = 8192 * (grid0.coords t 0).val + r.val
    rw [word_of_coord _ (coord_lt t)]; omega
  | ⟨1, p⟩ =>
    refine (h ⟨1, p⟩).trans ?_
    show 0 * 128 + l.val = l.val
    omega

/-- The first weights' block, at an expert, a feature and a hidden unit. -/
theorem iblk1_at (hO : Ok m) (c : Dev nD) (t : Fin (cfgM m hO).N) (g : Fin 4) (hg : (grpWord c (grid0.coords t) (tbl m 0)).toNat = g.val)
    (e : Fin 4) (k : Fin 1024) (f : Fin 512) :
    (iblk m hO c 1 t : S1x4x1024x512.Idx → EReal) (ix4 0 e k f) = arg1 m c g e k f := by
  have hc : c = 0 := Subsingleton.elim _ _
  subst hc
  unfold iblk arg1
  refine congrArg (m (((0 : Dev nD) : Thread nD τ).loc main_arg3) : S4x4x1024x512.Idx → EReal) (funext fun a => Fin.ext ?_)
  have h := Pipeline.Window.rect_emb_val ((cfgM m hO).win 1) t (ix4 (n0 := 1) (n1 := 4) (n2 := 1024) (n3 := 512) 0 e k f)
  match a with
  | ⟨0, p⟩ =>
    refine (h ⟨0, p⟩).trans ?_
    show (grpWord 0 (grid0.coords t) (tbl m 0)).toNat * 1 + 0 = g.val
    rw [hg]; omega
  | ⟨1, p⟩ =>
    refine (h ⟨1, p⟩).trans ?_
    show 0 * 4 + e.val = e.val
    omega
  | ⟨2, p⟩ =>
    refine (h ⟨2, p⟩).trans ?_
    show 0 * 1024 + k.val = k.val
    omega
  | ⟨3, p⟩ =>
    refine (h ⟨3, p⟩).trans ?_
    show 0 * 512 + f.val = f.val
    omega

/-- The second weights' block, at an expert, a feature and a hidden unit. -/
theorem iblk2_at (hO : Ok m) (c : Dev nD) (t : Fin (cfgM m hO).N) (g : Fin 4) (hg : (grpWord c (grid0.coords t) (tbl m 0)).toNat = g.val)
    (e : Fin 4) (k : Fin 1024) (f : Fin 512) :
    (iblk m hO c 2 t : S1x4x1024x512.Idx → EReal) (ix4 0 e k f) = arg2 m c g e k f := by
  have hc : c = 0 := Subsingleton.elim _ _
  subst hc
  unfold iblk arg2
  refine congrArg (m (((0 : Dev nD) : Thread nD τ).loc main_arg4) : S4x4x1024x512.Idx → EReal) (funext fun a => Fin.ext ?_)
  have h := Pipeline.Window.rect_emb_val ((cfgM m hO).win 2) t (ix4 (n0 := 1) (n1 := 4) (n2 := 1024) (n3 := 512) 0 e k f)
  match a with
  | ⟨0, p⟩ =>
    refine (h ⟨0, p⟩).trans ?_
    show (grpWord 0 (grid0.coords t) (tbl m 0)).toNat * 1 + 0 = g.val
    rw [hg]; omega
  | ⟨1, p⟩ =>
    refine (h ⟨1, p⟩).trans ?_
    show 0 * 4 + e.val = e.val
    omega
  | ⟨2, p⟩ =>
    refine (h ⟨2, p⟩).trans ?_
    show 0 * 1024 + k.val = k.val
    omega
  | ⟨3, p⟩ =>
    refine (h ⟨3, p⟩).trans ?_
    show 0 * 512 + f.val = f.val
    omega

/-- The output weights' block, at an expert, a hidden unit and a feature. -/
theorem iblk3_at (hO : Ok m) (c : Dev nD) (t : Fin (cfgM m hO).N) (g : Fin 4) (hg : (grpWord c (grid0.coords t) (tbl m 0)).toNat = g.val)
    (e : Fin 4) (f : Fin 512) (d : Fin 1024) :
    (iblk m hO c 3 t : S1x4x512x1024.Idx → EReal) (ix4 0 e f d) = arg3 m c g e f d := by
  have hc : c = 0 := Subsingleton.elim _ _
  subst hc
  unfold iblk arg3
  refine congrArg (m (((0 : Dev nD) : Thread nD τ).loc main_arg5) : S4x4x512x1024.Idx → EReal) (funext fun a => Fin.ext ?_)
  have h := Pipeline.Window.rect_emb_val ((cfgM m hO).win 3) t (ix4 (n0 := 1) (n1 := 4) (n2 := 512) (n3 := 1024) 0 e f d)
  match a with
  | ⟨0, p⟩ =>
    refine (h ⟨0, p⟩).trans ?_
    show (grpWord 0 (grid0.coords t) (tbl m 0)).toNat * 1 + 0 = g.val
    rw [hg]; omega
  | ⟨1, p⟩ =>
    refine (h ⟨1, p⟩).trans ?_
    show 0 * 4 + e.val = e.val
    omega
  | ⟨2, p⟩ =>
    refine (h ⟨2, p⟩).trans ?_
    show 0 * 512 + f.val = f.val
    omega
  | ⟨3, p⟩ =>
    refine (h ⟨3, p⟩).trans ?_
    show 0 * 1024 + d.val = d.val
    omega

/-- A point's block is in use as the branch tests it. -/
theorem cond_inUse (c : Dev nD) (t : Fin grid0.N) (n : Fin 69632) (hn : n.val / 1024 = (grid0.coords t 0).val) :
    k0_cond1 (grid0.coords t) (nbWord c (tbl m 1)) = 1#1 ↔ inUse (argU m c) n := by
  rw [cond1_iff, nbWord_eq]
  unfold inUse
  rw [hn]

/-- A spread array, at the row and lane that hold a token and a feature. -/
theorem spread_at (A : FVec Ideal S1024x1024 .f32) (y : S8192x128.Idx) (s d : Fin 1024) (hs : (y 0).val / 8 = s.val)
    (hd : 128 * ((y 0).val % 8) + (y 1).val = d.val) : spread A y = A (ix2 (n0 := 1024) (n1 := 1024) s d) := by
  unfold spread
  exact congrArg A (congrArg₂ (ix2 (n0 := 1024) (n1 := 1024)) (Fin.ext hs) (Fin.ext hd))

/-- A point's block of the result, at a token and a feature. -/
theorem left_at (hO : Ok m) (c : Dev nD) (hB : ∀ b, (argB m c b).toNat < 4) (t : Fin (cfgM m hO).N) (s : Fin 1024) (d : Fin 1024)
    (y : S8192x128.Idx) (hs : (y 0).val / 8 = s.val) (hd : 128 * ((y 0).val % 8) + (y 1).val = d.val)
    (n : Fin 69632) (hn : n.val = 1024 * (grid0.coords t 0).val + s.val) :
    left m hO c t y = served (argX m c) (argB m c) (argU m c) (arg1 m c) (arg2 m c) (arg3 m c) n d := by
  have hn1 : n.val / 1024 = (grid0.coords t 0).val := by omega
  have hgr : groupOf (argB m c) n = ⟨(argB m c ⟨(grid0.coords t 0).val, coord_lt t⟩).toNat, hB _⟩ := by
    refine Fin.ext ?_
    show (argB m c ⟨n.val / 1024, _⟩).toNat % 4 = _
    have : (⟨n.val / 1024, by omega⟩ : Fin 68) = ⟨(grid0.coords t 0).val, coord_lt t⟩ := Fin.ext hn1
    rw [this]
    exact Nat.mod_eq_of_lt (hB _)
  have hw := grpWord_eq m c t
  unfold served
  by_cases hu : k0_cond1 (grid0.coords t) (nbWord c (tbl m 1)) = 1#1
  · rw [left_live m hO c t hu, if_pos ((cond_inUse m c t n hn1).1 hu)]
    have hrows : rowsOf (iblk m hO c 0 t) s = wordsOf (argX m c) n := by
      funext a l
      unfold rowsOf wordsOf
      rw [iblk0_at m hO c t]
      refine congrArg (fun r => argX m c r l) (Fin.ext ?_)
      show 8192 * (grid0.coords t 0).val + (8 * s.val + a.val) = 8 * n.val + a.val
      omega
    have h4 : BitVec.toNat (w := 32) (grpWord c (grid0.coords t) (tbl m 0)) < 4 := by rw [hw]; exact hB _
    have hgv : BitVec.toNat (w := 32) (grpWord c (grid0.coords t) (tbl m 0)) = (groupOf (argB m c) n).val := by rw [hw, hgr]
    refine (spread_at _ y s d hs hd).trans ((acc_at _ h4 _ _ _ _ s d).trans ?_)
    rw [hrows]
    have e1 : (fun (e : Fin 4) (k : Fin 1024) (f : Fin 512) => (iblk m hO c 1 t : S1x4x1024x512.Idx → EReal) (ix4 (n0 := 1) (n1 := 4) 0 e k f)) = arg1 m c (groupOf (argB m c) n) :=
      funext fun e => funext fun k => funext fun f => iblk1_at m hO c t _ hgv e k f
    have e2 : (fun (e : Fin 4) (k : Fin 1024) (f : Fin 512) => (iblk m hO c 2 t : S1x4x1024x512.Idx → EReal) (ix4 (n0 := 1) (n1 := 4) 0 e k f)) = arg2 m c (groupOf (argB m c) n) :=
      funext fun e => funext fun k => funext fun f => iblk2_at m hO c t _ hgv e k f
    have e3 : (fun (e : Fin 4) (f : Fin 512) (d : Fin 1024) => (iblk m hO c 3 t : S1x4x512x1024.Idx → EReal) (ix4 (n0 := 1) (n1 := 4) 0 e f d)) = arg3 m c (groupOf (argB m c) n) :=
      funext fun e => funext fun f => funext fun d => iblk3_at m hO c t _ hgv e f d
    have e0 : (fun e : Fin 4 => gate (wordsOf (argX m c) n) ⟨4 * BitVec.toNat (w := 32) (grpWord c (grid0.coords t) (tbl m 0)) + e.val, by omega⟩)
        = fun e : Fin 4 => gate (wordsOf (argX m c) n) ⟨4 * (groupOf (argB m c) n).val + e.val, by omega⟩ :=
      funext fun e => congrArg (gate (wordsOf (argX m c) n)) (Fin.ext (by show 4 * BitVec.toNat (w := 32) (grpWord c (grid0.coords t) (tbl m 0)) + e.val = _; rw [hgv]))
    exact (congr (congr (congr (congr (congrArg (mixture _) e0) e1) e2) e3) rfl)
  · rw [left_dead m hO c t hu, if_neg (fun h => hu ((cond_inUse m c t n hn1).2 h))]
    exact Ideal.ofBits_zero_f32

/-- The blocks of the result cover it: block `b` is the point's of coordinate `b`. -/
theorem covers (hO : Ok m) : ((cfgM m hO).win 4).Covers := by
  have b0 : ((cfgM m hO).win 4).nblk (show Fin 2 from 0) = 68 := (rfl : (557056 + 8192 - 1) / 8192 = 68)
  have b1 : ((cfgM m hO).win 4).nblk (show Fin 2 from 1) = 1 := (rfl : (128 + 128 - 1) / 128 = 1)
  refine Pipeline.Window.covers_of_indexMap_surj _ rfl (fun a => ?_) fun β => ?_
  · match a with
    | ⟨0, p⟩ => show 0 < 8192; decide
    | ⟨1, p⟩ => show 0 < 128; decide
  · have l0 : (β (show Fin 2 from 0)).val < 68 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- After the run the result array holds what the experts give every token. -/
theorem arr_eq (hO : Ok m) (c : Dev nD) (hB : ∀ b, (argB m c b).toNat < 4) : (dats m hO 0 c).arrAt 4 (cfgM m hO).N = result m c := by
  refine (dats m hO 0 c).arrAt_eq_of_covers 4 _ (covers m hO) fun t hf y => ?_
  have h := Pipeline.Window.rect_emb_val ((cfgM m hO).win 4) t y
  have h0 : ((((cfgM m hO).win 4).rect t).emb y (show Fin 2 from 0)).val = (BitVec.ofNat 32 (grid0.coords t 0).val).toNat * 8192 + (y (show Fin 2 from 0)).val := h (show Fin 2 from 0)
  have h1 : ((((cfgM m hO).win 4).rect t).emb y (show Fin 2 from 1)).val = 0 * 128 + (y (show Fin 2 from 1)).val := h (show Fin 2 from 1)
  have k0 : (y (show Fin 2 from 0)).val < 8192 := (y (show Fin 2 from 0)).isLt
  have k1 : (y (show Fin 2 from 1)).val < 128 := (y (show Fin 2 from 1)).isLt
  have hi := coord_lt t
  rw [word_of_coord _ hi] at h0
  rw [after4]
  refine (left_at m hO c hB t ⟨(y (show Fin 2 from 0)).val / 8, by omega⟩ ⟨128 * ((y (show Fin 2 from 0)).val % 8) + (y (show Fin 2 from 1)).val, by omega⟩
    y rfl rfl ⟨1024 * (grid0.coords t 0).val + (y (show Fin 2 from 0)).val / 8, by omega⟩ rfl).trans ?_
  unfold result
  refine congrArg₂ (served _ _ _ _ _ _) (Fin.ext ?_) (Fin.ext ?_)
  · show 1024 * (grid0.coords t 0).val + (y (show Fin 2 from 0)).val / 8 = ((((cfgM m hO).win 4).rect t).emb y (show Fin 2 from 0)).val / 8
    omega
  · show 128 * ((y (show Fin 2 from 0)).val % 8) + (y (show Fin 2 from 1)).val
      = 128 * (((((cfgM m hO).win 4).rect t).emb y (show Fin 2 from 0)).val % 8) + ((((cfgM m hO).win 4).rect t).emb y (show Fin 2 from 1)).val
    omega

end Cert.KernelIdeal.Experts

end
-- ==== Proof.RI.Value.lean ====
/-
The reference's result, read at a row and a lane: the same sum of the experts of the token's group.
-/
module

public import proofs.«01_k».proof.Proof.Gen.ReferenceIdeal.Run
public import proofs.«01_k».proof.Proof.Math
public import Idealize.ShloMosaic.Lib.Pointwise
public import Idealize.ShloMosaic.Lib.IdealHost
public import Idealize.ShloMosaic.Lib.WordCmp

@[expose] public section

set_option maxRecDepth 16384

noncomputable section

namespace Cert.ReferenceIdeal.Experts

open Cert.ReferenceIdeal Cert.ReferenceIdeal.Gen Cert.ReferenceIdeal.Value Cert.Experts
open Idealize.ShloMosaic Idealize.ShloMosaic.TcCoe Idealize.ShloMosaic.Tactic

/-- The tokens' features. -/
def feats (X : IVec S557056x128 32) : FVec Ideal S69632x1024 .f32 :=
  (concatenate S69632x1024 1 [⟨S69632x512, (bitcastToFloat (F := Ideal) .f32 (Host.shli (extractStridedSlice S69632x512 ![0, 0] (shapeCast _ X shapeCasts_S557056x128_S69632x1024) slices_S69632x1024_S69632x512_0_0) (broadcastInDim S69632x512 ![] bcast_S_S69632x512 (constantI S_ 32 16#32))))⟩, ⟨S69632x512, (bitcastToFloat (F := Ideal) .f32 (andi (extractStridedSlice S69632x512 ![0, 0] (shapeCast _ X shapeCasts_S557056x128_S69632x1024) slices_S69632x1024_S69632x512_0_0) (broadcastInDim S69632x512 ![] bcast_S_S69632x512 (constantI S_ 32 4294901760#32))))⟩] concatenates_S69632x512_S69632x512_S69632x1024_d1)

/-- The gates, those of the groups that do not serve a token zero. -/
def gates (X : IVec S557056x128 32) (B : IVec S68 32) (U : IVec S1 32) : FVec Ideal S69632x4x4 .f32 :=
  (select (broadcastInDim S69632x4x4 ![0, 1, 2] bcast_S69632x4x1_S69632x4x4_0_1_2 (broadcastInDim S69632x4x1 ![0, 1] bcast_S69632x4_S69632x4x1_0_1 (andi (cmpi .eq (broadcastInDim S69632x4 ![0, 1] bcast_S1x4_S69632x4_0_1 (broadcastInDim S1x4 ![1] bcast_S4_S1x4_1 (iotaInDim S4 32 0))) (broadcastInDim S69632x4 ![0, 1] bcast_S69632x1_S69632x4_0_1 (broadcastInDim S69632x1 ![0] bcast_S69632_S69632x1_0 (shapeCast _ (broadcastInDim S68x1024 ![0] bcast_S68_S68x1024_0 B) shapeCasts_S68x1024_S69632)))) (broadcastInDim S69632x4 ![0, 1] bcast_S69632x1_S69632x4_0_1 (broadcastInDim S69632x1 ![0] bcast_S69632_S69632x1_0 (shapeCast _ (broadcastInDim S68x1024 ![0] bcast_S68_S68x1024_0 (cmpi .slt (iotaInDim S68 32 0) (broadcastInDim S68 ![] bcast_S_S68 (shapeCast _ U shapeCasts_S1_S_)))) shapeCasts_S68x1024_S69632)))))) (shapeCast _ (bitcastToFloat (F := Ideal) .f32 (extractStridedSlice S69632x16 ![0, 512] (shapeCast _ X shapeCasts_S557056x128_S69632x1024) slices_S69632x1024_S69632x16_0_512)) shapeCasts_S69632x16_S69632x4x4) (broadcastInDim S69632x4x4 ![] bcast_S_S69632x4x4 (id (constant S_ .f32 0x00000000#32))))

/-- One of the two products of the hidden units. -/
def up (T : FVec Ideal S69632x1024 .f32) (w : FVec Ideal S4x4x1024x512 .bf16) : FVec Ideal S69632x4x4x512 .f32 :=
  Host.dotGeneral dot_S69632x1024_S4x4x1024x512_S69632x4x4x512_1_2_0_013_n_n none T (extf .f32 w bitsLt_bf16_f32)

/-- The hidden units from the two products. -/
def hid (A C : FVec Ideal S69632x4x4x512 .f32) : FVec Ideal S69632x4x4x512 .f32 :=
  (mulf (mulf A (Host.divf (broadcastInDim S69632x4x4x512 ![] bcast_S_S69632x4x4x512 (constant S_ .f32 0x3F800000#32)) (addf (broadcastInDim S69632x4x4x512 ![] bcast_S_S69632x4x4x512 (constant S_ .f32 0x3F800000#32)) (Host.exp (Host.negf A))))) C)

/-- The experts' products. -/
def down (H : FVec Ideal S69632x4x4x512 .f32) (w2 : FVec Ideal S4x4x512x1024 .bf16) : FVec Ideal S4x4x69632x1024 .f32 :=
  (Host.dotGeneral dot_S69632x4x4x512_S4x4x512x1024_S4x4x69632x1024_3_2_0_3_12_01 none H (extf .f32 w2 bitsLt_bf16_f32))

/-- The experts' products, weighted by the gates and summed. -/
def total (G : FVec Ideal S69632x4x4 .f32) (D : FVec Ideal S4x4x69632x1024 .f32) : FVec Ideal S69632x1024 .f32 :=
  (Host.reduceAdd (mulf (broadcastInDim S4x4x69632x1024 ![0, 1, 2, 3] bcast_S4x4x69632x1_S4x4x69632x1024_0_1_2_3 (broadcastInDim S4x4x69632x1 ![0, 1, 2] bcast_S4x4x69632_S4x4x69632x1_0_1_2 (transpose S4x4x69632 [1, 2, 0] G transposes_S69632x4x4_S4x4x69632_1_2_0))) D) (constant S_ .f32 0x00000000#32) reducesTo_S4x4x69632x1024_S69632x1024_d0_1 h_S_)

theorem feats_at (X : IVec S557056x128 32) (n : Fin 69632) (k : Fin 1024) :
    feats X (ix2 (n0 := 69632) (n1 := 1024) n k) = feature (wordsOf (fun r l => X (ix2 (n0 := 557056) (n1 := 128) r l)) n) k := by
  unfold feats
  pointwise
  unfold feature
  have e : ∀ (i j : ℕ) (hi hj) (s : Fin 8) (l : Fin 128), i = 8 * n.val + s.val → j = l.val →
      X (ix2 (n0 := 557056) (n1 := 128) ⟨i, hi⟩ ⟨j, hj⟩) = wordsOf (fun r l => X (ix2 (n0 := 557056) (n1 := 128) r l)) n s l := by
    intro i j hi hj s l h1 h2
    subst h1 h2
    rfl
  by_cases h : k.val < 512
  · rw [dif_pos h, if_pos h, ValueIdx.shli_host]
    exact congrArg lower (e _ _ _ _ ⟨k.val / 128 % 4, by omega⟩ ⟨k.val % 128, by omega⟩ (by show _ = 8 * n.val + k.val / 128 % 4; omega) rfl)
  · rw [dif_neg h, if_neg h]
    exact congrArg upper (e _ _ _ _ ⟨k.val / 128 % 4, by omega⟩ ⟨k.val % 128, by omega⟩ (by show _ = 8 * n.val + k.val / 128 % 4; omega)
      (by show (k.val - 512) % 128 = k.val % 128; omega))

open Classical in
theorem gates_at (X : IVec S557056x128 32) (B : IVec S68 32) (U : IVec S1 32) (hB : ∀ b : Fin 68, BitVec.toNat (w := 32) (B (ix1 b)) < 4)
    (n : Fin 69632) (g e : Fin 4) :
    gates X B U (ix3 (n0 := 69632) (n1 := 4) (n2 := 4) n g e)
      = if g = groupOf (fun b => B (ix1 b)) n ∧ inUse (U (ix1 0)) n then
          gate (wordsOf (fun r l => X (ix2 (n0 := 557056) (n1 := 128) r l)) n) ⟨4 * g.val + e.val, by omega⟩ else 0 := by
  unfold gates
  pointwise
  have hc : IntOp.andi (IntOp.cmpi .eq (BitVec.ofNat 32 g.val) (B (ix1 ⟨n.val / 1024, by omega⟩)))
      (IntOp.cmpi .slt (BitVec.ofNat 32 (n.val / 1024)) (U (ix1 0))) = 1#1 ↔ g = groupOf (fun b => B (ix1 b)) n ∧ inUse (U (ix1 0)) n := by
    rw [IntOp.andi_eq_one]
    refine and_congr ?_ ?_
    · have hb := hB ⟨n.val / 1024, by omega⟩
      rw [Fin.ext_iff]
      show IntOp.cmpi .eq (BitVec.ofNat 32 g.val) (B (ix1 ⟨n.val / 1024, by omega⟩)) = 1#1 ↔ g.val = BitVec.toNat (w := 32) (B (ix1 ⟨n.val / 1024, by omega⟩)) % 4
      rw [Nat.mod_eq_of_lt hb]
      generalize B (ix1 ⟨n.val / 1024, by omega⟩) = b at hb ⊢
      obtain ⟨v, hv, rfl⟩ : ∃ v, v < 4 ∧ b = BitVec.ofNat 32 v := ⟨b.toNat, hb, by simp⟩
      rw [WordCmp.cmpi_eq_ofNat_eq_one_iff (by omega) (by omega), BitVec.toNat_ofNat, Nat.mod_eq_of_lt (by omega)]
    · rw [WordCmp.cmpi_slt_eq, WordCmp.ofBool_decide_eq_one_iff]
      rfl
  have hx : Ideal.ofBits FTy.f32 (X (ix2 (n0 := 557056) (n1 := 128) ⟨n.val * 8 + (512 + (g.val * 4 + e.val)) / 128, by omega⟩ ⟨(512 + (g.val * 4 + e.val)) % 128, by omega⟩))
      = gate (wordsOf (fun r l => X (ix2 (n0 := 557056) (n1 := 128) r l)) n) ⟨4 * g.val + e.val, by omega⟩ := by
    unfold gate number wordsOf
    refine congrArg (fun i => Ideal.ofBits FTy.f32 (X i)) (congrArg₂ (ix2 (n0 := 557056) (n1 := 128)) (Fin.ext ?_) (Fin.ext ?_))
    · show n.val * 8 + (512 + (g.val * 4 + e.val)) / 128 = 8 * n.val + 4
      omega
    · show (512 + (g.val * 4 + e.val)) % 128 = 4 * g.val + e.val
      omega
  have h0 : id (constant (F := Ideal) S_ FTy.f32 0#32) ix0 = (0 : EReal) := Ideal.ofBits_zero_f32
  rw [hx, h0]
  unfold Scalar.select
  by_cases h : g = groupOf (fun b => B (ix1 b)) n ∧ inUse (U (ix1 0)) n
  · exact (if_pos (hc.2 h)).trans (if_pos h).symm
  · exact (if_neg (fun hh => h (hc.1 hh))).trans (if_neg h).symm

theorem up_at (T : FVec Ideal S69632x1024 .f32) (w : FVec Ideal S4x4x1024x512 .bf16) (n : Fin 69632) (g e : Fin 4) (f : Fin 512) :
    up T w (ix4 (n0 := 69632) (n1 := 4) (n2 := 4) (n3 := 512) n g e f) = ∑ k : Fin 1024, T (ix2 (n0 := 69632) (n1 := 1024) n k) * w (ix4 (n0 := 4) (n1 := 4) (n2 := 1024) (n3 := 512) g e k f) := by
  unfold up
  pointwise

theorem hid_at (A C : FVec Ideal S69632x4x4x512 .f32) (y) : hid A C y = A y * Ideal.logistic (A y) * C y := by
  unfold hid
  pointwise
  rfl

theorem down_at (H : FVec Ideal S69632x4x4x512 .f32) (w : FVec Ideal S4x4x512x1024 .bf16) (n : Fin 69632) (g e : Fin 4) (d : Fin 1024) :
    down H w (ix4 (n0 := 4) (n1 := 4) (n2 := 69632) (n3 := 1024) g e n d) = ∑ f : Fin 512, H (ix4 (n0 := 69632) (n1 := 4) (n2 := 4) (n3 := 512) n g e f) * w (ix4 (n0 := 4) (n1 := 4) (n2 := 512) (n3 := 1024) g e f d) := by
  unfold down
  pointwise

/-- The places of the experts' products that the sum over groups and experts takes to a token and a feature. -/
theorem fibre (n : Fin 69632) (d : Fin 1024) (i : S4x4x69632x1024.Idx) :
    reducesTo_S4x4x69632x1024_S69632x1024_d0_1.drop i = ix2 (n0 := 69632) (n1 := 1024) n d
      ↔ ∃ k : Fin 4 × Fin 4, ix4 (n0 := 4) (n1 := 4) (n2 := 69632) (n3 := 1024) k.1 k.2 n d = i := by
  have v0 : ∀ i : S4x4x69632x1024.Idx, (reducesTo_S4x4x69632x1024_S69632x1024_d0_1.drop i 0).val = (i 2).val := fun i =>
    Shape.ReducesTo.drop_apply_val_of_eq _ i 0 2
  have v1 : ∀ i : S4x4x69632x1024.Idx, (reducesTo_S4x4x69632x1024_S69632x1024_d0_1.drop i 1).val = (i 3).val := fun i =>
    Shape.ReducesTo.drop_apply_val_of_eq _ i 1 3
  constructor
  · intro h
    refine ⟨(i 0, i 1), funext fun a => Fin.ext ?_⟩
    match a with
    | ⟨0, _⟩ => rfl
    | ⟨1, _⟩ => rfl
    | ⟨2, _⟩ => exact (congrArg Fin.val (congrFun h 0)).symm.trans (v0 i)
    | ⟨3, _⟩ => exact (congrArg Fin.val (congrFun h 1)).symm.trans (v1 i)
  · rintro ⟨k, rfl⟩
    refine funext fun b => Fin.ext ?_
    match b with
    | ⟨0, _⟩ => exact v0 _
    | ⟨1, _⟩ => exact v1 _

theorem total_at (G : FVec Ideal S69632x4x4 .f32) (D : FVec Ideal S4x4x69632x1024 .f32) (n : Fin 69632) (d : Fin 1024) :
    total G D (ix2 (n0 := 69632) (n1 := 1024) n d) = ∑ g : Fin 4, ∑ e : Fin 4, G (ix3 (n0 := 69632) (n1 := 4) (n2 := 4) n g e) * D (ix4 (n0 := 4) (n1 := 4) (n2 := 69632) (n3 := 1024) g e n d) := by
  unfold total
  have key := Finset.sum_filter_eq_sum_of_fiber (M := EReal) (fun i : S4x4x69632x1024.Idx => reducesTo_S4x4x69632x1024_S69632x1024_d0_1.drop i = ix2 (n0 := 69632) (n1 := 1024) n d)
    (fun k : Fin 4 × Fin 4 => ix4 (n0 := 4) (n1 := 4) (n2 := 69632) (n3 := 1024) k.1 k.2 n d)
    (fun a b e => Prod.ext (congrFun e 0) (congrFun e 1)) (fibre n d)
    (mulf (broadcastInDim S4x4x69632x1024 ![0, 1, 2, 3] bcast_S4x4x69632x1_S4x4x69632x1024_0_1_2_3 (broadcastInDim S4x4x69632x1 ![0, 1, 2] bcast_S4x4x69632_S4x4x69632x1_0_1_2 (transpose S4x4x69632 [1, 2, 0] G transposes_S69632x4x4_S4x4x69632_1_2_0))) D)
  show Ideal.hostReduceAdd _ _ (Ideal.ofBits FTy.f32 0#32) (ix2 n d) = _
  rw [Ideal.ofBits_zero_f32]
  unfold Ideal.hostReduceAdd
  rw [zero_add, key, Fintype.sum_prod_type]
  pointwise

/-- The weighted sum at a token and a feature, with the groups of the table in range and the gates probabilities. -/
theorem total_served (X : IVec S557056x128 32) (B : IVec S68 32) (U : IVec S1 32) (w1 w3 : FVec Ideal S4x4x1024x512 .bf16) (w2 : FVec Ideal S4x4x512x1024 .bf16)
    (hb : ∀ b : Fin 68, BitVec.toNat (w := 32) (B (ix1 b)) < 4)
    (hg : ∀ (n : Fin 69632) (j : Fin 16), 0 ≤ gate (wordsOf (fun r l => X (ix2 r l)) n) j ∧ gate (wordsOf (fun r l => X (ix2 r l)) n) j ≤ 1)
    (n : Fin 69632) (d : Fin 1024) :
    total (gates X B U) (down (hid (up (feats X) w1) (up (feats X) w3)) w2) (ix2 (n0 := 69632) (n1 := 1024) n d)
      = served (fun r l => X (ix2 r l)) (fun b => B (ix1 b)) (U (ix1 0)) (fun g e k f => w1 (ix4 g e k f)) (fun g e k f => w3 (ix4 g e k f))
          (fun g e f d => w2 (ix4 g e f d)) n d := by
  classical
  rw [total_at]
  simp only [gates_at X B U hb, down_at, hid_at, up_at, feats_at]
  unfold served
  by_cases hu : inUse (U (ix1 0)) n
  · rw [if_pos hu]
    refine (chosen_sum (groupOf (fun b => B (ix1 b)) n) _ hu (fun g e => gate (wordsOf (fun r l => X (ix2 (n0 := 557056) (n1 := 128) r l)) n) ⟨4 * g.val + e.val, by omega⟩) _).trans ?_
    unfold mixture
    refine Finset.sum_congr rfl fun e _ => ?_
    exact gate_sum _ (hg n _).1 (ne_of_lt (lt_of_le_of_lt (hg n _).2 (EReal.coe_lt_top 1))) _ _
  · rw [if_neg hu]
    refine Finset.sum_eq_zero fun g _ => Finset.sum_eq_zero fun e _ => ?_
    rw [if_neg (fun h => hu h.2), zero_mul]

variable (m : (ℓ : Loc nD τ sig) → Buf (Elt Ideal) ℓ)

theorem res_eq (c : Dev nD) : (res_main_v45 m c : S557056x128.Idx → EReal)
    = shapeCast S557056x128 (total (gates (m ((c.tc : Thread nD τ).loc main_arg0)) (m ((c.tc : Thread nD τ).loc main_arg1)) (m ((c.tc : Thread nD τ).loc main_arg2)))
      (down (hid (up (feats (m ((c.tc : Thread nD τ).loc main_arg0))) (m ((c.tc : Thread nD τ).loc main_arg3))) (up (feats (m ((c.tc : Thread nD τ).loc main_arg0))) (m ((c.tc : Thread nD τ).loc main_arg4))))
        (m ((c.tc : Thread nD τ).loc main_arg5)))) shapeCasts_S69632x1024_S557056x128 := by
  unfold res_main_v45 total gates down hid up feats
  rfl

/-- The reference's result at a row and a lane, with the groups of the table in range and the gates probabilities. -/
theorem res_at (c : Dev nD) (X : IVec S557056x128 32) (B : IVec S68 32) (U : IVec S1 32) (w1 w3 : FVec Ideal S4x4x1024x512 .bf16) (w2 : FVec Ideal S4x4x512x1024 .bf16)
    (hX : m ((c.tc : Thread nD τ).loc main_arg0) = X) (hB : m ((c.tc : Thread nD τ).loc main_arg1) = B) (hU : m ((c.tc : Thread nD τ).loc main_arg2) = U)
    (h1 : m ((c.tc : Thread nD τ).loc main_arg3) = w1) (h3 : m ((c.tc : Thread nD τ).loc main_arg4) = w3) (h2 : m ((c.tc : Thread nD τ).loc main_arg5) = w2)
    (hb : ∀ b : Fin 68, BitVec.toNat (w := 32) (B (ix1 b)) < 4)
    (hg : ∀ (n : Fin 69632) (j : Fin 16), 0 ≤ gate (wordsOf (fun r l => X (ix2 r l)) n) j ∧ gate (wordsOf (fun r l => X (ix2 r l)) n) j ≤ 1)
    (y : S557056x128.Idx) :
    (res_main_v45 m c : S557056x128.Idx → EReal) y
      = served (fun r l => X (ix2 r l)) (fun b => B (ix1 b)) (U (ix1 0)) (fun g e k f => w1 (ix4 g e k f)) (fun g e k f => w3 (ix4 g e k f))
          (fun g e f d => w2 (ix4 g e f d)) ⟨(y 0).val / 8, by have h : (y 0).val < 557056 := (y 0).isLt; omega⟩
          ⟨128 * ((y 0).val % 8) + (y 1).val, by have h : (y 1).val < 128 := (y 1).isLt; omega⟩ := by
  have q0 : (y 0).val < 557056 := (y 0).isLt
  have q1 : (y 1).val < 128 := (y 1).isLt
  rw [res_eq, hX, hB, hU, h1, h3, h2]
  have hy : shapeCast S557056x128 (total (gates X B U) (down (hid (up (feats X) w1) (up (feats X) w3)) w2)) shapeCasts_S69632x1024_S557056x128 y
      = total (gates X B U) (down (hid (up (feats X) w1) (up (feats X) w3)) w2) (ix2 (n0 := 69632) (n1 := 1024) ⟨(y 0).val / 8, by omega⟩ ⟨128 * ((y 0).val % 8) + (y 1).val, by omega⟩) := by
    pointwise
    refine congrArg _ (congrArg₂ (ix2 (n0 := 69632) (n1 := 1024)) (Fin.ext ?_) (Fin.ext ?_))
    · rfl
    · show (y 0).val % 8 * 128 + (y 1).val = 128 * ((y 0).val % 8) + (y 1).val
      omega
  exact hy.trans (total_served X B U w1 w3 w2 hb hg _ _)

end Cert.ReferenceIdeal.Experts

end
-- ==== Proof.Pre.lean ====
/-
The preconditions, read entry by entry: every group of the table is below four, and every gate is from zero to one.
-/
module

public import proofs.«01_k».proof.Proof.PI.Tables
public import proofs.«01_k».proof.Proof.P.Tables
public import proofs.«01_k».proof.Proof.Math
public import proofs.«01_k».proof.Defs
public import proofs.«01_k».proof.Proof.Gen.Pre_groups
public import proofs.«01_k».proof.Proof.Gen.Pre_pre
public import Idealize.ShloMosaic.Lib.Pointwise

@[expose] public section

set_option maxRecDepth 16384

noncomputable section

namespace Cert.Experts

open Idealize.ShloMosaic Idealize.ShloMosaic.Tactic Idealize.ShloMosaic.TcCoe Cert.Pre_pre

attribute [local instance] Cert.Pre_groups.Gen.facts Cert.Pre_pre.Gen.facts

variable {F : FTy → Type} [FloatOps F]

/-- `groups` at an entry of the table. -/
theorem groups_at (a0 : IVec S557056x128 32) (a1 : IVec S68 32) (a2 : IVec S1 32) (a3 a4 : FVec F S4x4x1024x512 .bf16) (a5 : FVec F S4x4x512x1024 .bf16)
    (h : Cert.Pre_groups.fn (F := F) a0 a1 a2 a3 a4 a5 = fun _ => 1#1) (y : S68.Idx) : BitVec.toNat (w := 32) (a1 y) < 4 :=
  Cert.Kernel.Experts.group_word _ (congrFun h y)

/-- A test of a truth value is one exactly where it is true. -/
theorem ofBool_decide_one (p : Prop) [Decidable p] : BitVec.ofBool (decide p) = 1#1 ↔ p := by
  by_cases h : p <;> simp [h]

/-- `pre` at an entry of the table. -/
theorem pre_group (a0 : IVec S557056x128 32) (a1 : IVec S68 32) (a2 : IVec S1 32) (a3 a4 : FVec Ideal S4x4x1024x512 .bf16) (a5 : FVec Ideal S4x4x512x1024 .bf16)
    (h : Cert.Pre_pre.fn (F := Ideal) a0 a1 a2 a3 a4 a5 = fun _ => 1#1) (b : Fin 68) : BitVec.toNat (w := 32) (a1 (ix1 b)) < 4 := by
  have h1 := congrFun h (ix3 b 0 0)
  pointwise [Cert.Pre_pre.fn] at h1
  rw [IntOp.andi_eq_one, IntOp.andi_eq_one] at h1
  exact Cert.Kernel.Experts.group_word _ h1.1.1

/-- `pre` at a gate. -/
theorem pre_gate (a0 : IVec S557056x128 32) (a1 : IVec S68 32) (a2 : IVec S1 32) (a3 a4 : FVec Ideal S4x4x1024x512 .bf16) (a5 : FVec Ideal S4x4x512x1024 .bf16)
    (h : Cert.Pre_pre.fn (F := Ideal) a0 a1 a2 a3 a4 a5 = fun _ => 1#1) (n : Fin 69632) (j : Fin 16) :
    0 ≤ gate (wordsOf (fun r l => a0 (ix2 r l)) n) j ∧ gate (wordsOf (fun r l => a0 (ix2 r l)) n) j ≤ 1 := by
  have h1 := congrFun h (ix3 ⟨n.val / 1024, by omega⟩ ⟨n.val % 1024, by omega⟩ j)
  pointwise [Cert.Pre_pre.fn] at h1
  rw [IntOp.andi_eq_one, IntOp.andi_eq_one, ofBool_decide_one, ofBool_decide_one] at h1
  have e : gate (wordsOf (fun r l => a0 (ix2 r l)) n) j = Ideal.ofBits FTy.f32 (a0 (ix2 (n0 := 557056) (n1 := 128) ⟨n.val * 8 + (512 + j.val) / 128, by omega⟩ ⟨(512 + j.val) % 128, by omega⟩)) := by
    unfold gate number wordsOf
    refine congrArg (fun i => Ideal.ofBits FTy.f32 (a0 i)) (congrArg₂ (ix2 (n0 := 557056) (n1 := 128)) (Fin.ext ?_) (Fin.ext ?_))
    · show 8 * n.val + 4 = n.val * 8 + (512 + j.val) / 128
      omega
    · show j.val = (512 + j.val) % 128
      omega
  rw [e]
  exact ⟨h1.1.2, h1.2⟩

end Cert.Experts

end
-- ==== Proof.Norm.lean ====
/-
The norm of a row that several calls begin with: every entry times the reciprocal root of the mean square and the gain.
-/
module

public import Idealize.ShloMosaic.PureOps.Ideal

@[expose] public section

noncomputable section

namespace Cert.Layer

open Idealize.ShloMosaic

/-- The row `x` over its root mean square, times the gain `g`, at entry `k`; 1024 and the small constant under the root are the program's own words. -/
def normed (x g : Fin 1024 → EReal) (k : Fin 1024) : EReal :=
  x k * Ideal.rsqrt (Ideal.div (∑ j, x j * x j) (Ideal.ofBits .f32 0x44800000#32) + Ideal.ofBits .f32 0x358637BD#32) * g k

theorem normed_congr {x x' g g' : Fin 1024 → EReal} (hx : ∀ k, x k = x' k) (hg : ∀ k, g k = g' k) (k : Fin 1024) : normed x g k = normed x' g' k := by
  rw [funext hx, funext hg]

end Cert.Layer

end
-- ==== Proof.K2.Math.lean ====
/-
The arithmetic behind the cross-attention: of finite gains, weights and keys the scores are finite, whatever the tokens; the scale goes
through a score's sum; and a softmax's denominator, not zero, goes through the weighted sum of the values.
-/
module

public import proofs.«01_k».proof.Proof.Norm
public import proofs.«01_k».proof.Proof.Math
public import Idealize.ShloMosaic.Lib.IdealHost
public import Mathlib.Data.EReal.Inv

@[expose] public section

noncomputable section

namespace Cert.Attend

open Idealize.ShloMosaic Cert.Layer

/-- An extended real that is a real. -/
def IsReal (x : EReal) : Prop := x ≠ ⊥ ∧ x ≠ ⊤

theorem isReal_coe (r : ℝ) : IsReal (r : EReal) := ⟨EReal.coe_ne_bot r, EReal.coe_ne_top r⟩

theorem IsReal.eq {x : EReal} (h : IsReal x) : ∃ r : ℝ, x = r := ⟨x.toReal, (EReal.coe_toReal h.2 h.1).symm⟩

theorem IsReal.mul {x y : EReal} (hx : IsReal x) (hy : IsReal y) : IsReal (x * y) := by
  obtain ⟨a, rfl⟩ := hx.eq
  obtain ⟨b, rfl⟩ := hy.eq
  exact EReal.coe_mul a b ▸ isReal_coe (a * b)

theorem IsReal.add {x y : EReal} (hx : IsReal x) (hy : IsReal y) : IsReal (x + y) := by
  obtain ⟨a, rfl⟩ := hx.eq
  obtain ⟨b, rfl⟩ := hy.eq
  exact EReal.coe_add a b ▸ isReal_coe (a + b)

theorem isReal_sum {n : ℕ} {f : Fin n → EReal} (h : ∀ k, IsReal (f k)) : IsReal (∑ k, f k) :=
  Finset.sum_induction f IsReal (fun _ _ => IsReal.add) (isReal_coe 0) fun k _ => h k

theorem word_1024 : Ideal.ofBits .f32 0x44800000#32 = ((1024 : ℝ) : EReal) := by
  simp [Ideal.ofBits, Ideal.ieee, -EReal.coe_mul]
  norm_num

theorem word_sixteenth : Ideal.ofBits .f32 0x3D800000#32 = (((1 : ℝ) / 16 : ℝ) : EReal) := by
  simp [Ideal.ofBits, Ideal.ieee, -EReal.coe_mul]
  norm_num

/-- The small constant under the root is a positive real. -/
theorem word_small : ∃ r : ℝ, 0 < r ∧ Ideal.ofBits .f32 0x358637BD#32 = (r : EReal) := by
  refine ⟨(8796093 : ℝ) * 2 ^ (-43 : ℤ), by positivity, ?_⟩
  simp [Ideal.ofBits, Ideal.ieee, -EReal.coe_mul]

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

theorem half_bot : Ideal.ofBits .bf16 0xFF80#16 = ⊥ := by
  simp [Ideal.ofBits, Ideal.ieee]

theorem half_top : Ideal.ofBits .bf16 0x7F80#16 = ⊤ := by
  simp [Ideal.ofBits, Ideal.ieee]

theorem mul_self_nonneg' (x : EReal) : 0 ≤ x * x := by
  induction x with
  | bot => simp
  | top => simp
  | coe r => rw [← EReal.coe_mul]; exact EReal.coe_nonneg.2 (mul_self_nonneg r)

/-- The norm of a row is finite when the gain is: an infinite entry makes the mean square infinite, and its reciprocal root zero. -/
theorem normed_real (x g : Fin 1024 → EReal) (hg : ∀ k, IsReal (g k)) (k : Fin 1024) : IsReal (normed x g k) := by
  unfold normed
  refine IsReal.mul ?_ (hg k)
  obtain ⟨ε, hε, e⟩ := word_small
  rw [e, word_1024]
  have h0 : (0 : EReal) ≤ ∑ j, x j * x j := Finset.sum_nonneg fun j _ => mul_self_nonneg' (x j)
  have hd : Ideal.div (∑ j, x j * x j) ((1024 : ℝ) : EReal) = (∑ j, x j * x j) * (((1024 : ℝ)⁻¹ : ℝ) : EReal) := by
    unfold Ideal.div
    rw [if_neg (by simp), EReal.coe_inv]
  rw [hd]
  by_cases ht : ∑ j, x j * x j = ⊤
  · rw [ht, EReal.top_mul_coe_of_pos (by norm_num), EReal.top_add_coe]
    show IsReal (x k * 0)
    rw [mul_zero]
    exact isReal_coe 0
  · have hb : ∑ j, x j * x j ≠ ⊥ := fun h => by rw [h] at h0; exact absurd h0 (by simp)
    have hk : x k * x k ≠ ⊤ := fun h => ht (top_le_iff.1 (h ▸ Finset.single_le_sum (f := fun j => x j * x j) (fun j _ => mul_self_nonneg' (x j)) (Finset.mem_univ k)))
    have hx : IsReal (x k) := ⟨fun h => hk (by rw [h]; simp), fun h => hk (by rw [h]; simp)⟩
    refine hx.mul ?_
    obtain ⟨s, hs⟩ := IsReal.eq ⟨hb, ht⟩
    rw [hs] at h0 ⊢
    have hs0 : 0 ≤ s := EReal.coe_nonneg.1 h0
    rw [← EReal.coe_mul, ← EReal.coe_add]
    have hp : 0 < s * 1024⁻¹ + ε := by positivity
    show IsReal (if s * 1024⁻¹ + ε < 0 then ⊥ else if s * 1024⁻¹ + ε = 0 then ⊤ else ((Real.sqrt (s * 1024⁻¹ + ε))⁻¹ : ℝ))
    rw [if_neg hp.le.not_gt, if_neg hp.ne']
    exact isReal_coe _

/-- The scale goes through a score's sum. -/
theorem scale_sum {n : ℕ} (q k : Fin n → EReal) :
    ∑ f, (q f * Ideal.ofBits .f32 0x3D800000#32) * k f = (∑ f, q f * k f) * Ideal.ofBits .f32 0x3D800000#32 := by
  rw [mul_comm _ (Ideal.ofBits .f32 0x3D800000#32)]
  refine (Cert.Experts.gate_sum _ ?_ ?_ q k).symm
  · rw [word_sixteenth]; exact EReal.coe_nonneg.2 (by norm_num)
  · rw [word_sixteenth]; exact EReal.coe_ne_top _

theorem exp_nonneg' (x : EReal) : 0 ≤ Ideal.exp x := by
  induction x with
  | bot => exact le_refl _
  | top => exact le_top
  | coe r => exact EReal.coe_nonneg.2 (Real.exp_pos r).le

/-- The largest of a row of scores, as both programs find it: from the least word up. -/
def largest {n : ℕ} (s : Fin n → EReal) : EReal := Finset.fold max (Ideal.ofBits .f32 0xFF800000#32) s Finset.univ

theorem largest_ne_top {n : ℕ} (s : Fin n → EReal) (h : ∀ m, s m ≠ ⊤) : largest s ≠ ⊤ := by
  refine ne_of_lt ((Finset.fold_max_lt ⊤).2 ⟨?_, fun m _ => lt_top_iff_ne_top.2 (h m)⟩)
  rw [word_bot]; exact bot_lt_top

/-- A row of scores' weights, not yet divided by their sum. -/
def weight {n : ℕ} (s : Fin n → EReal) (m : Fin n) : EReal := Ideal.exp (s m - largest s)

/-- Of finite scores the weights do not add up to zero. -/
theorem total_ne_zero {n : ℕ} (hn : 0 < n) (s : Fin n → EReal) (h : ∀ m, IsReal (s m)) : ∑ m, weight s m ≠ 0 := by
  intro hz
  have h1 := (Finset.sum_eq_zero_iff_of_nonneg (fun m _ => exp_nonneg' _)).1 hz ⟨0, hn⟩ (Finset.mem_univ _)
  have hl := largest_ne_top s fun m => (h m).2
  obtain ⟨a, ha⟩ := (h ⟨0, hn⟩).eq
  unfold weight at h1
  rw [ha] at h1
  generalize largest s = l at h1 hl
  induction l with
  | bot => exact absurd h1 (by rw [EReal.coe_sub_bot]; exact EReal.top_ne_zero)
  | top => exact hl rfl
  | coe b =>
    rw [← EReal.coe_sub] at h1
    exact (Real.exp_pos (a - b)).ne' (EReal.coe_eq_zero.1 h1)

/-- The weighted sum of the values, divided at the end, is the sum of the values by the divided weights. -/
theorem soft_sum {n : ℕ} (hn : 0 < n) (s v : Fin n → EReal) (h : ∀ m, IsReal (s m)) :
    (∑ m, weight s m * v m) * Ideal.div 1 (∑ m, weight s m) = ∑ m, v m * Ideal.div (weight s m) (∑ m, weight s m) := by
  have hz := total_ne_zero hn s h
  have h0 : 0 ≤ ∑ m, weight s m := Finset.sum_nonneg fun m _ => exp_nonneg' _
  generalize ∑ m, weight s m = l at hz h0
  unfold Ideal.div
  rw [if_neg hz, one_mul, mul_comm]
  refine (Cert.Experts.gate_sum l⁻¹ (EReal.inv_nonneg_of_nonneg h0) ?_ (weight s) v).trans (Finset.sum_congr rfl fun m _ => ?_)
  · induction l with
    | bot => simp
    | top => simp
    | coe r => rw [← EReal.coe_inv]; exact EReal.coe_ne_top _
  · rw [if_neg hz, mul_comm]

/-- One head's result at one feature: of the head's query `q`, the keys `k` and the feature's values `v`. -/
def headOf (q : Fin 256 → EReal) (k : Fin 256 → Fin 256 → EReal) (v : Fin 256 → EReal) : EReal :=
  (∑ m, weight (fun m => ∑ f, q f * k m f) m * v m) * Ideal.div 1 (∑ m, weight (fun m => ∑ f, q f * k m f) m)

/-- The same with the scores scaled rather than the query, and every weight divided before the sum. -/
def softHead (q : Fin 256 → EReal) (k : Fin 256 → Fin 256 → EReal) (v : Fin 256 → EReal) : EReal :=
  ∑ m, v m * Ideal.div (weight (fun m => (∑ f, q f * k m f) * Ideal.ofBits .f32 0x3D800000#32) m)
    (∑ m, weight (fun m => (∑ f, q f * k m f) * Ideal.ofBits .f32 0x3D800000#32) m)

theorem head_eq (q : Fin 256 → EReal) (k : Fin 256 → Fin 256 → EReal) (v : Fin 256 → EReal) (hq : ∀ f, IsReal (q f)) (hk : ∀ m f, IsReal (k m f)) :
    headOf (fun f => q f * Ideal.ofBits .f32 0x3D800000#32) k v = softHead q k v := by
  unfold headOf softHead
  rw [funext fun m => scale_sum q (k m)]
  refine soft_sum (by norm_num) _ v fun m => (isReal_sum fun f => (hq f).mul (hk m f)).mul ?_
  rw [word_sixteenth]
  exact isReal_coe _

/-- The query of a row at a column, not yet scaled. -/
def query (x g : Fin 1024 → EReal) (w : Fin 1024 → Fin 1024 → EReal) (k : Fin 1024) : EReal := ∑ j, normed x g j * w j k

theorem query_real (x g : Fin 1024 → EReal) (w : Fin 1024 → Fin 1024 → EReal) (hg : ∀ k, IsReal (g k)) (hw : ∀ j k, IsReal (w j k)) (k : Fin 1024) :
    IsReal (query x g w k) := isReal_sum fun j => (normed_real x g hg j).mul (hw j k)

/-- A token after the attention: the token, plus the four heads' results side by side times the output weights. -/
def attended (x g : Fin 1024 → EReal) (w : Fin 1024 → Fin 1024 → EReal) (kv : Fin 256 → Fin 2048 → EReal) (wo : Fin 1024 → Fin 1024 → EReal)
    (d : Fin 1024) : EReal :=
  x d + ∑ c : Fin 1024, softHead (fun f => query x g w ⟨256 * (c.val / 256) + f.val, by omega⟩)
    (fun m f => kv m ⟨256 * (c.val / 256) + f.val, by omega⟩) (fun m => kv m ⟨1024 + c.val, by omega⟩) * wo c d

end Cert.Attend

end
-- ==== Proof.K2.Body.lean ====
/-
What the body of the cross-attention computes of its blocks: four heads, then the output projection of the four side by side.
-/
module

public import proofs.«01_k».proof.Defs
public import proofs.«01_k».proof.Proof.Gen.Kernel2Ideal.Value
public import proofs.«01_k».proof.Proof.K2.Math
public import Idealize.ShloMosaic.Lib.ValueIdx
public import Idealize.ShloMosaic.Lib.Pointwise
public import Idealize.ShloMosaic.Lib.Pipeline.ValueKit

@[expose] public section

set_option maxRecDepth 16384

noncomputable section

namespace Cert.Kernel2Ideal.Project

open Cert.Kernel2Ideal Cert.Kernel2Ideal.Gen
open Idealize.ShloMosaic Idealize.ShloMosaic.TcCoe Idealize.ShloMosaic.Tactic
open Cert.Layer Cert.Attend

/-- The scaled query. -/
theorem pay2_at (v0 : Vec Ideal S512x1024 .f32) (v1 : Vec Ideal S1x1024 .f32) (v16 : Vec Ideal S1024x1024 .bf16) (r : Fin 512) (d : Fin 1024) :
    k0_pay2 (F := Ideal) v0 v1 v16 (ix2 (n0 := 512) (n1 := 1024) r d)
      = query (fun j => v0 (ix2 (n0 := 512) (n1 := 1024) r j)) (fun j => v1 (ix2 (n0 := 1) (n1 := 1024) 0 j)) (fun j k => v16 (ix2 (n0 := 1024) (n1 := 1024) j k)) d
        * Ideal.ofBits .f32 0x3D800000#32 := by
  unfold query normed
  pointwise [k0_pay2]

/-- The first head. -/
theorem pay3_at (v0 : Vec Ideal S512x1024 .f32) (v1 : Vec Ideal S1x1024 .f32) (v16 : Vec Ideal S1024x1024 .bf16) (v21 : Vec Ideal S256x2048 .bf16)
    (r : Fin 512) (d : Fin 256) :
    k0_pay3 (F := Ideal) v0 v1 v16 v21 (ix2 (n0 := 512) (n1 := 256) r d)
      = headOf (fun f => k0_pay2 (F := Ideal) v0 v1 v16 (ix2 (n0 := 512) (n1 := 1024) r ⟨f.val, by omega⟩))
          (fun m f => v21 (ix2 (n0 := 256) (n1 := 2048) m ⟨f.val, by omega⟩)) (fun m => v21 (ix2 (n0 := 256) (n1 := 2048) m ⟨1024 + d.val, by omega⟩)) := by
  unfold headOf weight largest
  pointwise [k0_pay3]

/-- The second head. -/
theorem pay6_at (v0 : Vec Ideal S512x1024 .f32) (v1 : Vec Ideal S1x1024 .f32) (v16 : Vec Ideal S1024x1024 .bf16) (v21 : Vec Ideal S256x2048 .bf16)
    (r : Fin 512) (d : Fin 256) :
    k0_pay6 (F := Ideal) v21 (k0_pay4 v0 v1 v16) (k0_pay5 v21) (ix2 (n0 := 512) (n1 := 256) r d)
      = headOf (fun f => k0_pay2 (F := Ideal) v0 v1 v16 (ix2 (n0 := 512) (n1 := 1024) r ⟨256 + f.val, by omega⟩))
          (fun m f => v21 (ix2 (n0 := 256) (n1 := 2048) m ⟨256 + f.val, by omega⟩)) (fun m => v21 (ix2 (n0 := 256) (n1 := 2048) m ⟨1280 + d.val, by omega⟩)) := by
  unfold headOf weight largest
  pointwise [k0_pay6, k0_pay4, k0_pay5]

/-- The third head. -/
theorem pay7_at (v20 : Vec Ideal S512x1024 .bf16) (v21 : Vec Ideal S256x2048 .bf16) (r : Fin 512) (d : Fin 256) :
    k0_pay7 (F := Ideal) v20 v21 (ix2 (n0 := 512) (n1 := 256) r d)
      = headOf (fun f => v20 (ix2 (n0 := 512) (n1 := 1024) r ⟨512 + f.val, by omega⟩))
          (fun m f => v21 (ix2 (n0 := 256) (n1 := 2048) m ⟨512 + f.val, by omega⟩)) (fun m => v21 (ix2 (n0 := 256) (n1 := 2048) m ⟨1536 + d.val, by omega⟩)) := by
  unfold headOf weight largest
  pointwise [k0_pay7]

/-- The fourth head, its sum of values and its total apart. -/
theorem pay9_at (v20 : Vec Ideal S512x1024 .bf16) (v21 : Vec Ideal S256x2048 .bf16) (r : Fin 512) (d : Fin 256) :
    k0_pay9 (F := Ideal) v20 v21 (ix2 (n0 := 512) (n1 := 256) r d)
        * Ideal.div (Scalar.ofBits (F := Ideal) .f32 0x3F800000#32) (k0_pay10 (F := Ideal) v20 v21 (ix2 (n0 := 512) (n1 := 1) r 0))
      = headOf (fun f => v20 (ix2 (n0 := 512) (n1 := 1024) r ⟨768 + f.val, by omega⟩))
          (fun m f => v21 (ix2 (n0 := 256) (n1 := 2048) m ⟨768 + f.val, by omega⟩)) (fun m => v21 (ix2 (n0 := 256) (n1 := 2048) m ⟨1792 + d.val, by omega⟩)) := by
  unfold headOf weight largest
  pointwise [k0_pay9, k0_pay10, k0_pay8]

/-- Four rows of 256 side by side, at a column. -/
def pick (a b c e : Fin 256 → EReal) (x : Fin 1024) : EReal :=
  if h : x.val < 256 then a ⟨x.val, h⟩
  else if h : x.val - 256 < 256 then b ⟨x.val - 256, h⟩
  else if h : x.val - 256 - 256 < 256 then c ⟨x.val - 256 - 256, h⟩
  else e ⟨x.val - 256 - 256 - 256, by omega⟩

/-- They are one family of rows when each is. -/
theorem pick_eq (a b c e : Fin 256 → EReal) (f : Fin 1024 → EReal) (ha : ∀ i : Fin 256, a i = f ⟨i.val, by omega⟩)
    (hb : ∀ i : Fin 256, b i = f ⟨256 + i.val, by omega⟩) (hc : ∀ i : Fin 256, c i = f ⟨512 + i.val, by omega⟩)
    (he : ∀ i : Fin 256, e i = f ⟨768 + i.val, by omega⟩) (x : Fin 1024) : pick a b c e x = f x := by
  unfold pick
  split
  · exact ha _
  split
  · rw [hb]; exact congrArg f (Fin.ext (by show 256 + (x.val - 256) = x.val; omega))
  split
  · rw [hc]; exact congrArg f (Fin.ext (by show 512 + (x.val - 256 - 256) = x.val; omega))
  · rw [he]; exact congrArg f (Fin.ext (by show 768 + (x.val - 256 - 256 - 256) = x.val; omega))

/-- The heads side by side, times the output weights, and the token added. -/
theorem pay1_at (v0 : Vec Ideal S512x1024 .f32) (v38 v55 v72 v83 : Vec Ideal S512x256 .f32) (v85 : Vec Ideal S512x1 .f32) (b : EReal)
    (v92 : Vec Ideal S1024x1024 .bf16) (r : Fin 512) (d : Fin 1024) :
    k0_pay1 (F := Ideal) v0 v38 v55 v72 v83 v85 b v92 (ix2 (n0 := 512) (n1 := 1024) r d)
      = v0 (ix2 (n0 := 512) (n1 := 1024) r d) + ∑ c : Fin 1024, pick (fun i => v38 (ix2 (n0 := 512) (n1 := 256) r i))
          (fun i => v55 (ix2 (n0 := 512) (n1 := 256) r i)) (fun i => v72 (ix2 (n0 := 512) (n1 := 256) r i))
          (fun i => v83 (ix2 (n0 := 512) (n1 := 256) r i) * Ideal.div b (v85 (ix2 (n0 := 512) (n1 := 1) r 0))) c
        * v92 (ix2 (n0 := 1024) (n1 := 1024) c d) := by
  pointwise [k0_pay1]
  rfl

/-- The output block, when the gains, the queries' weights and the keys are finite. -/
theorem out_at (x0 : Vec Ideal S512x1024 .f32) (x1 : Vec Ideal S1x1024 .f32) (x2 : Vec Ideal S1024x1024 .bf16) (x3 : Vec Ideal S256x2048 .bf16)
    (x4 : Vec Ideal S1024x1024 .bf16) (hg : ∀ k, IsReal (x1 (ix2 (n0 := 1) (n1 := 1024) 0 k)))
    (hw : ∀ j k, IsReal (x2 (ix2 (n0 := 1024) (n1 := 1024) j k)))
    (hk : ∀ (m : Fin 256) (k : Fin 1024), IsReal (x3 (ix2 (n0 := 256) (n1 := 2048) m ⟨k.val, by omega⟩))) (r : Fin 512) (d : Fin 1024) :
    out0_5 (F := Ideal) x0 x1 x2 x3 x4 (ix2 (n0 := 512) (n1 := 1024) r d)
      = attended (fun j => x0 (ix2 (n0 := 512) (n1 := 1024) r j)) (fun j => x1 (ix2 (n0 := 1) (n1 := 1024) 0 j))
          (fun j k => x2 (ix2 (n0 := 1024) (n1 := 1024) j k)) (fun m k => x3 (ix2 (n0 := 256) (n1 := 2048) m k))
          (fun c k => x4 (ix2 (n0 := 1024) (n1 := 1024) c k)) d := by
  unfold out0_5 k0_pay11
  have z : (![0, 0] : Fin 2 → ℕ) = fun _ => 0 := funext fun a => match a with | ⟨0, _⟩ => rfl | ⟨1, _⟩ => rfl
  rw [View.canon_unit_zero z, View.ld_unit_zero z, View.ld_unit_zero z, View.ld_unit_zero z, View.ld_unit_zero z, View.ld_unit_zero z]
  refine (pay1_at _ _ _ _ _ _ _ _ r d).trans ?_
  unfold attended
  have hq := query_real (fun j => x0 (ix2 (n0 := 512) (n1 := 1024) r j)) _ (fun j k => x2 (ix2 (n0 := 1024) (n1 := 1024) j k)) hg hw
  refine congrArg _ (Finset.sum_congr rfl fun c _ => congrArg (· * _) ?_)
  refine pick_eq _ _ _ _ (fun c : Fin 1024 => softHead
    (fun f => query (fun j => x0 (ix2 (n0 := 512) (n1 := 1024) r j)) (fun j => x1 (ix2 (n0 := 1) (n1 := 1024) 0 j))
          (fun j k => x2 (ix2 (n0 := 1024) (n1 := 1024) j k)) ⟨256 * (c.val / 256) + f.val, by omega⟩)
    (fun m f => x3 (ix2 (n0 := 256) (n1 := 2048) m ⟨256 * (c.val / 256) + f.val, by omega⟩))
    (fun m => x3 (ix2 (n0 := 256) (n1 := 2048) m ⟨1024 + c.val, by omega⟩))) (fun i => ?_) (fun i => ?_) (fun i => ?_) (fun i => ?_) c
  · refine (pay3_at _ _ _ _ r i).trans ?_
    rw [funext fun f : Fin 256 => pay2_at x0 x1 x2 r ⟨f.val, by omega⟩]
    refine (head_eq _ _ _ (fun f => hq _) (fun m f => hk m ⟨f.val, by omega⟩)).trans ?_
    have e : i.val / 256 = 0 := by omega
    simp only [e, Nat.mul_zero, Nat.zero_add]
  · refine (pay6_at _ _ _ _ r i).trans ?_
    rw [funext fun f : Fin 256 => pay2_at x0 x1 x2 r ⟨256 + f.val, by omega⟩]
    refine (head_eq _ _ _ (fun f => hq _) (fun m f => hk m ⟨256 + f.val, by omega⟩)).trans ?_
    have e : (256 + i.val) / 256 = 1 := by omega
    simp only [e, Nat.mul_one, ← Nat.add_assoc]
  · refine (pay7_at _ _ r i).trans ?_
    rw [funext fun f : Fin 256 => pay2_at x0 x1 x2 r ⟨512 + f.val, by omega⟩]
    refine (head_eq _ _ _ (fun f => hq _) (fun m f => hk m ⟨512 + f.val, by omega⟩)).trans ?_
    have e : (512 + i.val) / 256 = 2 := by omega
    simp only [e, ← Nat.add_assoc]
  · refine (pay9_at _ _ r i).trans ?_
    rw [funext fun f : Fin 256 => pay2_at x0 x1 x2 r ⟨768 + f.val, by omega⟩]
    refine (head_eq _ _ _ (fun f => hq _) (fun m f => hk m ⟨768 + f.val, by omega⟩)).trans ?_
    have e : (768 + i.val) / 256 = 3 := by omega
    simp only [e, ← Nat.add_assoc]

end Cert.Kernel2Ideal.Project

end
-- ==== Proof.K2.Ref.lean ====
/-
The reference of the cross-attention, read stage by stage: the norm, the queries, the keys and values by head, the scores, their softmax,
the heads side by side, the output projection.
-/
module

public import proofs.«01_k».proof.Proof.Gen.Reference2Ideal.Read
public import proofs.«01_k».proof.Proof.K2.Math
public import Idealize.ShloMosaic.Lib.ValueIdx
public import Idealize.ShloMosaic.Lib.Pointwise

@[expose] public section

set_option maxRecDepth 16384

noncomputable section

namespace Cert.Reference2Ideal.Attend

open Cert.Reference2Ideal Cert.Reference2Ideal.Gen Cert.Reference2Ideal.Read
open Idealize.ShloMosaic Idealize.ShloMosaic.TcCoe Idealize.ShloMosaic.Tactic
open Cert.Layer Cert.Attend

variable (x : S65536x1024.Idx → EReal) (g : S1024.Idx → EReal) (wq : S1024x1024.Idx → EReal) (kv : S4096x2048.Idx → EReal) (wo : S1024x1024.Idx → EReal)

/-- Token `s` of batch `b`, -/
abbrev tok (b : Fin 16) (s : Fin 4096) : Fin 65536 := ⟨b.val * 4096 + s.val, by omega⟩

/-- and the batch's memory row `m`. -/
abbrev mem (b : Fin 16) (m : Fin 256) : Fin 4096 := ⟨b.val * 256 + m.val, by omega⟩

/-- Column `f` of head `h`. -/
abbrev col (h : Fin 4) (f : Fin 256) : Fin 1024 := ⟨256 * h.val + f.val, by omega⟩

theorem tokens (b : Fin 16) (s : Fin 4096) (j : Fin 1024) :
    val_main_v0 (F := Ideal) x (ix3 (n0 := 16) (n1 := 4096) (n2 := 1024) b s j) = x (ix2 (n0 := 65536) (n1 := 1024) (tok b s) j) :=
  (val_main_v0_apply (F := Ideal) x _).trans (congrArg x (funext fun a => match a with
    | ⟨0, _⟩ => Fin.ext (by show ((b.val * 4096 + s.val) * 1024 + j.val) / 1024 = b.val * 4096 + s.val; omega)
    | ⟨1, _⟩ => Fin.ext (by show ((b.val * 4096 + s.val) * 1024 + j.val) % 1024 = j.val; omega)))

/-- The row of a token, -/
abbrev rowOf (b : Fin 16) (s : Fin 4096) (j : Fin 1024) : EReal := x (ix2 (n0 := 65536) (n1 := 1024) (tok b s) j)

/-- and the gains. -/
abbrev gain (j : Fin 1024) : EReal := g (ix1 (n0 := 1024) j)

theorem norm_at (b : Fin 16) (s : Fin 4096) (k : Fin 1024) :
    val_main_v13 (F := Ideal) x g (ix3 (n0 := 16) (n1 := 4096) (n2 := 1024) b s k) = normed (rowOf x b s) (gain g) k := by
  unfold normed
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_cst_apply, val_main_cst_0_apply,
    val_main_cst_1_apply, tokens]
  refine congrArg₂ (· * ·) (congrArg₂ (· * ·) rfl (congrArg Ideal.rsqrt
    (congrArg (· + Ideal.ofBits .f32 0x358637BD#32) (congrArg (Ideal.div · (Ideal.ofBits .f32 0x44800000#32)) ?_))))
    (congrArg g (funext fun a => match a with | ⟨0, _⟩ => rfl))
  refine (congrArg (· + _) Ideal.ofBits_zero_f32).trans ((zero_add _).trans (Finset.sum_congr rfl fun j _ => ?_))
  have e : idx_main_v2 (idx_main_v3 (idx_main_v9 (ix3 (n0 := 16) (n1 := 4096) (n2 := 1024) b s k))) j = ix3 (n0 := 16) (n1 := 4096) (n2 := 1024) b s j :=
    funext fun a => match a with | ⟨0, _⟩ => rfl | ⟨1, _⟩ => rfl | ⟨2, _⟩ => rfl
  rw [e, val_main_v1_apply, tokens]
  rfl

/-- The query of a token. -/
abbrev queryOf (b : Fin 16) (s : Fin 4096) : Fin 1024 → EReal :=
  query (rowOf x b s) (gain g) (fun j k => wq (ix2 (n0 := 1024) (n1 := 1024) j k))

theorem query_at (b : Fin 16) (s : Fin 4096) (k : Fin 1024) :
    val_main_v15 (F := Ideal) x g wq (ix3 (n0 := 16) (n1 := 4096) (n2 := 1024) b s k) = queryOf x g wq b s k := by
  unfold queryOf query
  rw [val_main_v15_apply]
  refine Finset.sum_congr rfl fun j _ => congrArg₂ (· * ·) ?_ (congrArg wq (funext fun a => match a with | ⟨0, _⟩ => rfl | ⟨1, _⟩ => rfl))
  have e : lidx_main_v15 (ix3 (n0 := 16) (n1 := 4096) (n2 := 1024) b s k) j = ix3 (n0 := 16) (n1 := 4096) (n2 := 1024) b s j :=
    funext fun a => match a with | ⟨0, _⟩ => rfl | ⟨1, _⟩ => rfl | ⟨2, _⟩ => rfl
  rw [e, norm_at]

theorem query_head (b : Fin 16) (s : Fin 4096) (h : Fin 4) (f : Fin 256) :
    val_main_v16 (F := Ideal) x g wq (ix4 (n0 := 16) (n1 := 4096) (n2 := 4) (n3 := 256) b s h f) = queryOf x g wq b s (col h f) := by
  have e : idx_main_v16 (ix4 (n0 := 16) (n1 := 4096) (n2 := 4) (n3 := 256) b s h f) = ix3 (n0 := 16) (n1 := 4096) (n2 := 1024) b s (col h f) :=
    funext fun a => match a with
    | ⟨0, _⟩ => Fin.ext (by show (((b.val * 4096 + s.val) * 4 + h.val) * 256 + f.val) / 4194304 = b.val; omega)
    | ⟨1, _⟩ => Fin.ext (by show (((b.val * 4096 + s.val) * 4 + h.val) * 256 + f.val) / 1024 % 4096 = s.val; omega)
    | ⟨2, _⟩ => Fin.ext (by show (((b.val * 4096 + s.val) * 4 + h.val) * 256 + f.val) % 1024 = 256 * h.val + f.val; omega)
  rw [val_main_v16_apply, e, query_at]

theorem memory_at (b : Fin 16) (m : Fin 256) (k : Fin 2048) :
    val_main_v18 (F := Ideal) kv (ix3 (n0 := 16) (n1 := 256) (n2 := 2048) b m k) = kv (ix2 (n0 := 4096) (n1 := 2048) (mem b m) k) := by
  rw [val_main_v18_apply, val_main_v17_apply]
  refine congrArg kv (funext fun a => match a with
    | ⟨0, _⟩ => Fin.ext (by show ((b.val * 256 + m.val) * 2048 + k.val) / 2048 = b.val * 256 + m.val; omega)
    | ⟨1, _⟩ => Fin.ext (by show ((b.val * 256 + m.val) * 2048 + k.val) % 2048 = k.val; omega))

/-- The keys by head, -/
theorem key_at (b : Fin 16) (m : Fin 256) (h : Fin 4) (f : Fin 256) :
    val_main_v21 (F := Ideal) kv (ix4 (n0 := 16) (n1 := 256) (n2 := 4) (n3 := 256) b m h f)
      = kv (ix2 (n0 := 4096) (n1 := 2048) (mem b m) ⟨256 * h.val + f.val, by omega⟩) := by
  have e : idx_main_v19 (idx_main_v21 (ix4 (n0 := 16) (n1 := 256) (n2 := 4) (n3 := 256) b m h f))
      = ix3 (n0 := 16) (n1 := 256) (n2 := 2048) b m ⟨256 * h.val + f.val, by omega⟩ :=
    funext fun a => match a with
    | ⟨0, _⟩ => Fin.ext (by show (((b.val * 256 + m.val) * 4 + h.val) * 256 + f.val) / 262144 = b.val; omega)
    | ⟨1, _⟩ => Fin.ext (by show (((b.val * 256 + m.val) * 4 + h.val) * 256 + f.val) / 1024 % 256 = m.val; omega)
    | ⟨2, _⟩ => Fin.ext (by show (((b.val * 256 + m.val) * 4 + h.val) * 256 + f.val) % 1024 = 256 * h.val + f.val; omega)
  rw [val_main_v21_apply, val_main_v19_apply, e, memory_at]

/-- and the values. -/
theorem value_at (b : Fin 16) (m : Fin 256) (h : Fin 4) (f : Fin 256) :
    val_main_v22 (F := Ideal) kv (ix4 (n0 := 16) (n1 := 256) (n2 := 4) (n3 := 256) b m h f)
      = kv (ix2 (n0 := 4096) (n1 := 2048) (mem b m) ⟨1024 + (256 * h.val + f.val), by omega⟩) := by
  have e : idx_main_v20 (idx_main_v22 (ix4 (n0 := 16) (n1 := 256) (n2 := 4) (n3 := 256) b m h f))
      = ix3 (n0 := 16) (n1 := 256) (n2 := 2048) b m ⟨1024 + (256 * h.val + f.val), by omega⟩ :=
    funext fun a => match a with
    | ⟨0, _⟩ => Fin.ext (by show (((b.val * 256 + m.val) * 4 + h.val) * 256 + f.val) / 262144 = b.val; omega)
    | ⟨1, _⟩ => Fin.ext (by show (((b.val * 256 + m.val) * 4 + h.val) * 256 + f.val) / 1024 % 256 = m.val; omega)
    | ⟨2, _⟩ => Fin.ext (by show 1024 + (((b.val * 256 + m.val) * 4 + h.val) * 256 + f.val) % 1024 = 1024 + (256 * h.val + f.val); omega)
  rw [val_main_v22_apply, val_main_v20_apply, e, memory_at]

/-- A token's scaled scores in a head. -/
def scoreOf (b : Fin 16) (h : Fin 4) (s : Fin 4096) (m : Fin 256) : EReal :=
  (∑ f : Fin 256, queryOf x g wq b s (col h f) * kv (ix2 (n0 := 4096) (n1 := 2048) (mem b m) ⟨256 * h.val + f.val, by omega⟩))
    * Ideal.ofBits .f32 0x3D800000#32

theorem score_at (b : Fin 16) (h : Fin 4) (s : Fin 4096) (m : Fin 256) :
    val_main_v25 (F := Ideal) x g wq kv (ix4 (n0 := 16) (n1 := 4) (n2 := 4096) (n3 := 256) b h s m) = scoreOf x g wq kv b h s m := by
  unfold scoreOf
  rw [val_main_v25_apply, val_main_v24_apply, val_main_cst_2_apply, val_main_v23_apply]
  refine congrArg (· * Ideal.ofBits .f32 0x3D800000#32) (Finset.sum_congr rfl fun f _ => ?_)
  have el : lidx_main_v23 (ix4 (n0 := 16) (n1 := 4) (n2 := 4096) (n3 := 256) b h s m) f = ix4 (n0 := 16) (n1 := 4096) (n2 := 4) (n3 := 256) b s h f :=
    funext fun a => match a with | ⟨0, _⟩ => rfl | ⟨1, _⟩ => rfl | ⟨2, _⟩ => rfl | ⟨3, _⟩ => rfl
  have er : ridx_main_v23 (ix4 (n0 := 16) (n1 := 4) (n2 := 4096) (n3 := 256) b h s m) f = ix4 (n0 := 16) (n1 := 256) (n2 := 4) (n3 := 256) b m h f :=
    funext fun a => match a with | ⟨0, _⟩ => rfl | ⟨1, _⟩ => rfl | ⟨2, _⟩ => rfl | ⟨3, _⟩ => rfl
  rw [el, er, query_head, key_at]

/-- The largest of an array's last axis, from the least word up. -/
theorem largest_at (v : FVec Ideal S16x4x4096x256 .f32) (b : Fin 16) (h : Fin 4) (s : Fin 4096) :
    Host.reduce FloatOps.maximumf v (val_main_cst_3 (F := Ideal)) reducesTo_S16x4x4096x256_S16x4x4096_d3 h_S_ (ix3 (n0 := 16) (n1 := 4) (n2 := 4096) b h s)
      = largest fun m => v (ix4 (n0 := 16) (n1 := 4) (n2 := 4096) (n3 := 256) b h s m) := by
  unfold largest
  pointwise [val_main_cst_3]

theorem max_at (b : Fin 16) (h : Fin 4) (s : Fin 4096) :
    val_main_v28 (F := Ideal) x g wq kv (ix3 (n0 := 16) (n1 := 4) (n2 := 4096) b h s) = largest (scoreOf x g wq kv b h s) := by
  rw [val_main_v28_apply, val_main_v27_apply, val_main_cst_4_apply]
  unfold val_main_v26
  rw [largest_at]
  rw [show (fun m : Fin 256 => val_main_v25 (F := Ideal) x g wq kv (ix4 (n0 := 16) (n1 := 4) (n2 := 4096) (n3 := 256) b h s m)) = scoreOf x g wq kv b h s from
    funext fun m => score_at x g wq kv b h s m]
  show max (Ideal.ofBits .f32 0xFF800000#32) (largest (scoreOf x g wq kv b h s)) = _
  rw [word_bot]
  exact max_eq_right bot_le

theorem weight_at (b : Fin 16) (h : Fin 4) (s : Fin 4096) (m : Fin 256) :
    val_main_v32 (F := Ideal) x g wq kv (ix4 (n0 := 16) (n1 := 4) (n2 := 4096) (n3 := 256) b h s m) = weight (scoreOf x g wq kv b h s) m := by
  unfold weight
  rw [val_main_v32_apply, val_main_v31_apply, val_main_v30_apply, val_main_v29_apply, score_at]
  have e : idx_main_v29 (idx_main_v30 (ix4 (n0 := 16) (n1 := 4) (n2 := 4096) (n3 := 256) b h s m)) = ix3 (n0 := 16) (n1 := 4) (n2 := 4096) b h s :=
    funext fun a => match a with | ⟨0, _⟩ => rfl | ⟨1, _⟩ => rfl | ⟨2, _⟩ => rfl
  rw [e, max_at]
  rfl

theorem soft_at (b : Fin 16) (h : Fin 4) (s : Fin 4096) (m : Fin 256) :
    val_main_v36 (F := Ideal) x g wq kv (ix4 (n0 := 16) (n1 := 4) (n2 := 4096) (n3 := 256) b h s m)
      = Ideal.div (weight (scoreOf x g wq kv b h s) m) (∑ m, weight (scoreOf x g wq kv b h s) m) := by
  rw [val_main_v36_apply, val_main_v35_apply, val_main_v34_apply, val_main_v33_apply, weight_at]
  refine congrArg (Ideal.div _) ((congrArg (· + _) Ideal.ofBits_zero_f32).trans ((zero_add _).trans (Finset.sum_congr rfl fun k _ => ?_)))
  have e : idx_main_v33 (idx_main_v34 (idx_main_v35 (ix4 (n0 := 16) (n1 := 4) (n2 := 4096) (n3 := 256) b h s m))) k
      = ix4 (n0 := 16) (n1 := 4) (n2 := 4096) (n3 := 256) b h s k :=
    funext fun a => match a with | ⟨0, _⟩ => rfl | ⟨1, _⟩ => rfl | ⟨2, _⟩ => rfl | ⟨3, _⟩ => rfl
  rw [e, weight_at]

/-- A head's result, by token, head and feature. -/
theorem head_at (b : Fin 16) (s : Fin 4096) (h : Fin 4) (f : Fin 256) :
    val_main_v38 (F := Ideal) x g wq kv (ix4 (n0 := 16) (n1 := 4096) (n2 := 4) (n3 := 256) b s h f)
      = softHead (fun j => queryOf x g wq b s (col h j)) (fun m j => kv (ix2 (n0 := 4096) (n1 := 2048) (mem b m) ⟨256 * h.val + j.val, by omega⟩))
          (fun m => kv (ix2 (n0 := 4096) (n1 := 2048) (mem b m) ⟨1024 + (256 * h.val + f.val), by omega⟩)) := by
  rw [val_main_v38_apply, val_main_v37_apply]
  refine Finset.sum_congr rfl fun m _ => ?_
  have el : lidx_main_v37 (idx_main_v38 (ix4 (n0 := 16) (n1 := 4096) (n2 := 4) (n3 := 256) b s h f)) m = ix4 (n0 := 16) (n1 := 256) (n2 := 4) (n3 := 256) b m h f :=
    funext fun a => match a with | ⟨0, _⟩ => rfl | ⟨1, _⟩ => rfl | ⟨2, _⟩ => rfl | ⟨3, _⟩ => rfl
  have er : ridx_main_v37 (idx_main_v38 (ix4 (n0 := 16) (n1 := 4096) (n2 := 4) (n3 := 256) b s h f)) m = ix4 (n0 := 16) (n1 := 4) (n2 := 4096) (n3 := 256) b h s m :=
    funext fun a => match a with | ⟨0, _⟩ => rfl | ⟨1, _⟩ => rfl | ⟨2, _⟩ => rfl | ⟨3, _⟩ => rfl
  rw [el, er, value_at, soft_at]
  rfl

/-- The heads side by side. -/
theorem heads_at (b : Fin 16) (s : Fin 4096) (c : Fin 1024) :
    val_main_v39 (F := Ideal) x g wq kv (ix3 (n0 := 16) (n1 := 4096) (n2 := 1024) b s c)
      = softHead (fun j => queryOf x g wq b s ⟨256 * (c.val / 256) + j.val, by omega⟩)
          (fun m j => kv (ix2 (n0 := 4096) (n1 := 2048) (mem b m) ⟨256 * (c.val / 256) + j.val, by omega⟩))
          (fun m => kv (ix2 (n0 := 4096) (n1 := 2048) (mem b m) ⟨1024 + c.val, by omega⟩)) := by
  have e : idx_main_v39 (ix3 (n0 := 16) (n1 := 4096) (n2 := 1024) b s c)
      = ix4 (n0 := 16) (n1 := 4096) (n2 := 4) (n3 := 256) b s ⟨c.val / 256, by omega⟩ ⟨c.val % 256, by omega⟩ :=
    funext fun a => match a with
    | ⟨0, _⟩ => Fin.ext (by show ((b.val * 4096 + s.val) * 1024 + c.val) / 4194304 = b.val; omega)
    | ⟨1, _⟩ => Fin.ext (by show ((b.val * 4096 + s.val) * 1024 + c.val) / 1024 % 4096 = s.val; omega)
    | ⟨2, _⟩ => Fin.ext (by show ((b.val * 4096 + s.val) * 1024 + c.val) / 256 % 4 = c.val / 256; omega)
    | ⟨3, _⟩ => Fin.ext (by show ((b.val * 4096 + s.val) * 1024 + c.val) % 256 = c.val % 256; omega)
  rw [val_main_v39_apply, e, head_at]
  have hc : 256 * (c.val / 256) + c.val % 256 = c.val := by omega
  simp only [hc]

/-- The reference's result, at a token of a batch. -/
theorem result_at (n : Fin 65536) (d : Fin 1024) :
    val_main_v43 (F := Ideal) x g wq kv wo (ix2 (n0 := 65536) (n1 := 1024) n d)
      = attended (fun j => x (ix2 (n0 := 65536) (n1 := 1024) n j)) (gain g) (fun j k => wq (ix2 (n0 := 1024) (n1 := 1024) j k))
          (fun m k => kv (ix2 (n0 := 4096) (n1 := 2048) ⟨n.val / 4096 * 256 + m.val, by omega⟩ k)) (fun c k => wo (ix2 (n0 := 1024) (n1 := 1024) c k)) d := by
  have e : idx_main_v43 (ix2 (n0 := 65536) (n1 := 1024) n d)
      = ix3 (n0 := 16) (n1 := 4096) (n2 := 1024) ⟨n.val / 4096, by omega⟩ ⟨n.val % 4096, by omega⟩ d :=
    funext fun a => match a with
    | ⟨0, _⟩ => Fin.ext (by show (n.val * 1024 + d.val) / 4194304 = n.val / 4096; omega)
    | ⟨1, _⟩ => Fin.ext (by show (n.val * 1024 + d.val) / 1024 % 4096 = n.val % 4096; omega)
    | ⟨2, _⟩ => Fin.ext (by show (n.val * 1024 + d.val) % 1024 = d.val; omega)
  have hn : tok ⟨n.val / 4096, by omega⟩ ⟨n.val % 4096, by omega⟩ = n := Fin.ext (by show n.val / 4096 * 4096 + n.val % 4096 = n.val; omega)
  rw [val_main_v43_apply, e, val_main_v42_apply, tokens, val_main_v41_apply]
  unfold attended
  refine congrArg₂ (· + ·) (by rw [hn]) (Finset.sum_congr rfl fun c _ => congrArg₂ (· * ·) ?_
    (congrArg wo (funext fun a => match a with | ⟨0, _⟩ => rfl | ⟨1, _⟩ => rfl)))
  have el : lidx_main_v41 (ix3 (n0 := 16) (n1 := 4096) (n2 := 1024) ⟨n.val / 4096, by omega⟩ ⟨n.val % 4096, by omega⟩ d) c
      = ix3 (n0 := 16) (n1 := 4096) (n2 := 1024) ⟨n.val / 4096, by omega⟩ ⟨n.val % 4096, by omega⟩ c :=
    funext fun a => match a with | ⟨0, _⟩ => rfl | ⟨1, _⟩ => rfl | ⟨2, _⟩ => rfl
  rw [el, heads_at]
  unfold queryOf rowOf
  rw [hn]

end Cert.Reference2Ideal.Attend

end
-- ==== Proof.K2.Value.lean ====
/-
The cross-attention of every token to its batch's memory: what the call leaves in its result over the extended reals, and that the
reference computes the same, when the gains, the queries' weights and the keys are finite.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite
public import proofs.«01_k».proof.Proof.K2.Body
public import proofs.«01_k».proof.Proof.K2.Ref
public import Idealize.ShloMosaic.Lib.ValueIdx
public import Idealize.ShloMosaic.Lib.ValueLayout
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.Project

open Cert.Kernel2Ideal Cert.Kernel2Ideal.Gen
open Idealize.ShloMosaic Idealize.ShloMosaic.TcCoe Idealize.ShloMosaic.Tactic
open Idealize.SL Idealize.SL.Sem
open Idealize.ShloMosaic.Pipeline (Dat Cfg Window)
open Cert.Layer Cert.Attend

attribute [local instance] Cert.Pre_finite.Gen.facts

/-- A test of a truth value is one exactly where it is true. -/
theorem ofBool_decide_one (p : Prop) [Decidable p] : BitVec.ofBool (decide p) = 1#1 ↔ p := by
  by_cases h : p <;> simp [h]

/-- The precondition, entry by entry: the gains, the queries' weights and the keys are finite. -/
theorem finite_at (x : FVec Ideal S65536x1024 .f32) (g : FVec Ideal S1024 .f32) (wq : FVec Ideal S1024x1024 .bf16) (kv : FVec Ideal S4096x2048 .bf16)
    (wo : FVec Ideal S1024x1024 .bf16) (h : Cert.Pre_finite.fn (F := Ideal) x g wq kv wo = fun _ => 1#1) (a : Fin 4) (r k : Fin 1024) :
    IsReal (g (ix1 (n0 := 1024) k)) ∧ IsReal (wq (ix2 (n0 := 1024) (n1 := 1024) r k))
      ∧ IsReal (kv (ix2 (n0 := 4096) (n1 := 2048) ⟨a.val * 1024 + r.val, by omega⟩ ⟨k.val, by omega⟩)) := by
  have h1 := congrFun h (ix3 (n0 := 4) (n1 := 1024) (n2 := 1024) a r k)
  pointwise [Cert.Pre_finite.fn, Cert.Pre_finite.fn_part1] at h1
  simp only [IntOp.andi_eq_one, ofBool_decide_one, word_bot, word_top, half_bot, half_top, bot_lt_iff_ne_bot, lt_top_iff_ne_top] at h1
  exact ⟨h1.1.1.1.1, ⟨h1.1.1.1.2, h1.1.1.2⟩, h1.1.2, h1.2⟩

variable (m : (ℓ : Loc nD τ sig) → Buf (Elt Ideal) ℓ)

def argX (c : Dev nD) : S65536x1024.Idx → EReal := m ((c : Thread nD τ).loc main_arg0)
def argG (c : Dev nD) : S1024.Idx → EReal := m ((c : Thread nD τ).loc main_arg1)
def argW (c : Dev nD) : S1024x1024.Idx → EReal := m ((c : Thread nD τ).loc main_arg2)
def argK (c : Dev nD) : S4096x2048.Idx → EReal := m ((c : Thread nD τ).loc main_arg3)
def argO (c : Dev nD) : S1024x1024.Idx → EReal := m ((c : Thread nD τ).loc main_arg4)

theorem coord_lt (t : Fin grid0.N) : (grid0.coords t 0).val < 128 := (grid0.coords t 0).isLt

theorem word_of_coord (n : ℕ) (h : n < 128) : (BitVec.ofNat 32 n).toNat = n := by
  rw [BitVec.toNat_ofNat]; omega

/-- The row of the arrays that a row of a point's block is. -/
abbrev row (t : Fin grid0.N) (r : Fin 512) : Fin 65536 := ⟨512 * (grid0.coords t 0).val + r.val, by have := coord_lt t; omega⟩

theorem iblk0_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S65536x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

/-- The gains as one row, which the host makes of them before the call. -/
theorem gains (c : Dev nD) : V m c main_v0 = shapeCast S1x1024 (m ((c : Thread nD τ).loc main_arg1)) shapeCasts_S1024_S1x1024 := by
  unfold V
  after_results
  rfl

theorem iblk1_at (c : Dev nD) (t : Fin cfg0.N) (k : Fin 1024) :
    (iblk m c 1 t : S1x1024.Idx → EReal) (ix2 0 k) = argG m c (ix1 k) := by
  refine Eq.trans ?_ ((congrFun (gains m c) (ix2 (n0 := 1) (n1 := 1024) 0 k)).trans (ValueIdx.shapeCast_a_1a_apply (argG m c) _ 0 k))
  unfold iblk
  refine congrArg (V m c main_v0 : S1x1024.Idx → EReal) (funext fun a => Fin.ext ?_)
  have h := Pipeline.Window.rect_emb_val (cfg0.win 1) t (ix2 (n0 := 1) (n1 := 1024) 0 k)
  match a with
  | ⟨0, p⟩ => exact h ⟨0, p⟩
  | ⟨1, p⟩ =>
    refine (h ⟨1, p⟩).trans ?_
    show 0 * 1024 + k.val = k.val
    omega

theorem iblk2_at (c : Dev nD) (t : Fin cfg0.N) (k : Fin 1024) (d : Fin 1024) :
    (iblk m c 2 t : S1024x1024.Idx → EReal) (ix2 k d) = argW m c (ix2 k d) := by
  unfold iblk argW
  refine congrArg (m ((c : Thread nD τ).loc main_arg2) : S1024x1024.Idx → EReal) (funext fun a => Fin.ext ?_)
  have h := Pipeline.Window.rect_emb_val (cfg0.win 2) t (ix2 (n0 := 1024) (n1 := 1024) k d)
  match a with
  | ⟨0, p⟩ =>
    refine (h ⟨0, p⟩).trans ?_
    show 0 * 1024 + k.val = k.val
    omega
  | ⟨1, p⟩ =>
    refine (h ⟨1, p⟩).trans ?_
    show 0 * 1024 + d.val = d.val
    omega

/-- The eight points of a batch read the same block of the memory. -/
theorem eighth : ∀ i : grid0.Coords, cc0_transform_3 i (show Fin 2 from 0) = (i 0).val / 8 := by decide +kernel

theorem iblk3_at (c : Dev nD) (t : Fin cfg0.N) (k : Fin 256) (d : Fin 2048) :
    (iblk m c 3 t : S256x2048.Idx → EReal) (ix2 k d)
      = argK m c (ix2 (n0 := 4096) (n1 := 2048) ⟨(grid0.coords t 0).val / 8 * 256 + k.val, by have := coord_lt t; omega⟩ d) := by
  unfold iblk argK
  refine congrArg (m ((c : Thread nD τ).loc main_arg3) : S4096x2048.Idx → EReal) (funext fun a => Fin.ext ?_)
  have h := Pipeline.Window.rect_emb_val (cfg0.win 3) t (ix2 (n0 := 256) (n1 := 2048) k d)
  match a with
  | ⟨0, p⟩ =>
    refine (h ⟨0, p⟩).trans ?_
    show cc0_transform_3 (grid0.coords t) (show Fin 2 from 0) * 256 + k.val = (grid0.coords t 0).val / 8 * 256 + k.val
    rw [eighth]
  | ⟨1, p⟩ =>
    refine (h ⟨1, p⟩).trans ?_
    show 0 * 2048 + d.val = d.val
    omega

theorem iblk4_at (c : Dev nD) (t : Fin cfg0.N) (k : Fin 1024) (d : Fin 1024) :
    (iblk m c 4 t : S1024x1024.Idx → EReal) (ix2 k d) = argO m c (ix2 k d) := by
  unfold iblk argO
  refine congrArg (m ((c : Thread nD τ).loc main_arg4) : S1024x1024.Idx → EReal) (funext fun a => Fin.ext ?_)
  have h := Pipeline.Window.rect_emb_val (cfg0.win 4) t (ix2 (n0 := 1024) (n1 := 1024) k d)
  match a with
  | ⟨0, p⟩ =>
    refine (h ⟨0, p⟩).trans ?_
    show 0 * 1024 + k.val = k.val
    omega
  | ⟨1, p⟩ =>
    refine (h ⟨1, p⟩).trans ?_
    show 0 * 1024 + d.val = d.val
    omega

/-- The blocks of the result cover it. -/
theorem covers : (cfg0.win 5).Covers := by
  have b0 : (cfg0.win 5).nblk (show Fin 2 from 0) = 128 := (rfl : (65536 + 512 - 1) / 512 = 128)
  have b1 : (cfg0.win 5).nblk (show Fin 2 from 1) = 1 := (rfl : (1024 + 1024 - 1) / 1024 = 1)
  refine Pipeline.Window.covers_of_indexMap_surj _ rfl (fun a => ?_) fun β => ?_
  · match a with
    | ⟨0, p⟩ => show 0 < 512; decide
    | ⟨1, p⟩ => show 0 < 1024; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- A token after the attention to its batch's memory. -/
def token (x : S65536x1024.Idx → EReal) (g : S1024.Idx → EReal) (w : S1024x1024.Idx → EReal) (kv : S4096x2048.Idx → EReal) (wo : S1024x1024.Idx → EReal)
    (n : Fin 65536) (d : Fin 1024) : EReal :=
  attended (fun j => x (ix2 (n0 := 65536) (n1 := 1024) n j)) (fun j => g (ix1 (n0 := 1024) j)) (fun j k => w (ix2 (n0 := 1024) (n1 := 1024) j k))
    (fun m k => kv (ix2 (n0 := 4096) (n1 := 2048) ⟨n.val / 4096 * 256 + m.val, by omega⟩ k)) (fun c k => wo (ix2 (n0 := 1024) (n1 := 1024) c k)) d

/-- The result after the run. -/
def result (c : Dev nD) : Buf (Elt Ideal) ((c : Thread nD τ).loc main_v1) :=
  fun (y : S65536x1024.Idx) => token (argX m c) (argG m c) (argW m c) (argK m c) (argO m c) (y 0) (y 1)

/-- The arguments' finiteness, on a device. -/
def Finite (c : Dev nD) : Prop :=
  Cert.Pre_finite.fn (F := Ideal) (argX m c) (argG m c) (argW m c) (argK m c) (argO m c) = fun _ => 1#1

/-- A point's block of the result, at a row and a feature. -/
theorem block_at (c : Dev nD) (hf : Finite m c) (t : Fin cfg0.N) (y : S512x1024.Idx) (n : Fin 65536) (d : Fin 1024)
    (hn : n.val = 512 * (grid0.coords t 0).val + (y 0).val) (hd : d.val = (y 1).val) :
    out0_5 (F := Ideal) (iblk m c 0 t) (iblk m c 1 t) (iblk m c 2 t) (iblk m c 3 t) (iblk m c 4 t) y
      = token (argX m c) (argG m c) (argW m c) (argK m c) (argO m c) n d := by
  obtain rfl : n = row t (y 0) := Fin.ext hn
  obtain rfl : d = y 1 := Fin.ext hd
  have e : y = ix2 (n0 := 512) (n1 := 1024) (y 0) (y 1) := funext fun a => match a with | ⟨0, _⟩ => rfl | ⟨1, _⟩ => rfl
  have hr : (y 0).val < 512 := (y 0).isLt
  have ht := coord_lt t
  have hb : (row t (y 0)).val / 4096 = (grid0.coords t 0).val / 8 := by
    show (512 * (grid0.coords t 0).val + (y 0).val) / 4096 = (grid0.coords t 0).val / 8
    omega
  refine (congrArg (out0_5 (F := Ideal) (iblk m c 0 t) (iblk m c 1 t) (iblk m c 2 t) (iblk m c 3 t) (iblk m c 4 t)) e).trans
    ((out_at _ _ _ _ _ (fun k => ?_) (fun j k => ?_) (fun a k => ?_) _ _).trans ?_)
  · rw [iblk1_at]
    exact (finite_at _ _ _ _ _ hf 0 0 k).1
  · rw [iblk2_at]
    exact (finite_at _ _ _ _ _ hf 0 j k).2.1
  · rw [iblk3_at]
    have h := (finite_at _ _ _ _ _ hf ⟨((grid0.coords t 0).val / 8 * 256 + a.val) / 1024, by omega⟩
      ⟨((grid0.coords t 0).val / 8 * 256 + a.val) % 1024, by omega⟩ k).2.2
    have ei : ((grid0.coords t 0).val / 8 * 256 + a.val) / 1024 * 1024 + ((grid0.coords t 0).val / 8 * 256 + a.val) % 1024
        = (grid0.coords t 0).val / 8 * 256 + a.val := by omega
    simp only [ei] at h
    exact h
  · unfold token
    simp only [iblk0_at, iblk1_at, iblk2_at, iblk3_at, iblk4_at, hb]
    exact congrArg (fun f => attended f _ _ _ _ _) (funext fun j => iblk0_at m c t (y 0) j)

/-- A point's block lies in the result where its coordinate says. -/
theorem place0 (t : Fin cfg0.N) (y : S512x1024.Idx) :
    (((cfg0.win 5).rect t).emb y (show Fin 2 from 0)).val = 512 * (grid0.coords t 0).val + (y 0).val :=
  (Pipeline.Window.rect_emb_val (cfg0.win 5) t y (show Fin 2 from 0)).trans
    (show (BitVec.ofNat 32 (grid0.coords t 0).val).toNat * 512 + (y 0).val = 512 * (grid0.coords t 0).val + (y 0).val by
      rw [word_of_coord _ (coord_lt t), Nat.mul_comm])

theorem place1 (t : Fin cfg0.N) (y : S512x1024.Idx) : (((cfg0.win 5).rect t).emb y (show Fin 2 from 1)).val = (y 1).val :=
  (Pipeline.Window.rect_emb_val (cfg0.win 5) t y (show Fin 2 from 1)).trans
    (show 0 * 1024 + (y 1).val = (y 1).val by rw [Nat.zero_mul, Nat.zero_add])

theorem after_at (c : Dev nD) (hf : Finite m c) (t : Fin cfg0.N) (y : S512x1024.Idx) :
    (dats m 0 c).after 5 t y = result m c (((cfg0.win 5).rect t).emb y) := by
  rw [after0_5]
  exact block_at m c hf t y _ _ (place0 t y) (place1 t y)

/-- After the run the result array holds every token after the attention. -/
theorem arr_eq (c : Dev nD) (hf : Finite m c) : (dats m 0 c).arrAt 5 cfg0.N = result m c :=
  (dats m 0 c).arrAt_eq_of_covers 5 _ covers fun t _ y => after_at m c hf t y

/-- Over the extended reals the call and the reference end with the same result. -/
theorem same : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m g m' g' hpre hagree
  refine ⟨fun c => result m c, ?_, ?_⟩
  · refine (θ_run Cert.Kernel2Ideal.defs _ _).mono (fun r h c => ?_) (Cert.Kernel2Ideal.Value.run_blocks (F := Ideal) m g)
    exact ⟨(h c).1.trans (arr_eq m c (hpre c)), (h c).2⟩
  · refine (θ_run Cert.Reference2Ideal.defs _ _).mono (fun r h c => ⟨(h c).1.trans ?_, (h c).2⟩) (Cert.Reference2Ideal.Value.run (F := Ideal) m' g')
    obtain ⟨h0, h1, h2, h3, h4⟩ := hagree c
    refine (Cert.Reference2Ideal.Read.val_main_v43_eq (F := Ideal) _ _).trans (funext fun y => ?_)
    rw [h0, h1, h2, h3, h4]
    have e : y = ix2 (n0 := 65536) (n1 := 1024) (y 0) (y 1) := funext fun a => match a with | ⟨0, _⟩ => rfl | ⟨1, _⟩ => rfl
    refine (congrArg _ e).trans (Cert.Reference2Ideal.Attend.result_at _ _ _ _ _ (y 0) (y 1))

/-- The frames. -/
theorem frame_ideal : Cert.quiescent_Kernel2Ideal_pre_finite (hKernel2Ideal := Cert.Kernel2Ideal.Gen.facts) (hPre_finite := Cert.Pre_finite.Gen.facts) :=
  fun m g _ => Cert.Kernel2Ideal.Gen.frame m g

theorem frame_reference : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run (F := Ideal) m g)

theorem frame_reference_pre : Cert.quiescent_Reference2Ideal_pre_finite (hReference2Ideal := Cert.Reference2Ideal.Gen.facts)
    (hPre_finite := Cert.Pre_finite.Gen.facts) :=
  fun m g _ => frame_reference m g trivial

end Cert.Kernel2Ideal.Project

end
-- ==== Proof.K3.Body.lean ====
/-
What the call that adds the experts' output to the residual stream computes on a block, over the extended reals: the sum, and the norm of the
sum times the weights.
-/
module

public import proofs.«01_k».proof.Proof.Gen.Kernel3Ideal.Value
public import proofs.«01_k».proof.Proof.Norm
public import Idealize.ShloMosaic.Lib.ValueIdx
public import Idealize.ShloMosaic.Lib.WholeRead
public import Idealize.ShloMosaic.Lib.Pipeline.ValueKit

@[expose] public section

set_option maxRecDepth 16384

noncomputable section

namespace Cert.Kernel3Ideal.Project

open Cert.Kernel3Ideal Cert.Kernel3Ideal.Gen
open Idealize.ShloMosaic Idealize.ShloMosaic.TcCoe Idealize.ShloMosaic.Tactic
open Idealize.SL Idealize.SL.Sem
open Cert.Layer

/-- A block's row plus the token's eight rows of 128 features, at a feature. -/
def blockSum (x0 : Vec Ideal S512x1024 .f32) (x1 : Vec Ideal S4096x128 .f32) (r : Fin 512) (d : Fin 1024) : EReal :=
  x0 (ix2 (n0 := 512) (n1 := 1024) r d) + x1 (ix2 (n0 := 4096) (n1 := 128) ⟨8 * r.val + d.val / 128, by omega⟩ ⟨d.val % 128, by omega⟩)

/-- A load of row `s` of every token's eight rows, at a token and a lane. -/
theorem rows_at {M : Memref sig .tc .vmem S4096x128 .f32} (hM : M.IsWhole) (x1 : Vec Ideal S4096x128 .f32) (s : Fin 8) (inb) (r : Fin 512) (l : Fin 128) :
    View.readAt (Elt Ideal) M.view { off := ![s.val, 0], size := ![512, 128], stride := ![8, 1], inb := inb } (hM.unread x1) (ix2 (n0 := 512) (n1 := 128) r l)
      = x1 (ix2 (n0 := 4096) (n1 := 128) ⟨8 * r.val + s.val, by omega⟩ l) := by
  refine (hM.readAt_unread x1 _ _).trans (congrArg x1 (funext fun a => ?_))
  match a with
  | ⟨0, _⟩ => exact Fin.ext (by show s.val + 8 * r.val = 8 * r.val + s.val; omega)
  | ⟨1, _⟩ => exact Fin.ext (by show 0 + 1 * l.val = l.val; omega)

/-- The sum, of the eight rows of every token. -/
theorem pay1_at (x0 : Vec Ideal S512x1024 .f32) (x1 : Vec Ideal S4096x128 .f32) (v1 v2 v3 v4 v5 v6 v7 v8 : Vec Ideal S512x128 .f32)
    (h1 : ∀ (r : Fin 512) (l : Fin 128), v1 (ix2 (n0 := 512) (n1 := 128) r l) = x1 (ix2 (n0 := 4096) (n1 := 128) ⟨8 * r.val + 0, by omega⟩ l))
    (h2 : ∀ (r : Fin 512) (l : Fin 128), v2 (ix2 (n0 := 512) (n1 := 128) r l) = x1 (ix2 (n0 := 4096) (n1 := 128) ⟨8 * r.val + 1, by omega⟩ l))
    (h3 : ∀ (r : Fin 512) (l : Fin 128), v3 (ix2 (n0 := 512) (n1 := 128) r l) = x1 (ix2 (n0 := 4096) (n1 := 128) ⟨8 * r.val + 2, by omega⟩ l))
    (h4 : ∀ (r : Fin 512) (l : Fin 128), v4 (ix2 (n0 := 512) (n1 := 128) r l) = x1 (ix2 (n0 := 4096) (n1 := 128) ⟨8 * r.val + 3, by omega⟩ l))
    (h5 : ∀ (r : Fin 512) (l : Fin 128), v5 (ix2 (n0 := 512) (n1 := 128) r l) = x1 (ix2 (n0 := 4096) (n1 := 128) ⟨8 * r.val + 4, by omega⟩ l))
    (h6 : ∀ (r : Fin 512) (l : Fin 128), v6 (ix2 (n0 := 512) (n1 := 128) r l) = x1 (ix2 (n0 := 4096) (n1 := 128) ⟨8 * r.val + 5, by omega⟩ l))
    (h7 : ∀ (r : Fin 512) (l : Fin 128), v7 (ix2 (n0 := 512) (n1 := 128) r l) = x1 (ix2 (n0 := 4096) (n1 := 128) ⟨8 * r.val + 6, by omega⟩ l))
    (h8 : ∀ (r : Fin 512) (l : Fin 128), v8 (ix2 (n0 := 512) (n1 := 128) r l) = x1 (ix2 (n0 := 4096) (n1 := 128) ⟨8 * r.val + 7, by omega⟩ l))
    (r : Fin 512) (d : Fin 1024) :
    k0_pay1 (F := Ideal) x0 v1 v2 v3 v4 v5 v6 v7 v8 (ix2 (n0 := 512) (n1 := 1024) r d) = blockSum x0 x1 r d := by
  have hd := d.isLt
  have go : ∀ (s : ℕ) (hs : s < 8) (l : ℕ) (hl : l < 128), d.val = 128 * s + l →
      x1 (ix2 (n0 := 4096) (n1 := 128) ⟨8 * r.val + s, by omega⟩ ⟨l, hl⟩)
        = x1 (ix2 (n0 := 4096) (n1 := 128) ⟨8 * r.val + d.val / 128, by omega⟩ ⟨d.val % 128, by omega⟩) := fun s hs l hl e =>
    congrArg x1 (congrArg₂ (ix2 (n0 := 4096) (n1 := 128)) (Fin.ext (by show 8 * r.val + s = 8 * r.val + d.val / 128; omega)) (Fin.ext (by show l = d.val % 128; omega)))
  unfold blockSum
  pointwise [k0_pay1]
  refine congrArg (x0 (ix2 (n0 := 512) (n1 := 1024) r d) + ·) ?_
  split
  · exact (h1 _ _).trans (go 0 (by omega) d.val (by omega) (by omega))
  split
  · exact (h2 _ _).trans (go 1 (by omega) (d.val - 128) (by omega) (by omega))
  split
  · exact (h3 _ _).trans (go 2 (by omega) (d.val - 128 - 128) (by omega) (by omega))
  split
  · exact (h4 _ _).trans (go 3 (by omega) (d.val - 128 - 128 - 128) (by omega) (by omega))
  split
  · exact (h5 _ _).trans (go 4 (by omega) (d.val - 128 - 128 - 128 - 128) (by omega) (by omega))
  split
  · exact (h6 _ _).trans (go 5 (by omega) (d.val - 128 - 128 - 128 - 128 - 128) (by omega) (by omega))
  split
  · exact (h7 _ _).trans (go 6 (by omega) (d.val - 128 - 128 - 128 - 128 - 128 - 128) (by omega) (by omega))
  exact (h8 _ _).trans (go 7 (by omega) (d.val - 128 - 128 - 128 - 128 - 128 - 128 - 128) (by omega) (by omega))

/-- The second result, of the sum. -/
theorem pay2_at (v0 : Vec Ideal S512x1024 .f32) (v1 v2 v3 v4 v5 v6 v7 v8 : Vec Ideal S512x128 .f32) (x2 : Vec Ideal S1x1024 .f32)
    (x3 : Vec Ideal S1024x3072 .bf16) (r : Fin 512) (d : Fin 3072) :
    k0_pay2 (F := Ideal) v0 v1 v2 v3 v4 v5 v6 v7 v8 x2 x3 (ix2 (n0 := 512) (n1 := 3072) r d)
      = ∑ k : Fin 1024, normed (fun j => k0_pay1 (F := Ideal) v0 v1 v2 v3 v4 v5 v6 v7 v8 (ix2 (n0 := 512) (n1 := 1024) r j))
          (fun j => x2 (ix2 (n0 := 1) (n1 := 1024) 0 j)) k * x3 (ix2 (n0 := 1024) (n1 := 3072) k d) := by
  unfold normed
  pointwise [k0_pay2]

section Run

variable (c : Dev nD) (i : grid0.Coords) (arg1 : Memref sig .tc .vmem S512x1024 .f32) (harg1 : arg1.IsWhole) (arg2 : Memref sig .tc .vmem S4096x128 .f32)
  (harg2 : arg2.IsWhole) (arg3 : Memref sig .tc .vmem S1x1024 .f32) (harg3 : arg3.IsWhole) (arg4 : Memref sig .tc .vmem S1024x3072 .bf16)
  (harg4 : arg4.IsWhole) (arg5 : Memref sig .tc .vmem S512x1024 .f32) (harg5 : arg5.IsWhole) (arg6 : Memref sig .tc .vmem S512x3072 .bf16)
  (harg6 : arg6.IsWhole) (x0 : Vec Ideal S512x1024 .f32) (x1 : Vec Ideal S4096x128 .f32) (x2 : Vec Ideal S1x1024 .f32) (x3 : Vec Ideal S1024x3072 .bf16)

theorem zeros : (![0, 0] : Fin 2 → ℕ) = fun _ => 0 := funext fun a => match a with | ⟨0, _⟩ => rfl | ⟨1, _⟩ => rfl

/-- A load of a whole buffer. -/
theorem load_whole {s : Shape} {e : EltTy} {off : Fin s.rank → ℕ} (h0 : off = fun _ => 0) {M : Memref sig .tc .vmem s e} (hM : M.IsWhole) (x : Vec Ideal s e) (inb) :
    View.readAt (Elt Ideal) M.view (Rect.unit (s := s) off s.size inb).toLoadRect (hM.unread x) = x := by
  subst h0
  refine funext fun y => (hM.readAt_unread x _ y).trans (congrArg x (funext fun a => Fin.ext ?_))
  show 0 + 1 * (y a).val = (y a).val
  omega

theorem out4_at (r : Fin 512) (d : Fin 1024) :
    out0_A_4 (F := Ideal) c i arg1 harg1 arg2 harg2 arg3 harg3 arg4 harg4 arg5 harg5 arg6 harg6 x0 x1 x2 x3 (ix2 (n0 := 512) (n1 := 1024) r d)
      = blockSum x0 x1 r d := by
  unfold out0_A_4
  rw [View.read_writes_junk_eq_canon]
  unfold kernelRun0_A
  dsimp only
  rw [View.canon_unit_zero zeros]
  refine (pay1_at _ x1 _ _ _ _ _ _ _ _ (fun r l => rows_at harg2 x1 0 _ r l) (fun r l => rows_at harg2 x1 1 _ r l) (fun r l => rows_at harg2 x1 2 _ r l)
    (fun r l => rows_at harg2 x1 3 _ r l) (fun r l => rows_at harg2 x1 4 _ r l) (fun r l => rows_at harg2 x1 5 _ r l) (fun r l => rows_at harg2 x1 6 _ r l)
    (fun r l => rows_at harg2 x1 7 _ r l) r d).trans (congrArg (blockSum · x1 r d) (load_whole (s := S512x1024) zeros harg1 x0 _))

theorem out5_at (r : Fin 512) (d : Fin 3072) :
    out0_A_5 (F := Ideal) c i arg1 harg1 arg2 harg2 arg3 harg3 arg4 harg4 arg5 harg5 arg6 harg6 x0 x1 x2 x3 (ix2 (n0 := 512) (n1 := 3072) r d)
      = ∑ k : Fin 1024, normed (blockSum x0 x1 r) (fun j => x2 (ix2 (n0 := 1) (n1 := 1024) 0 j)) k * x3 (ix2 (n0 := 1024) (n1 := 3072) k d) := by
  unfold out0_A_5
  rw [View.read_writes_junk_eq_canon]
  unfold kernelRun0_A
  dsimp only
  rw [View.canon_unit_zero zeros]
  unfold kernelRun0_A.sl.r
  refine (pay2_at _ _ _ _ _ _ _ _ _ _ _ r d).trans (Finset.sum_congr rfl fun k _ => congrArg₂ (· * ·) (normed_congr (fun j => ?_) (fun j => ?_) k) ?_)
  · exact (pay1_at _ x1 _ _ _ _ _ _ _ _ (fun r l => rows_at harg2 x1 0 _ r l) (fun r l => rows_at harg2 x1 1 _ r l) (fun r l => rows_at harg2 x1 2 _ r l)
      (fun r l => rows_at harg2 x1 3 _ r l) (fun r l => rows_at harg2 x1 4 _ r l) (fun r l => rows_at harg2 x1 5 _ r l) (fun r l => rows_at harg2 x1 6 _ r l)
      (fun r l => rows_at harg2 x1 7 _ r l) r j).trans (congrArg (blockSum · x1 r j) (load_whole (s := S512x1024) zeros harg1 x0 _))
  · exact congrFun (load_whole (s := S1x1024) zeros harg3 x2 _) _
  · exact congrFun (load_whole (s := S1024x3072) zeros harg4 x3 _) _

end Run

end Cert.Kernel3Ideal.Project

end
-- ==== Proof.K3.Value.lean ====
/-
The experts' output added to the residual stream, and the input projection of the norm of the sum: what the call leaves in its two
results over the extended reals, and that the reference computes the same.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.K3.Body
public import Idealize.ShloMosaic.Lib.ValueIdx
public import Idealize.ShloMosaic.Lib.ValueLayout
public import Idealize.ShloMosaic.Lib.Pipeline.ValueKit
public import Idealize.ShloMosaic.Lib.Pipeline.Covers

@[expose] public section

set_option maxRecDepth 16384

noncomputable section

namespace Cert.Kernel3Ideal.Project

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)
open Cert.Layer

/-- The residual stream plus the experts' output, eight rows of 128 to a token, at a token and a feature. -/
def summed (x : S65536x1024.Idx → EReal) (e : S524288x128.Idx → EReal) (n : Fin 65536) (d : Fin 1024) : EReal :=
  x (ix2 n d) + e (ix2 ⟨8 * n.val + d.val / 128, by omega⟩ ⟨d.val % 128, by omega⟩)

/-- The norm of the sum times the weights, at a column. -/
def projected (x : S65536x1024.Idx → EReal) (e : S524288x128.Idx → EReal) (g : S1024.Idx → EReal) (w : S1024x3072.Idx → EReal) (n : Fin 65536) (d : Fin 3072) : EReal :=
  ∑ k : Fin 1024, normed (summed x e n) (fun j => g (ix1 j)) k * w (ix2 k d)

variable (m : (ℓ : Loc nD τ sig) → Buf (Elt Ideal) ℓ)

def argX (c : Dev nD) : S65536x1024.Idx → EReal := m ((c : Thread nD τ).loc main_arg0)
def argE (c : Dev nD) : S524288x128.Idx → EReal := m ((c : Thread nD τ).loc main_arg1)
def argG (c : Dev nD) : S1024.Idx → EReal := m ((c : Thread nD τ).loc main_arg2)
def argW (c : Dev nD) : S1024x3072.Idx → EReal := m ((c : Thread nD τ).loc main_arg3)

theorem coord_lt (t : Fin grid0.N) : (grid0.coords t 0).val < 128 := (grid0.coords t 0).isLt

theorem word_of_coord (n : ℕ) (h : n < 128) : (BitVec.ofNat 32 n).toNat = n := by
  rw [BitVec.toNat_ofNat]; omega

/-- The row of the arrays that a row of a point's block is. -/
abbrev row (t : Fin grid0.N) (r : Fin 512) : Fin 65536 := ⟨512 * (grid0.coords t 0).val + r.val, by have := coord_lt t; omega⟩

theorem iblk0_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S65536x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

theorem iblk1_at (c : Dev nD) (t : Fin cfg0.N) (r : Fin 4096) (l : Fin 128) :
    (iblk m c 1 t : S4096x128.Idx → EReal) (ix2 r l) = argE m c (ix2 ⟨4096 * (grid0.coords t 0).val + r.val, by have := coord_lt t; omega⟩ l) := by
  unfold iblk argE
  refine congrArg (m ((c : Thread nD τ).loc main_arg1) : S524288x128.Idx → EReal) (funext fun a => Fin.ext ?_)
  have h := Pipeline.Window.rect_emb_val (cfg0.win 1) t (ix2 (n0 := 4096) (n1 := 128) r l)
  match a with
  | ⟨0, p⟩ =>
    refine (h ⟨0, p⟩).trans ?_
    show (BitVec.ofNat 32 (grid0.coords t 0).val).toNat * 4096 + r.val = 4096 * (grid0.coords t 0).val + r.val
    rw [word_of_coord _ (coord_lt t)]; omega
  | ⟨1, p⟩ =>
    refine (h ⟨1, p⟩).trans ?_
    show 0 * 128 + l.val = l.val
    omega

/-- The gains as one row, which the host makes of them before the call. -/
theorem gains (c : Dev nD) : V m c main_v0 = shapeCast S1x1024 (m ((c : Thread nD τ).loc main_arg2)) shapeCasts_S1024_S1x1024 := by
  unfold V
  after_results
  rfl

theorem iblk2_at (c : Dev nD) (t : Fin cfg0.N) (k : Fin 1024) :
    (iblk m c 2 t : S1x1024.Idx → EReal) (ix2 0 k) = argG m c (ix1 k) := by
  refine Eq.trans ?_ ((congrFun (gains m c) (ix2 (n0 := 1) (n1 := 1024) 0 k)).trans (ValueIdx.shapeCast_a_1a_apply (argG m c) _ 0 k))
  unfold iblk
  refine congrArg (V m c main_v0 : S1x1024.Idx → EReal) (funext fun a => Fin.ext ?_)
  have h := Pipeline.Window.rect_emb_val (cfg0.win 2) t (ix2 (n0 := 1) (n1 := 1024) 0 k)
  match a with
  | ⟨0, p⟩ => exact h ⟨0, p⟩
  | ⟨1, p⟩ =>
    refine (h ⟨1, p⟩).trans ?_
    show 0 * 1024 + k.val = k.val
    omega

theorem iblk3_at (c : Dev nD) (t : Fin cfg0.N) (k : Fin 1024) (d : Fin 3072) :
    (iblk m c 3 t : S1024x3072.Idx → EReal) (ix2 k d) = argW m c (ix2 k d) := by
  unfold iblk argW
  refine congrArg (m ((c : Thread nD τ).loc main_arg3) : S1024x3072.Idx → EReal) (funext fun a => Fin.ext ?_)
  have h := Pipeline.Window.rect_emb_val (cfg0.win 3) t (ix2 (n0 := 1024) (n1 := 3072) k d)
  match a with
  | ⟨0, p⟩ =>
    refine (h ⟨0, p⟩).trans ?_
    show 0 * 1024 + k.val = k.val
    omega
  | ⟨1, p⟩ =>
    refine (h ⟨1, p⟩).trans ?_
    show 0 * 3072 + d.val = d.val
    omega

/-- A row of a point's sum. -/
theorem blockSum_at (c : Dev nD) (t : Fin cfg0.N) (r : Fin 512) (d : Fin 1024) :
    blockSum (iblk m c 0 t) (iblk m c 1 t) r d = summed (argX m c) (argE m c) (row t r) d := by
  unfold blockSum summed
  refine congrArg₂ (· + ·) (iblk0_at m c t r d) ((iblk1_at m c t _ _).trans (congrArg (argE m c) (congrArg₂ (ix2 (n0 := 524288) (n1 := 128)) (Fin.ext ?_) rfl)))
  show 4096 * (grid0.coords t 0).val + (8 * r.val + d.val / 128) = 8 * (512 * (grid0.coords t 0).val + r.val) + d.val / 128
  omega

/-- The blocks of a result cover it. -/
theorem covers4 : (cfg0.win 4).Covers := by
  have b0 : (cfg0.win 4).nblk (show Fin 2 from 0) = 128 := (rfl : (65536 + 512 - 1) / 512 = 128)
  have b1 : (cfg0.win 4).nblk (show Fin 2 from 1) = 1 := (rfl : (1024 + 1024 - 1) / 1024 = 1)
  refine Pipeline.Window.covers_of_indexMap_surj _ rfl (fun a => ?_) fun β => ?_
  · match a with
    | ⟨0, p⟩ => show 0 < 512; decide
    | ⟨1, p⟩ => show 0 < 1024; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result4 (c : Dev nD) : Buf (Elt Ideal) ((c : Thread nD τ).loc main_v1_0) := fun (y : S65536x1024.Idx) => summed (argX m c) (argE m c) (y 0) (y 1)

/-- A point's block of the result, at a row and a feature. -/
theorem block_at4 (c : Dev nD) (t : Fin cfg0.N) (y : S512x1024.Idx) (n : Fin 65536) (d : Fin 1024)
    (hn : n.val = 512 * (grid0.coords t 0).val + (y 0).val) (hd : d.val = (y 1).val) :
    (outsAt0 m c t).1 y = summed (argX m c) (argE m c) n d := by
  obtain rfl : n = row t (y 0) := Fin.ext hn
  obtain rfl : d = y 1 := Fin.ext hd
  have e : y = ix2 (n0 := 512) (n1 := 1024) (y 0) (y 1) := funext fun a => match a with | ⟨0, _⟩ => rfl | ⟨1, _⟩ => rfl
  refine (congrArg (outsAt0 m c t).1 e).trans ?_
  unfold outsAt0
  dsimp only
  refine (out4_at _ _ _ _ _ _ _ _ _ _ _ _ _ _ _ _ _ _ _ _).trans ?_
  exact blockSum_at m c t _ _

/-- A point's block lies in the result where its coordinate says. -/
theorem place04 (t : Fin cfg0.N) (y : S512x1024.Idx) :
    (((cfg0.win 4).rect t).emb y (show Fin 2 from 0)).val = 512 * (grid0.coords t 0).val + (y 0).val :=
  (Pipeline.Window.rect_emb_val (cfg0.win 4) t y (show Fin 2 from 0)).trans
    (show (BitVec.ofNat 32 (grid0.coords t 0).val).toNat * 512 + (y 0).val = 512 * (grid0.coords t 0).val + (y 0).val by
      rw [word_of_coord _ (coord_lt t), Nat.mul_comm])

theorem place14 (t : Fin cfg0.N) (y : S512x1024.Idx) : (((cfg0.win 4).rect t).emb y (show Fin 2 from 1)).val = (y 1).val :=
  (Pipeline.Window.rect_emb_val (cfg0.win 4) t y (show Fin 2 from 1)).trans
    (show 0 * 1024 + (y 1).val = (y 1).val by rw [Nat.zero_mul, Nat.zero_add])

theorem after_at4 (c : Dev nD) (t : Fin cfg0.N) (y : S512x1024.Idx) :
    (dats m 0 c).after 4 t y = result4 m c (((cfg0.win 4).rect t).emb y) := by
  rw [after0_4]
  exact block_at4 m c t y _ _ (place04 t y) (place14 t y)

/-- After the run the result array holds every row's sum. -/
theorem arr_eq4 (c : Dev nD) : (dats m 0 c).arrAt 4 cfg0.N = result4 m c :=
  (dats m 0 c).arrAt_eq_of_covers 4 _ covers4 fun t _ y => after_at4 m c t y

/-- The blocks of a result cover it. -/
theorem covers5 : (cfg0.win 5).Covers := by
  have b0 : (cfg0.win 5).nblk (show Fin 2 from 0) = 128 := (rfl : (65536 + 512 - 1) / 512 = 128)
  have b1 : (cfg0.win 5).nblk (show Fin 2 from 1) = 1 := (rfl : (3072 + 3072 - 1) / 3072 = 1)
  refine Pipeline.Window.covers_of_indexMap_surj _ rfl (fun a => ?_) fun β => ?_
  · match a with
    | ⟨0, p⟩ => show 0 < 512; decide
    | ⟨1, p⟩ => show 0 < 3072; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result5 (c : Dev nD) : Buf (Elt Ideal) ((c : Thread nD τ).loc main_v1_1) := fun (y : S65536x3072.Idx) => projected (argX m c) (argE m c) (argG m c) (argW m c) (y 0) (y 1)

/-- A point's block of the result, at a row and a feature. -/
theorem block_at5 (c : Dev nD) (t : Fin cfg0.N) (y : S512x3072.Idx) (n : Fin 65536) (d : Fin 3072)
    (hn : n.val = 512 * (grid0.coords t 0).val + (y 0).val) (hd : d.val = (y 1).val) :
    (outsAt0 m c t).2 y = projected (argX m c) (argE m c) (argG m c) (argW m c) n d := by
  obtain rfl : n = row t (y 0) := Fin.ext hn
  obtain rfl : d = y 1 := Fin.ext hd
  have e : y = ix2 (n0 := 512) (n1 := 3072) (y 0) (y 1) := funext fun a => match a with | ⟨0, _⟩ => rfl | ⟨1, _⟩ => rfl
  refine (congrArg (outsAt0 m c t).2 e).trans ?_
  unfold outsAt0
  dsimp only
  refine (out5_at _ _ _ _ _ _ _ _ _ _ _ _ _ _ _ _ _ _ _ _).trans ?_
  unfold projected
  exact Finset.sum_congr rfl fun k _ => congrArg₂ (· * ·) (normed_congr (fun j => blockSum_at m c t _ j) (fun j => iblk2_at m c t j) k) (iblk3_at m c t _ _)

/-- A point's block lies in the result where its coordinate says. -/
theorem place05 (t : Fin cfg0.N) (y : S512x3072.Idx) :
    (((cfg0.win 5).rect t).emb y (show Fin 2 from 0)).val = 512 * (grid0.coords t 0).val + (y 0).val :=
  (Pipeline.Window.rect_emb_val (cfg0.win 5) t y (show Fin 2 from 0)).trans
    (show (BitVec.ofNat 32 (grid0.coords t 0).val).toNat * 512 + (y 0).val = 512 * (grid0.coords t 0).val + (y 0).val by
      rw [word_of_coord _ (coord_lt t), Nat.mul_comm])

theorem place15 (t : Fin cfg0.N) (y : S512x3072.Idx) : (((cfg0.win 5).rect t).emb y (show Fin 2 from 1)).val = (y 1).val :=
  (Pipeline.Window.rect_emb_val (cfg0.win 5) t y (show Fin 2 from 1)).trans
    (show 0 * 3072 + (y 1).val = (y 1).val by rw [Nat.zero_mul, Nat.zero_add])

theorem after_at5 (c : Dev nD) (t : Fin cfg0.N) (y : S512x3072.Idx) :
    (dats m 0 c).after 5 t y = result5 m c (((cfg0.win 5).rect t).emb y) := by
  rw [after0_5]
  exact block_at5 m c t y _ _ (place05 t y) (place15 t y)

/-- After the run the result array holds every row's projection. -/
theorem arr_eq5 (c : Dev nD) : (dats m 0 c).arrAt 5 cfg0.N = result5 m c :=
  (dats m 0 c).arrAt_eq_of_covers 5 _ covers5 fun t _ y => after_at5 m c t y

end Cert.Kernel3Ideal.Project

namespace Cert.Kernel3Ideal.Project

open Idealize.ShloMosaic Idealize.ShloMosaic.TcCoe Idealize.SL Idealize.SL.Sem Cert.Layer

/-- The reference's first result. -/
theorem ref_sum (x : Cert.Reference3Ideal.S65536x1024.Idx → EReal) (e : Cert.Reference3Ideal.S524288x128.Idx → EReal)
    (y : Cert.Reference3Ideal.S65536x1024.Idx) :
    Cert.Reference3Ideal.Read.val_main_v1 (F := Ideal) x e y = summed x e (y 0) (y 1) := by
  have h0 : (y 0).val < 65536 := (y 0).isLt
  have h1 : (y 1).val < 1024 := (y 1).isLt
  rw [Cert.Reference3Ideal.Read.val_main_v1_apply, Cert.Reference3Ideal.Read.val_main_v0_apply]
  unfold summed
  refine congrArg₂ (· + ·) (congrArg x (funext fun b => match b with | ⟨0, _⟩ => rfl | ⟨1, _⟩ => rfl)) (congrArg e (funext fun b => ?_))
  match b with
  | ⟨0, _⟩ => exact Fin.ext (by show ((y 0).val * 1024 + (y 1).val) / 128 = 8 * (y 0).val + (y 1).val / 128; omega)
  | ⟨1, _⟩ => exact Fin.ext (by show ((y 0).val * 1024 + (y 1).val) % 128 = (y 1).val % 128; omega)

/-- The reference's second result. -/
theorem ref_eq (x : Cert.Reference3Ideal.S65536x1024.Idx → EReal) (e : Cert.Reference3Ideal.S524288x128.Idx → EReal) (g : Cert.Reference3Ideal.S1024.Idx → EReal)
    (w : Cert.Reference3Ideal.S1024x3072.Idx → EReal) (y : Cert.Reference3Ideal.S65536x3072.Idx) :
    Cert.Reference3Ideal.Read.val_main_v17 (F := Ideal) x e g w y = projected x e g w (y 0) (y 1) := by
  open Cert.Reference3Ideal.Read in
  rw [val_main_v17_apply, val_main_v16_apply]
  unfold projected normed
  refine Finset.sum_congr rfl fun k _ => ?_
  refine congrArg₂ (· * ·) ?_ (congrArg w (funext fun b => match b with | ⟨0, _⟩ => rfl | ⟨1, _⟩ => rfl))
  open Cert.Reference3Ideal.Read in
  rw [val_main_v14_apply, val_main_v13_apply, val_main_v12_apply, val_main_v11_apply, val_main_v10_apply, val_main_v9_apply, val_main_v8_apply, val_main_v7_apply,
    val_main_v6_apply, val_main_v5_apply, val_main_v4_apply, val_main_v3_apply, val_main_cst_apply, val_main_cst_0_apply,
    val_main_cst_1_apply]
  refine congrArg₂ (· * ·) (congrArg₂ (· * ·) (ref_sum x e _) (congrArg Ideal.rsqrt
    (congrArg (· + Ideal.ofBits .f32 0x358637BD#32) (congrArg (Ideal.div · (Ideal.ofBits .f32 0x44800000#32)) ?_))))
    (congrArg g (funext fun b => match b with | ⟨0, _⟩ => rfl))
  exact (congrArg (· + _) Ideal.ofBits_zero_f32).trans ((zero_add _).trans (Finset.sum_congr rfl fun j _ => congrArg₂ (· * ·) (ref_sum x e _) (ref_sum x e _)))

/-- Over the extended reals the call and the reference end with the same results. -/
theorem same : Cert.algebraic_Kernel3Ideal_Reference3Ideal (hKernel3Ideal := Cert.Kernel3Ideal.Gen.facts) (hReference3Ideal := Cert.Reference3Ideal.Gen.facts) := by
  intro m g m' g' _ hagree
  refine ⟨fun c => result4 m c, fun c => result5 m c, ?_, ?_⟩
  · refine (θ_run Cert.Kernel3Ideal.defs _ _).mono (fun r h c => ?_) (Cert.Kernel3Ideal.Value.run_blocks (F := Ideal) m g)
    exact ⟨(h c).1.trans (arr_eq4 m c), (h c).2.1.trans (arr_eq5 m c), (h c).2.2⟩
  · refine (θ_run Cert.Reference3Ideal.defs _ _).mono (fun r h c => ⟨(h c).1.trans ?_, (h c).2.1.trans ?_, (h c).2.2⟩)
      (Cert.Reference3Ideal.Value.run (F := Ideal) m' g')
    · obtain ⟨h0, h1, h2, h3⟩ := hagree c
      refine (Cert.Reference3Ideal.Read.val_main_v1_eq (F := Ideal) _ _).trans (funext fun y => ?_)
      rw [h0, h1]
      exact ref_sum _ _ y
    · obtain ⟨h0, h1, h2, h3⟩ := hagree c
      refine (Cert.Reference3Ideal.Read.val_main_v17_eq (F := Ideal) _ _ _ _).trans (funext fun y => ?_)
      rw [h0, h1, h2, h3]
      exact ref_eq _ _ _ _ y

/-- The frames. -/
theorem frame_reference : Cert.quiescent_Reference3Ideal (hReference3Ideal := Cert.Reference3Ideal.Gen.facts) :=
  fun m g _ => (θ_run Cert.Reference3Ideal.defs _ _).mono
    (fun r h => ⟨fun c => (h c).2.2, sem_eq_zero_of_no_sems (by decide) r.2⟩) (Cert.Reference3Ideal.Value.run (F := Ideal) m g)

end Cert.Kernel3Ideal.Project

end
-- ==== Proof.K4.Value.lean ====
/-
The input projection of the norm of the residual stream: what the call leaves in its result over the extended reals, and that the
reference computes the same.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Norm
public import Idealize.ShloMosaic.Lib.ValueIdx
public import Idealize.ShloMosaic.Lib.ValueLayout
public import Idealize.ShloMosaic.Lib.Pipeline.ValueKit
public import Idealize.ShloMosaic.Lib.Pipeline.Covers

@[expose] public section

set_option maxRecDepth 16384

noncomputable section

namespace Cert.Kernel4Ideal.Project

open Cert.Kernel4Ideal Cert.Kernel4Ideal.Gen
open Idealize.ShloMosaic Idealize.ShloMosaic.TcCoe Idealize.ShloMosaic.Tactic
open Idealize.SL Idealize.SL.Sem
open Idealize.ShloMosaic.Pipeline (Dat Cfg Window)
open Cert.Layer

/-- The norm of a row times the weights, at a column. -/
def projected (x : S65536x1024.Idx → EReal) (g : S1024.Idx → EReal) (w : S1024x3072.Idx → EReal) (n : Fin 65536) (d : Fin 3072) : EReal :=
  ∑ k : Fin 1024, normed (fun j => x (ix2 n j)) (fun j => g (ix1 j)) k * w (ix2 k d)

/-- What the body computes of its blocks. -/
theorem pay_at (x0 : Vec Ideal S512x1024 .f32) (x1 : Vec Ideal S1x1024 .f32) (x2 : Vec Ideal S1024x3072 .bf16) (r : Fin 512) (d : Fin 3072) :
    k0_pay1 (F := Ideal) x0 x1 x2 (ix2 (n0 := 512) (n1 := 3072) r d)
      = ∑ k : Fin 1024, normed (fun j => x0 (ix2 (n0 := 512) (n1 := 1024) r j)) (fun j => x1 (ix2 (n0 := 1) (n1 := 1024) 0 j)) k
          * x2 (ix2 (n0 := 1024) (n1 := 3072) k d) := by
  unfold normed
  pointwise [k0_pay1]

theorem out_at (x0 : Vec Ideal S512x1024 .f32) (x1 : Vec Ideal S1x1024 .f32) (x2 : Vec Ideal S1024x3072 .bf16) (r : Fin 512) (d : Fin 3072) :
    out0_3 (F := Ideal) x0 x1 x2 (ix2 (n0 := 512) (n1 := 3072) r d)
      = ∑ k : Fin 1024, normed (fun j => x0 (ix2 (n0 := 512) (n1 := 1024) r j)) (fun j => x1 (ix2 (n0 := 1) (n1 := 1024) 0 j)) k
          * x2 (ix2 (n0 := 1024) (n1 := 3072) k d) := by
  unfold out0_3
  have z : (![0, 0] : Fin 2 → ℕ) = fun _ => 0 := funext fun a => match a with | ⟨0, _⟩ => rfl | ⟨1, _⟩ => rfl
  rw [View.canon_unit_zero z, View.ld_unit_zero z, View.ld_unit_zero z, View.ld_unit_zero z]
  exact pay_at x0 x1 x2 r d

variable (m : (ℓ : Loc nD τ sig) → Buf (Elt Ideal) ℓ)

def argX (c : Dev nD) : S65536x1024.Idx → EReal := m ((c : Thread nD τ).loc main_arg0)
def argG (c : Dev nD) : S1024.Idx → EReal := m ((c : Thread nD τ).loc main_arg1)
def argW (c : Dev nD) : S1024x3072.Idx → EReal := m ((c : Thread nD τ).loc main_arg2)

theorem coord_lt (t : Fin grid0.N) : (grid0.coords t 0).val < 128 := (grid0.coords t 0).isLt

theorem word_of_coord (n : ℕ) (h : n < 128) : (BitVec.ofNat 32 n).toNat = n := by
  rw [BitVec.toNat_ofNat]; omega

/-- The row of the arrays that a row of a point's block is. -/
abbrev row (t : Fin grid0.N) (r : Fin 512) : Fin 65536 := ⟨512 * (grid0.coords t 0).val + r.val, by have := coord_lt t; omega⟩

theorem iblk0_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S65536x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

/-- The gains as one row, which the host makes of them before the call. -/
theorem gains (c : Dev nD) : V m c main_v0 = shapeCast S1x1024 (m ((c : Thread nD τ).loc main_arg1)) shapeCasts_S1024_S1x1024 := by
  unfold V
  after_results
  rfl

theorem iblk1_at (c : Dev nD) (t : Fin cfg0.N) (k : Fin 1024) :
    (iblk m c 1 t : S1x1024.Idx → EReal) (ix2 0 k) = argG m c (ix1 k) := by
  refine Eq.trans ?_ ((congrFun (gains m c) (ix2 (n0 := 1) (n1 := 1024) 0 k)).trans (ValueIdx.shapeCast_a_1a_apply (argG m c) _ 0 k))
  unfold iblk
  refine congrArg (V m c main_v0 : S1x1024.Idx → EReal) (funext fun a => Fin.ext ?_)
  have h := Pipeline.Window.rect_emb_val (cfg0.win 1) t (ix2 (n0 := 1) (n1 := 1024) 0 k)
  match a with
  | ⟨0, p⟩ => exact h ⟨0, p⟩
  | ⟨1, p⟩ =>
    refine (h ⟨1, p⟩).trans ?_
    show 0 * 1024 + k.val = k.val
    omega

theorem iblk2_at (c : Dev nD) (t : Fin cfg0.N) (k : Fin 1024) (d : Fin 3072) :
    (iblk m c 2 t : S1024x3072.Idx → EReal) (ix2 k d) = argW m c (ix2 k d) := by
  unfold iblk argW
  refine congrArg (m ((c : Thread nD τ).loc main_arg2) : S1024x3072.Idx → EReal) (funext fun a => Fin.ext ?_)
  have h := Pipeline.Window.rect_emb_val (cfg0.win 2) t (ix2 (n0 := 1024) (n1 := 3072) k d)
  match a with
  | ⟨0, p⟩ =>
    refine (h ⟨0, p⟩).trans ?_
    show 0 * 1024 + k.val = k.val
    omega
  | ⟨1, p⟩ =>
    refine (h ⟨1, p⟩).trans ?_
    show 0 * 3072 + d.val = d.val
    omega

/-- The blocks of the result cover it. -/
theorem covers : (cfg0.win 3).Covers := by
  have b0 : (cfg0.win 3).nblk (show Fin 2 from 0) = 128 := (rfl : (65536 + 512 - 1) / 512 = 128)
  have b1 : (cfg0.win 3).nblk (show Fin 2 from 1) = 1 := (rfl : (3072 + 3072 - 1) / 3072 = 1)
  refine Pipeline.Window.covers_of_indexMap_surj _ rfl (fun a => ?_) fun β => ?_
  · match a with
    | ⟨0, p⟩ => show 0 < 512; decide
    | ⟨1, p⟩ => show 0 < 3072; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result (c : Dev nD) : Buf (Elt Ideal) ((c : Thread nD τ).loc main_v1) := fun (y : S65536x3072.Idx) => projected (argX m c) (argG m c) (argW m c) (y 0) (y 1)

/-- A point's block of the result, at a row and a feature. -/
theorem block_at (c : Dev nD) (t : Fin cfg0.N) (y : S512x3072.Idx) (n : Fin 65536) (d : Fin 3072)
    (hn : n.val = 512 * (grid0.coords t 0).val + (y 0).val) (hd : d.val = (y 1).val) :
    out0_3 (F := Ideal) (iblk m c 0 t) (iblk m c 1 t) (iblk m c 2 t) y = projected (argX m c) (argG m c) (argW m c) n d := by
  obtain rfl : n = row t (y 0) := Fin.ext hn
  obtain rfl : d = y 1 := Fin.ext hd
  have e : y = ix2 (n0 := 512) (n1 := 3072) (y 0) (y 1) := funext fun a => match a with | ⟨0, _⟩ => rfl | ⟨1, _⟩ => rfl
  refine (congrArg (out0_3 (F := Ideal) (iblk m c 0 t) (iblk m c 1 t) (iblk m c 2 t)) e).trans ((out_at _ _ _ _ _).trans ?_)
  unfold projected
  exact Finset.sum_congr rfl fun k _ => congrArg₂ (· * ·) (normed_congr (fun j => iblk0_at m c t _ j) (fun j => iblk1_at m c t j) k) (iblk2_at m c t _ _)

/-- A point's block lies in the result where its coordinate says. -/
theorem place0 (t : Fin cfg0.N) (y : S512x3072.Idx) :
    (((cfg0.win 3).rect t).emb y (show Fin 2 from 0)).val = 512 * (grid0.coords t 0).val + (y 0).val :=
  (Pipeline.Window.rect_emb_val (cfg0.win 3) t y (show Fin 2 from 0)).trans
    (show (BitVec.ofNat 32 (grid0.coords t 0).val).toNat * 512 + (y 0).val = 512 * (grid0.coords t 0).val + (y 0).val by
      rw [word_of_coord _ (coord_lt t), Nat.mul_comm])

theorem place1 (t : Fin cfg0.N) (y : S512x3072.Idx) : (((cfg0.win 3).rect t).emb y (show Fin 2 from 1)).val = (y 1).val :=
  (Pipeline.Window.rect_emb_val (cfg0.win 3) t y (show Fin 2 from 1)).trans
    (show 0 * 3072 + (y 1).val = (y 1).val by rw [Nat.zero_mul, Nat.zero_add])

theorem after_at (c : Dev nD) (t : Fin cfg0.N) (y : S512x3072.Idx) :
    (dats m 0 c).after 3 t y = result m c (((cfg0.win 3).rect t).emb y) := by
  rw [after0_3]
  exact block_at m c t y _ _ (place0 t y) (place1 t y)

/-- After the run the result array holds every row's projection. -/
theorem arr_eq (c : Dev nD) : (dats m 0 c).arrAt 3 cfg0.N = result m c :=
  (dats m 0 c).arrAt_eq_of_covers 3 _ covers fun t _ y => after_at m c t y

end Cert.Kernel4Ideal.Project

namespace Cert.Kernel4Ideal.Project

open Idealize.ShloMosaic Idealize.ShloMosaic.TcCoe Idealize.SL Idealize.SL.Sem Cert.Layer

/-- The reference's result. -/
theorem ref_eq (x : Cert.Reference4Ideal.S65536x1024.Idx → EReal) (g : Cert.Reference4Ideal.S1024.Idx → EReal)
    (w : Cert.Reference4Ideal.S1024x3072.Idx → EReal) (y : Cert.Reference4Ideal.S65536x3072.Idx) :
    Cert.Reference4Ideal.Read.val_main_v15 (F := Ideal) x g w y = projected x g w (y 0) (y 1) := by
  open Cert.Reference4Ideal.Read in
  rw [val_main_v15_apply, val_main_v14_apply]
  unfold projected normed
  refine Finset.sum_congr rfl fun k _ => ?_
  open Cert.Reference4Ideal.Read in
  refine congrArg₂ (· * ·) ?_ (congrArg w (funext fun b => match b with | ⟨0, _⟩ => rfl | ⟨1, _⟩ => rfl))
  open Cert.Reference4Ideal.Read in
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_cst_apply, val_main_cst_0_apply,
    val_main_cst_1_apply]
  have hx : ∀ j : Fin 1024, x (Cert.Reference4Ideal.Read.idx_main_v1 (Cert.Reference4Ideal.Read.idx_main_v2 (Cert.Reference4Ideal.Read.idx_main_v8
      (Cert.Reference4Ideal.Read.lidx_main_v14 y k))) j) = x (ix2 (n0 := 65536) (n1 := 1024) (y 0) j) :=
    fun j => congrArg x (funext fun b => match b with | ⟨0, _⟩ => rfl | ⟨1, _⟩ => rfl)
  refine congrArg₂ (· * ·) (congrArg₂ (· * ·) (congrArg x (funext fun b => match b with | ⟨0, _⟩ => rfl | ⟨1, _⟩ => rfl)) (congrArg Ideal.rsqrt
    (congrArg (· + Ideal.ofBits .f32 0x358637BD#32) (congrArg (Ideal.div · (Ideal.ofBits .f32 0x44800000#32)) ?_))))
    (congrArg g (funext fun b => match b with | ⟨0, _⟩ => rfl))
  exact (congrArg (· + _) Ideal.ofBits_zero_f32).trans ((zero_add _).trans (Finset.sum_congr rfl fun j _ => congrArg₂ (· * ·) (hx j) (hx j)))

/-- Over the extended reals the call and the reference end with the same result. -/
theorem same : Cert.algebraic_Kernel4Ideal_Reference4Ideal (hKernel4Ideal := Cert.Kernel4Ideal.Gen.facts) (hReference4Ideal := Cert.Reference4Ideal.Gen.facts) := by
  intro m g m' g' _ hagree
  refine ⟨fun c => result m c, ?_, ?_⟩
  · refine (θ_run Cert.Kernel4Ideal.defs _ _).mono (fun r h c => ?_) (Cert.Kernel4Ideal.Value.run_blocks (F := Ideal) m g)
    exact ⟨(h c).1.trans (arr_eq m c), (h c).2⟩
  · refine (θ_run Cert.Reference4Ideal.defs _ _).mono (fun r h c => ⟨(h c).1.trans ?_, (h c).2⟩) (Cert.Reference4Ideal.Value.run (F := Ideal) m' g')
    obtain ⟨h0, h1, h2⟩ := hagree c
    refine (Cert.Reference4Ideal.Read.val_main_v15_eq (F := Ideal) _ _ _).trans (funext fun y => ?_)
    rw [h0, h1, h2]
    exact ref_eq _ _ _ y

/-- The frames. -/
theorem frame_reference : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩) (Cert.Reference4Ideal.Value.run (F := Ideal) m g)

end Cert.Kernel4Ideal.Project

end
-- ==== Proof.K5.Value.lean ====
/-
The output projection of one mixer added to the residual stream: what the call leaves in its result over the extended reals, and that the
reference computes the same.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.ValueIdx
public import Idealize.ShloMosaic.Lib.Pipeline.ValueKit
public import Idealize.ShloMosaic.Lib.Pipeline.Covers

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Idealize.SL Idealize.SL.Sem
open Idealize.ShloMosaic.Pipeline (Dat Cfg Window)

/-- A row of the residual stream plus the mixer's row times the weights, at a feature. -/
def projected (x : S65536x1024.Idx → EReal) (a : S65536x1024.Idx → EReal) (w : S1024x1024.Idx → EReal) (n : Fin 65536) (d : Fin 1024) : EReal :=
  x (ix2 n d) + ∑ k : Fin 1024, a (ix2 n k) * w (ix2 k d)

/-- What the body computes of its blocks. -/
theorem pay_at (x0 : Vec Ideal S512x1024 .f32) (x1 : Vec Ideal S512x1024 .bf16) (x2 : Vec Ideal S1024x1024 .bf16) (r : Fin 512) (d : Fin 1024) :
    k0_pay1 (F := Ideal) x1 x0 x2 (ix2 (n0 := 512) (n1 := 1024) r d)
      = x0 (ix2 (n0 := 512) (n1 := 1024) r d) + ∑ k : Fin 1024, x1 (ix2 (n0 := 512) (n1 := 1024) r k) * x2 (ix2 (n0 := 1024) (n1 := 1024) k d) := by
  pointwise [k0_pay1]

theorem out_at (x0 : Vec Ideal S512x1024 .f32) (x1 : Vec Ideal S512x1024 .bf16) (x2 : Vec Ideal S1024x1024 .bf16) (r : Fin 512) (d : Fin 1024) :
    out0_3 (F := Ideal) x0 x1 x2 (ix2 (n0 := 512) (n1 := 1024) r d)
      = x0 (ix2 (n0 := 512) (n1 := 1024) r d) + ∑ k : Fin 1024, x1 (ix2 (n0 := 512) (n1 := 1024) r k) * x2 (ix2 (n0 := 1024) (n1 := 1024) k d) := by
  unfold out0_3
  have z : (![0, 0] : Fin 2 → ℕ) = fun _ => 0 := funext fun a => match a with | ⟨0, _⟩ => rfl | ⟨1, _⟩ => rfl
  rw [View.canon_unit_zero z, View.ld_unit_zero z, View.ld_unit_zero z, View.ld_unit_zero z]
  exact pay_at x0 x1 x2 r d

variable (m : (ℓ : Loc nD τ sig) → Buf (Elt Ideal) ℓ)

def argX (c : Dev nD) : S65536x1024.Idx → EReal := m ((c : Thread nD τ).loc main_arg0)
def argA (c : Dev nD) : S65536x1024.Idx → EReal := m ((c : Thread nD τ).loc main_arg1)
def argW (c : Dev nD) : S1024x1024.Idx → EReal := m ((c : Thread nD τ).loc main_arg2)

theorem coord_lt (t : Fin grid0.N) : (grid0.coords t 0).val < 128 := (grid0.coords t 0).isLt

theorem word_of_coord (n : ℕ) (h : n < 128) : (BitVec.ofNat 32 n).toNat = n := by
  rw [BitVec.toNat_ofNat]; omega

/-- The row of the arrays that a row of a point's block is. -/
abbrev row (t : Fin grid0.N) (r : Fin 512) : Fin 65536 := ⟨512 * (grid0.coords t 0).val + r.val, by have := coord_lt t; omega⟩

theorem iblk0_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S65536x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

theorem iblk1_at (c : Dev nD) (t : Fin cfg0.N) (r : Fin 512) (d : Fin 1024) :
    (iblk m c 1 t : S512x1024.Idx → EReal) (ix2 r d) = argA m c (ix2 (row t r) d) := by
  unfold iblk argA
  refine congrArg (m ((c : Thread nD τ).loc main_arg1) : S65536x1024.Idx → EReal) (funext fun a => Fin.ext ?_)
  have h := Pipeline.Window.rect_emb_val (cfg0.win 1) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

theorem iblk2_at (c : Dev nD) (t : Fin cfg0.N) (k d : Fin 1024) :
    (iblk m c 2 t : S1024x1024.Idx → EReal) (ix2 k d) = argW m c (ix2 k d) := by
  unfold iblk argW
  refine congrArg (m ((c : Thread nD τ).loc main_arg2) : S1024x1024.Idx → EReal) (funext fun a => Fin.ext ?_)
  have h := Pipeline.Window.rect_emb_val (cfg0.win 2) t (ix2 (n0 := 1024) (n1 := 1024) k d)
  match a with
  | ⟨0, p⟩ =>
    refine (h ⟨0, p⟩).trans ?_
    show 0 * 1024 + k.val = k.val
    omega
  | ⟨1, p⟩ =>
    refine (h ⟨1, p⟩).trans ?_
    show 0 * 1024 + d.val = d.val
    omega

/-- The blocks of the result cover it. -/
theorem covers : (cfg0.win 3).Covers := by
  have b0 : (cfg0.win 3).nblk (show Fin 2 from 0) = 128 := (rfl : (65536 + 512 - 1) / 512 = 128)
  have b1 : (cfg0.win 3).nblk (show Fin 2 from 1) = 1 := (rfl : (1024 + 1024 - 1) / 1024 = 1)
  refine Pipeline.Window.covers_of_indexMap_surj _ rfl (fun a => ?_) fun β => ?_
  · match a with
    | ⟨0, p⟩ => show 0 < 512; decide
    | ⟨1, p⟩ => show 0 < 1024; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result (c : Dev nD) : Buf (Elt Ideal) ((c : Thread nD τ).loc main_v0) := fun (y : S65536x1024.Idx) => projected (argX m c) (argA m c) (argW m c) (y 0) (y 1)

/-- A point's block of the result, at a row and a feature. -/
theorem block_at (c : Dev nD) (t : Fin cfg0.N) (y : S512x1024.Idx) (n : Fin 65536) (d : Fin 1024)
    (hn : n.val = 512 * (grid0.coords t 0).val + (y 0).val) (hd : d.val = (y 1).val) :
    out0_3 (F := Ideal) (iblk m c 0 t) (iblk m c 1 t) (iblk m c 2 t) y = projected (argX m c) (argA m c) (argW m c) n d := by
  obtain rfl : n = row t (y 0) := Fin.ext hn
  obtain rfl : d = y 1 := Fin.ext hd
  have e : y = ix2 (n0 := 512) (n1 := 1024) (y 0) (y 1) := funext fun a => match a with | ⟨0, _⟩ => rfl | ⟨1, _⟩ => rfl
  refine (congrArg (out0_3 (F := Ideal) (iblk m c 0 t) (iblk m c 1 t) (iblk m c 2 t)) e).trans ((out_at _ _ _ _ _).trans ?_)
  unfold projected
  exact congrArg₂ (· + ·) (iblk0_at m c t _ _) (Finset.sum_congr rfl fun k _ => congrArg₂ (· * ·) (iblk1_at m c t _ _) (iblk2_at m c t _ _))

/-- A point's block lies in the result where its coordinate says. -/
theorem place0 (t : Fin cfg0.N) (y : S512x1024.Idx) :
    (((cfg0.win 3).rect t).emb y (show Fin 2 from 0)).val = 512 * (grid0.coords t 0).val + (y 0).val :=
  (Pipeline.Window.rect_emb_val (cfg0.win 3) t y (show Fin 2 from 0)).trans
    (show (BitVec.ofNat 32 (grid0.coords t 0).val).toNat * 512 + (y 0).val = 512 * (grid0.coords t 0).val + (y 0).val by
      rw [word_of_coord _ (coord_lt t), Nat.mul_comm])

theorem place1 (t : Fin cfg0.N) (y : S512x1024.Idx) : (((cfg0.win 3).rect t).emb y (show Fin 2 from 1)).val = (y 1).val :=
  (Pipeline.Window.rect_emb_val (cfg0.win 3) t y (show Fin 2 from 1)).trans
    (show 0 * 1024 + (y 1).val = (y 1).val by rw [Nat.zero_mul, Nat.zero_add])

theorem after_at (c : Dev nD) (t : Fin cfg0.N) (y : S512x1024.Idx) :
    (dats m 0 c).after 3 t y = result m c (((cfg0.win 3).rect t).emb y) := by
  rw [after0_3]
  exact block_at m c t y _ _ (place0 t y) (place1 t y)

/-- After the run the result array holds every row's projection. -/
theorem arr_eq (c : Dev nD) : (dats m 0 c).arrAt 3 cfg0.N = result m c :=
  (dats m 0 c).arrAt_eq_of_covers 3 _ covers fun t _ y => after_at m c t y

end Cert.Kernel5Ideal.Project

namespace Cert.Kernel5Ideal.Project

open Idealize.ShloMosaic Idealize.ShloMosaic.TcCoe Idealize.SL Idealize.SL.Sem

/-- The reference's result. -/
theorem ref_eq (x : Cert.Reference5Ideal.S65536x1024.Idx → EReal) (a : Cert.Reference5Ideal.S65536x1024.Idx → EReal)
    (w : Cert.Reference5Ideal.S1024x1024.Idx → EReal) (y : Cert.Reference5Ideal.S65536x1024.Idx) :
    Cert.Reference5Ideal.Read.val_main_v3 (F := Ideal) x a w y = projected x a w (y 0) (y 1) := by
  rw [Cert.Reference5Ideal.Read.val_main_v3_apply, Cert.Reference5Ideal.Read.val_main_v2_apply]
  unfold projected
  refine congrArg₂ (· + ·) (congrArg x (funext fun b => match b with | ⟨0, _⟩ => rfl | ⟨1, _⟩ => rfl)) (Finset.sum_congr rfl fun k _ => ?_)
  exact congrArg₂ (· * ·) (congrArg a (funext fun b => match b with | ⟨0, _⟩ => rfl | ⟨1, _⟩ => rfl))
    (congrArg w (funext fun b => match b with | ⟨0, _⟩ => rfl | ⟨1, _⟩ => rfl))

/-- Over the extended reals the call and the reference end with the same result. -/
theorem same : Cert.algebraic_Kernel5Ideal_Reference5Ideal (hKernel5Ideal := Cert.Kernel5Ideal.Gen.facts) (hReference5Ideal := Cert.Reference5Ideal.Gen.facts) := by
  intro m g m' g' _ hagree
  refine ⟨fun c => result m c, ?_, ?_⟩
  · refine (θ_run Cert.Kernel5Ideal.defs _ _).mono (fun r h c => ?_) (Cert.Kernel5Ideal.Value.run_blocks (F := Ideal) m g)
    exact ⟨(h c).1.trans (arr_eq m c), (h c).2⟩
  · refine (θ_run Cert.Reference5Ideal.defs _ _).mono (fun r h c => ⟨(h c).1.trans ?_, (h c).2⟩) (Cert.Reference5Ideal.Value.run (F := Ideal) m' g')
    obtain ⟨h0, h1, h2⟩ := hagree c
    refine (Cert.Reference5Ideal.Read.val_main_v3_eq (F := Ideal) _ _ _).trans (funext fun y => ?_)
    rw [h0, h1, h2]
    exact ref_eq _ _ _ y

/-- The frames. -/
theorem frame_reference : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run (F := Ideal) m g)

end Cert.Kernel5Ideal.Project

end
-- ==== Proof.K6.Value.lean ====
/-
The output projection of two mixers side by side added to the residual stream: what the call leaves in its result over the extended reals, and that the
reference computes the same.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.ValueIdx
public import Idealize.ShloMosaic.Lib.Pipeline.ValueKit
public import Idealize.ShloMosaic.Lib.Pipeline.Covers

@[expose] public section

set_option maxRecDepth 16384

noncomputable section

namespace Cert.Kernel6Ideal.Project

open Cert.Kernel6Ideal Cert.Kernel6Ideal.Gen
open Idealize.ShloMosaic Idealize.ShloMosaic.TcCoe Idealize.ShloMosaic.Tactic
open Idealize.SL Idealize.SL.Sem
open Idealize.ShloMosaic.Pipeline (Dat Cfg Window)

/-- A row of the residual stream plus the two mixers' row times the weights, at a feature. -/
def projected (x : S65536x1024.Idx → EReal) (a b : S65536x512.Idx → EReal) (w : S1024x1024.Idx → EReal) (n : Fin 65536) (d : Fin 1024) : EReal :=
  x (ix2 n d) + ((∑ k : Fin 512, a (ix2 n k) * w (ix2 ⟨k.val, by omega⟩ d)) + ∑ k : Fin 512, b (ix2 n k) * w (ix2 ⟨512 + k.val, by omega⟩ d))

/-- What the body computes of its blocks. -/
theorem pay_at (x0 : Vec Ideal S512x1024 .f32) (x1 x2 : Vec Ideal S512x512 .bf16) (x3 : Vec Ideal S1024x1024 .bf16) (r : Fin 512) (d : Fin 1024) :
    k0_pay1 (F := Ideal) x1 x2 x0 x3 (ix2 (n0 := 512) (n1 := 1024) r d)
      = x0 (ix2 (n0 := 512) (n1 := 1024) r d)
        + ((∑ k : Fin 512, x1 (ix2 (n0 := 512) (n1 := 512) r k) * x3 (ix2 (n0 := 1024) (n1 := 1024) ⟨k.val, by omega⟩ d))
          + ∑ k : Fin 512, x2 (ix2 (n0 := 512) (n1 := 512) r k) * x3 (ix2 (n0 := 1024) (n1 := 1024) ⟨512 + k.val, by omega⟩ d)) := by
  pointwise [k0_pay1]

theorem out_at (x0 : Vec Ideal S512x1024 .f32) (x1 x2 : Vec Ideal S512x512 .bf16) (x3 : Vec Ideal S1024x1024 .bf16) (r : Fin 512) (d : Fin 1024) :
    out0_4 (F := Ideal) x0 x1 x2 x3 (ix2 (n0 := 512) (n1 := 1024) r d)
      = x0 (ix2 (n0 := 512) (n1 := 1024) r d)
        + ((∑ k : Fin 512, x1 (ix2 (n0 := 512) (n1 := 512) r k) * x3 (ix2 (n0 := 1024) (n1 := 1024) ⟨k.val, by omega⟩ d))
          + ∑ k : Fin 512, x2 (ix2 (n0 := 512) (n1 := 512) r k) * x3 (ix2 (n0 := 1024) (n1 := 1024) ⟨512 + k.val, by omega⟩ d)) := by
  unfold out0_4
  have z : (![0, 0] : Fin 2 → ℕ) = fun _ => 0 := funext fun a => match a with | ⟨0, _⟩ => rfl | ⟨1, _⟩ => rfl
  rw [View.canon_unit_zero z, View.ld_unit_zero z, View.ld_unit_zero z, View.ld_unit_zero z, View.ld_unit_zero z]
  exact pay_at x0 x1 x2 x3 r d

variable (m : (ℓ : Loc nD τ sig) → Buf (Elt Ideal) ℓ)

def argX (c : Dev nD) : S65536x1024.Idx → EReal := m ((c : Thread nD τ).loc main_arg0)
def argA (c : Dev nD) : S65536x512.Idx → EReal := m ((c : Thread nD τ).loc main_arg1)
def argB (c : Dev nD) : S65536x512.Idx → EReal := m ((c : Thread nD τ).loc main_arg2)
def argW (c : Dev nD) : S1024x1024.Idx → EReal := m ((c : Thread nD τ).loc main_arg3)

theorem coord_lt (t : Fin grid0.N) : (grid0.coords t 0).val < 128 := (grid0.coords t 0).isLt

theorem word_of_coord (n : ℕ) (h : n < 128) : (BitVec.ofNat 32 n).toNat = n := by
  rw [BitVec.toNat_ofNat]; omega

/-- The row of the arrays that a row of a point's block is. -/
abbrev row (t : Fin grid0.N) (r : Fin 512) : Fin 65536 := ⟨512 * (grid0.coords t 0).val + r.val, by have := coord_lt t; omega⟩

theorem iblk0_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S65536x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

theorem iblk1_at (c : Dev nD) (t : Fin cfg0.N) (r : Fin 512) (d : Fin 512) :
    (iblk m c 1 t : S512x512.Idx → EReal) (ix2 r d) = argA m c (ix2 (row t r) d) := by
  unfold iblk argA
  refine congrArg (m ((c : Thread nD τ).loc main_arg1) : S65536x512.Idx → EReal) (funext fun a => Fin.ext ?_)
  have h := Pipeline.Window.rect_emb_val (cfg0.win 1) t (ix2 (n0 := 512) (n1 := 512) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 512 + d.val = d.val
    omega

theorem iblk2_at (c : Dev nD) (t : Fin cfg0.N) (r : Fin 512) (d : Fin 512) :
    (iblk m c 2 t : S512x512.Idx → EReal) (ix2 r d) = argB m c (ix2 (row t r) d) := by
  unfold iblk argB
  refine congrArg (m ((c : Thread nD τ).loc main_arg2) : S65536x512.Idx → EReal) (funext fun a => Fin.ext ?_)
  have h := Pipeline.Window.rect_emb_val (cfg0.win 2) t (ix2 (n0 := 512) (n1 := 512) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 512 + d.val = d.val
    omega

theorem iblk3_at (c : Dev nD) (t : Fin cfg0.N) (k d : Fin 1024) :
    (iblk m c 3 t : S1024x1024.Idx → EReal) (ix2 k d) = argW m c (ix2 k d) := by
  unfold iblk argW
  refine congrArg (m ((c : Thread nD τ).loc main_arg3) : S1024x1024.Idx → EReal) (funext fun a => Fin.ext ?_)
  have h := Pipeline.Window.rect_emb_val (cfg0.win 3) t (ix2 (n0 := 1024) (n1 := 1024) k d)
  match a with
  | ⟨0, p⟩ =>
    refine (h ⟨0, p⟩).trans ?_
    show 0 * 1024 + k.val = k.val
    omega
  | ⟨1, p⟩ =>
    refine (h ⟨1, p⟩).trans ?_
    show 0 * 1024 + d.val = d.val
    omega

/-- The blocks of the result cover it. -/
theorem covers : (cfg0.win 4).Covers := by
  have b0 : (cfg0.win 4).nblk (show Fin 2 from 0) = 128 := (rfl : (65536 + 512 - 1) / 512 = 128)
  have b1 : (cfg0.win 4).nblk (show Fin 2 from 1) = 1 := (rfl : (1024 + 1024 - 1) / 1024 = 1)
  refine Pipeline.Window.covers_of_indexMap_surj _ rfl (fun a => ?_) fun β => ?_
  · match a with
    | ⟨0, p⟩ => show 0 < 512; decide
    | ⟨1, p⟩ => show 0 < 1024; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result (c : Dev nD) : Buf (Elt Ideal) ((c : Thread nD τ).loc main_v0) := fun (y : S65536x1024.Idx) => projected (argX m c) (argA m c) (argB m c) (argW m c) (y 0) (y 1)

/-- A point's block of the result, at a row and a feature. -/
theorem block_at (c : Dev nD) (t : Fin cfg0.N) (y : S512x1024.Idx) (n : Fin 65536) (d : Fin 1024)
    (hn : n.val = 512 * (grid0.coords t 0).val + (y 0).val) (hd : d.val = (y 1).val) :
    out0_4 (F := Ideal) (iblk m c 0 t) (iblk m c 1 t) (iblk m c 2 t) (iblk m c 3 t) y = projected (argX m c) (argA m c) (argB m c) (argW m c) n d := by
  obtain rfl : n = row t (y 0) := Fin.ext hn
  obtain rfl : d = y 1 := Fin.ext hd
  have e : y = ix2 (n0 := 512) (n1 := 1024) (y 0) (y 1) := funext fun a => match a with | ⟨0, _⟩ => rfl | ⟨1, _⟩ => rfl
  refine (congrArg (out0_4 (F := Ideal) (iblk m c 0 t) (iblk m c 1 t) (iblk m c 2 t) (iblk m c 3 t)) e).trans ((out_at _ _ _ _ _ _).trans ?_)
  unfold projected
  exact congrArg₂ (· + ·) (iblk0_at m c t _ _) (congrArg₂ (· + ·)
    (Finset.sum_congr rfl fun k _ => congrArg₂ (· * ·) (iblk1_at m c t _ _) (iblk3_at m c t _ _))
    (Finset.sum_congr rfl fun k _ => congrArg₂ (· * ·) (iblk2_at m c t _ _) (iblk3_at m c t _ _)))

/-- A point's block lies in the result where its coordinate says. -/
theorem place0 (t : Fin cfg0.N) (y : S512x1024.Idx) :
    (((cfg0.win 4).rect t).emb y (show Fin 2 from 0)).val = 512 * (grid0.coords t 0).val + (y 0).val :=
  (Pipeline.Window.rect_emb_val (cfg0.win 4) t y (show Fin 2 from 0)).trans
    (show (BitVec.ofNat 32 (grid0.coords t 0).val).toNat * 512 + (y 0).val = 512 * (grid0.coords t 0).val + (y 0).val by
      rw [word_of_coord _ (coord_lt t), Nat.mul_comm])

theorem place1 (t : Fin cfg0.N) (y : S512x1024.Idx) : (((cfg0.win 4).rect t).emb y (show Fin 2 from 1)).val = (y 1).val :=
  (Pipeline.Window.rect_emb_val (cfg0.win 4) t y (show Fin 2 from 1)).trans
    (show 0 * 1024 + (y 1).val = (y 1).val by rw [Nat.zero_mul, Nat.zero_add])

theorem after_at (c : Dev nD) (t : Fin cfg0.N) (y : S512x1024.Idx) :
    (dats m 0 c).after 4 t y = result m c (((cfg0.win 4).rect t).emb y) := by
  rw [after0_4]
  exact block_at m c t y _ _ (place0 t y) (place1 t y)

/-- After the run the result array holds every row's projection. -/
theorem arr_eq (c : Dev nD) : (dats m 0 c).arrAt 4 cfg0.N = result m c :=
  (dats m 0 c).arrAt_eq_of_covers 4 _ covers fun t _ y => after_at m c t y

end Cert.Kernel6Ideal.Project

namespace Cert.Kernel6Ideal.Project

open Idealize.ShloMosaic Idealize.ShloMosaic.TcCoe Idealize.SL Idealize.SL.Sem

/-- The reference's result. -/
theorem ref_eq (x : Cert.Reference6Ideal.S65536x1024.Idx → EReal) (a b : Cert.Reference6Ideal.S65536x512.Idx → EReal)
    (w : Cert.Reference6Ideal.S1024x1024.Idx → EReal) (y : Cert.Reference6Ideal.S65536x1024.Idx) :
    Cert.Reference6Ideal.Read.val_main_v4 (F := Ideal) x a b w y = projected x a b w (y 0) (y 1) := by
  rw [Cert.Reference6Ideal.Read.val_main_v4_apply, Cert.Reference6Ideal.Read.val_main_v3_apply]
  unfold projected
  refine congrArg₂ (· + ·) (congrArg x (funext fun b => match b with | ⟨0, _⟩ => rfl | ⟨1, _⟩ => rfl)) ?_
  refine (Fin.sum_univ_add (a := 512) (b := 512) _).trans (congrArg₂ (· + ·) (Finset.sum_congr rfl fun k _ => ?_) (Finset.sum_congr rfl fun k _ => ?_))
  · refine congrArg₂ (· * ·) ?_ (congrArg w (funext fun b => match b with | ⟨0, _⟩ => rfl | ⟨1, _⟩ => rfl))
    exact concatenate_pair_apply_left (t := Cert.Reference6Ideal.S65536x1024) 1 a b Cert.Reference6Ideal.Gen.concatenates_S65536x512_S65536x512_S65536x1024_d1 _ rfl (ix2 (n0 := 65536) (n1 := 512) (y 0) k) (fun b => match b with | ⟨0, _⟩ => rfl | ⟨1, _⟩ => rfl)
  · refine congrArg₂ (· * ·) ?_ (congrArg w (funext fun b => match b with | ⟨0, _⟩ => rfl | ⟨1, _⟩ => rfl))
    exact concatenate_pair_apply_right (t := Cert.Reference6Ideal.S65536x1024) 1 a b Cert.Reference6Ideal.Gen.concatenates_S65536x512_S65536x512_S65536x1024_d1 _ rfl rfl (ix2 (n0 := 65536) (n1 := 512) (y 0) k)
      (fun b hb => match b with | ⟨0, _⟩ => rfl | ⟨1, _⟩ => absurd rfl hb) (Nat.add_comm _ _)

/-- Over the extended reals the call and the reference end with the same result. -/
theorem same : Cert.algebraic_Kernel6Ideal_Reference6Ideal (hKernel6Ideal := Cert.Kernel6Ideal.Gen.facts) (hReference6Ideal := Cert.Reference6Ideal.Gen.facts) := by
  intro m g m' g' _ hagree
  refine ⟨fun c => result m c, ?_, ?_⟩
  · refine (θ_run Cert.Kernel6Ideal.defs _ _).mono (fun r h c => ?_) (Cert.Kernel6Ideal.Value.run_blocks (F := Ideal) m g)
    exact ⟨(h c).1.trans (arr_eq m c), (h c).2⟩
  · refine (θ_run Cert.Reference6Ideal.defs _ _).mono (fun r h c => ⟨(h c).1.trans ?_, (h c).2⟩) (Cert.Reference6Ideal.Value.run (F := Ideal) m' g')
    obtain ⟨h0, h1, h2, h3⟩ := hagree c
    refine (Cert.Reference6Ideal.Read.val_main_v4_eq (F := Ideal) _ _ _ _).trans (funext fun y => ?_)
    rw [h0, h1, h2, h3]
    exact ref_eq _ _ _ _ y

/-- The frames. -/
theorem frame_reference : Cert.quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩) (Cert.Reference6Ideal.Value.run (F := Ideal) m g)

end Cert.Kernel6Ideal.Project

end
-- ==== Proof.K7.Value.lean ====
/-
The keys and values of the memory, from its norm: what the call leaves in its result over the extended reals, and that the
reference computes the same.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Norm
public import Idealize.ShloMosaic.Lib.ValueIdx
public import Idealize.ShloMosaic.Lib.ValueLayout
public import Idealize.ShloMosaic.Lib.Pipeline.ValueKit
public import Idealize.ShloMosaic.Lib.Pipeline.Covers

@[expose] public section

set_option maxRecDepth 16384

noncomputable section

namespace Cert.Kernel7Ideal.Project

open Cert.Kernel7Ideal Cert.Kernel7Ideal.Gen
open Idealize.ShloMosaic Idealize.ShloMosaic.TcCoe Idealize.ShloMosaic.Tactic
open Idealize.SL Idealize.SL.Sem
open Idealize.ShloMosaic.Pipeline (Dat Cfg Window)
open Cert.Layer

/-- The norm of a row times the weights, at a column. -/
def projected (x : S4096x1024.Idx → EReal) (g : S1024.Idx → EReal) (w : S1024x2048.Idx → EReal) (n : Fin 4096) (d : Fin 2048) : EReal :=
  ∑ k : Fin 1024, normed (fun j => x (ix2 n j)) (fun j => g (ix1 j)) k * w (ix2 k d)

/-- What the body computes of its blocks. -/
theorem pay_at (x0 : Vec Ideal S512x1024 .f32) (x1 : Vec Ideal S1x1024 .f32) (x2 : Vec Ideal S1024x2048 .bf16) (r : Fin 512) (d : Fin 2048) :
    k0_pay1 (F := Ideal) x0 x1 x2 (ix2 (n0 := 512) (n1 := 2048) r d)
      = ∑ k : Fin 1024, normed (fun j => x0 (ix2 (n0 := 512) (n1 := 1024) r j)) (fun j => x1 (ix2 (n0 := 1) (n1 := 1024) 0 j)) k
          * x2 (ix2 (n0 := 1024) (n1 := 2048) k d) := by
  unfold normed
  pointwise [k0_pay1]

theorem out_at (x0 : Vec Ideal S512x1024 .f32) (x1 : Vec Ideal S1x1024 .f32) (x2 : Vec Ideal S1024x2048 .bf16) (r : Fin 512) (d : Fin 2048) :
    out0_3 (F := Ideal) x0 x1 x2 (ix2 (n0 := 512) (n1 := 2048) r d)
      = ∑ k : Fin 1024, normed (fun j => x0 (ix2 (n0 := 512) (n1 := 1024) r j)) (fun j => x1 (ix2 (n0 := 1) (n1 := 1024) 0 j)) k
          * x2 (ix2 (n0 := 1024) (n1 := 2048) k d) := by
  unfold out0_3
  have z : (![0, 0] : Fin 2 → ℕ) = fun _ => 0 := funext fun a => match a with | ⟨0, _⟩ => rfl | ⟨1, _⟩ => rfl
  rw [View.canon_unit_zero z, View.ld_unit_zero z, View.ld_unit_zero z, View.ld_unit_zero z]
  exact pay_at x0 x1 x2 r d

variable (m : (ℓ : Loc nD τ sig) → Buf (Elt Ideal) ℓ)

def argX (c : Dev nD) : S4096x1024.Idx → EReal := m ((c : Thread nD τ).loc main_arg0)
def argG (c : Dev nD) : S1024.Idx → EReal := m ((c : Thread nD τ).loc main_arg1)
def argW (c : Dev nD) : S1024x2048.Idx → EReal := m ((c : Thread nD τ).loc main_arg2)

theorem coord_lt (t : Fin grid0.N) : (grid0.coords t 0).val < 8 := (grid0.coords t 0).isLt

theorem word_of_coord (n : ℕ) (h : n < 8) : (BitVec.ofNat 32 n).toNat = n := by
  rw [BitVec.toNat_ofNat]; omega

/-- The row of the arrays that a row of a point's block is. -/
abbrev row (t : Fin grid0.N) (r : Fin 512) : Fin 4096 := ⟨512 * (grid0.coords t 0).val + r.val, by have := coord_lt t; omega⟩

theorem iblk0_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S4096x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

/-- The gains as one row, which the host makes of them before the call. -/
theorem gains (c : Dev nD) : V m c main_v0 = shapeCast S1x1024 (m ((c : Thread nD τ).loc main_arg1)) shapeCasts_S1024_S1x1024 := by
  unfold V
  after_results
  rfl

theorem iblk1_at (c : Dev nD) (t : Fin cfg0.N) (k : Fin 1024) :
    (iblk m c 1 t : S1x1024.Idx → EReal) (ix2 0 k) = argG m c (ix1 k) := by
  refine Eq.trans ?_ ((congrFun (gains m c) (ix2 (n0 := 1) (n1 := 1024) 0 k)).trans (ValueIdx.shapeCast_a_1a_apply (argG m c) _ 0 k))
  unfold iblk
  refine congrArg (V m c main_v0 : S1x1024.Idx → EReal) (funext fun a => Fin.ext ?_)
  have h := Pipeline.Window.rect_emb_val (cfg0.win 1) t (ix2 (n0 := 1) (n1 := 1024) 0 k)
  match a with
  | ⟨0, p⟩ => exact h ⟨0, p⟩
  | ⟨1, p⟩ =>
    refine (h ⟨1, p⟩).trans ?_
    show 0 * 1024 + k.val = k.val
    omega

theorem iblk2_at (c : Dev nD) (t : Fin cfg0.N) (k : Fin 1024) (d : Fin 2048) :
    (iblk m c 2 t : S1024x2048.Idx → EReal) (ix2 k d) = argW m c (ix2 k d) := by
  unfold iblk argW
  refine congrArg (m ((c : Thread nD τ).loc main_arg2) : S1024x2048.Idx → EReal) (funext fun a => Fin.ext ?_)
  have h := Pipeline.Window.rect_emb_val (cfg0.win 2) t (ix2 (n0 := 1024) (n1 := 2048) k d)
  match a with
  | ⟨0, p⟩ =>
    refine (h ⟨0, p⟩).trans ?_
    show 0 * 1024 + k.val = k.val
    omega
  | ⟨1, p⟩ =>
    refine (h ⟨1, p⟩).trans ?_
    show 0 * 2048 + d.val = d.val
    omega

/-- The blocks of the result cover it. -/
theorem covers : (cfg0.win 3).Covers := by
  have b0 : (cfg0.win 3).nblk (show Fin 2 from 0) = 8 := (rfl : (4096 + 512 - 1) / 512 = 8)
  have b1 : (cfg0.win 3).nblk (show Fin 2 from 1) = 1 := (rfl : (2048 + 2048 - 1) / 2048 = 1)
  refine Pipeline.Window.covers_of_indexMap_surj _ rfl (fun a => ?_) fun β => ?_
  · match a with
    | ⟨0, p⟩ => show 0 < 512; decide
    | ⟨1, p⟩ => show 0 < 2048; decide
  · have l0 : (β (show Fin 2 from 0)).val < 8 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result (c : Dev nD) : Buf (Elt Ideal) ((c : Thread nD τ).loc main_v1) := fun (y : S4096x2048.Idx) => projected (argX m c) (argG m c) (argW m c) (y 0) (y 1)

/-- A point's block of the result, at a row and a feature. -/
theorem block_at (c : Dev nD) (t : Fin cfg0.N) (y : S512x2048.Idx) (n : Fin 4096) (d : Fin 2048)
    (hn : n.val = 512 * (grid0.coords t 0).val + (y 0).val) (hd : d.val = (y 1).val) :
    out0_3 (F := Ideal) (iblk m c 0 t) (iblk m c 1 t) (iblk m c 2 t) y = projected (argX m c) (argG m c) (argW m c) n d := by
  obtain rfl : n = row t (y 0) := Fin.ext hn
  obtain rfl : d = y 1 := Fin.ext hd
  have e : y = ix2 (n0 := 512) (n1 := 2048) (y 0) (y 1) := funext fun a => match a with | ⟨0, _⟩ => rfl | ⟨1, _⟩ => rfl
  refine (congrArg (out0_3 (F := Ideal) (iblk m c 0 t) (iblk m c 1 t) (iblk m c 2 t)) e).trans ((out_at _ _ _ _ _).trans ?_)
  unfold projected
  exact Finset.sum_congr rfl fun k _ => congrArg₂ (· * ·) (normed_congr (fun j => iblk0_at m c t _ j) (fun j => iblk1_at m c t j) k) (iblk2_at m c t _ _)

/-- A point's block lies in the result where its coordinate says. -/
theorem place0 (t : Fin cfg0.N) (y : S512x2048.Idx) :
    (((cfg0.win 3).rect t).emb y (show Fin 2 from 0)).val = 512 * (grid0.coords t 0).val + (y 0).val :=
  (Pipeline.Window.rect_emb_val (cfg0.win 3) t y (show Fin 2 from 0)).trans
    (show (BitVec.ofNat 32 (grid0.coords t 0).val).toNat * 512 + (y 0).val = 512 * (grid0.coords t 0).val + (y 0).val by
      rw [word_of_coord _ (coord_lt t), Nat.mul_comm])

theorem place1 (t : Fin cfg0.N) (y : S512x2048.Idx) : (((cfg0.win 3).rect t).emb y (show Fin 2 from 1)).val = (y 1).val :=
  (Pipeline.Window.rect_emb_val (cfg0.win 3) t y (show Fin 2 from 1)).trans
    (show 0 * 2048 + (y 1).val = (y 1).val by rw [Nat.zero_mul, Nat.zero_add])

theorem after_at (c : Dev nD) (t : Fin cfg0.N) (y : S512x2048.Idx) :
    (dats m 0 c).after 3 t y = result m c (((cfg0.win 3).rect t).emb y) := by
  rw [after0_3]
  exact block_at m c t y _ _ (place0 t y) (place1 t y)

/-- After the run the result array holds every row's projection. -/
theorem arr_eq (c : Dev nD) : (dats m 0 c).arrAt 3 cfg0.N = result m c :=
  (dats m 0 c).arrAt_eq_of_covers 3 _ covers fun t _ y => after_at m c t y

end Cert.Kernel7Ideal.Project

namespace Cert.Kernel7Ideal.Project

open Idealize.ShloMosaic Idealize.ShloMosaic.TcCoe Idealize.SL Idealize.SL.Sem Cert.Layer

/-- The reference's result. -/
theorem ref_eq (x : Cert.Reference7Ideal.S4096x1024.Idx → EReal) (g : Cert.Reference7Ideal.S1024.Idx → EReal)
    (w : Cert.Reference7Ideal.S1024x2048.Idx → EReal) (y : Cert.Reference7Ideal.S4096x2048.Idx) :
    Cert.Reference7Ideal.Read.val_main_v15 (F := Ideal) x g w y = projected x g w (y 0) (y 1) := by
  open Cert.Reference7Ideal.Read in
  rw [val_main_v15_apply, val_main_v14_apply]
  unfold projected normed
  refine Finset.sum_congr rfl fun k _ => ?_
  open Cert.Reference7Ideal.Read in
  refine congrArg₂ (· * ·) ?_ (congrArg w (funext fun b => match b with | ⟨0, _⟩ => rfl | ⟨1, _⟩ => rfl))
  open Cert.Reference7Ideal.Read in
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_cst_apply, val_main_cst_0_apply,
    val_main_cst_1_apply]
  have hx : ∀ j : Fin 1024, x (Cert.Reference7Ideal.Read.idx_main_v1 (Cert.Reference7Ideal.Read.idx_main_v2 (Cert.Reference7Ideal.Read.idx_main_v8
      (Cert.Reference7Ideal.Read.lidx_main_v14 y k))) j) = x (ix2 (n0 := 4096) (n1 := 1024) (y 0) j) :=
    fun j => congrArg x (funext fun b => match b with | ⟨0, _⟩ => rfl | ⟨1, _⟩ => rfl)
  refine congrArg₂ (· * ·) (congrArg₂ (· * ·) (congrArg x (funext fun b => match b with | ⟨0, _⟩ => rfl | ⟨1, _⟩ => rfl)) (congrArg Ideal.rsqrt
    (congrArg (· + Ideal.ofBits .f32 0x358637BD#32) (congrArg (Ideal.div · (Ideal.ofBits .f32 0x44800000#32)) ?_))))
    (congrArg g (funext fun b => match b with | ⟨0, _⟩ => rfl))
  exact (congrArg (· + _) Ideal.ofBits_zero_f32).trans ((zero_add _).trans (Finset.sum_congr rfl fun j _ => congrArg₂ (· * ·) (hx j) (hx j)))

/-- Over the extended reals the call and the reference end with the same result. -/
theorem same : Cert.algebraic_Kernel7Ideal_Reference7Ideal (hKernel7Ideal := Cert.Kernel7Ideal.Gen.facts) (hReference7Ideal := Cert.Reference7Ideal.Gen.facts) := by
  intro m g m' g' _ hagree
  refine ⟨fun c => result m c, ?_, ?_⟩
  · refine (θ_run Cert.Kernel7Ideal.defs _ _).mono (fun r h c => ?_) (Cert.Kernel7Ideal.Value.run_blocks (F := Ideal) m g)
    exact ⟨(h c).1.trans (arr_eq m c), (h c).2⟩
  · refine (θ_run Cert.Reference7Ideal.defs _ _).mono (fun r h c => ⟨(h c).1.trans ?_, (h c).2⟩) (Cert.Reference7Ideal.Value.run (F := Ideal) m' g')
    obtain ⟨h0, h1, h2⟩ := hagree c
    refine (Cert.Reference7Ideal.Read.val_main_v15_eq (F := Ideal) _ _ _).trans (funext fun y => ?_)
    rw [h0, h1, h2]
    exact ref_eq _ _ _ y

/-- The frames. -/
theorem frame_reference : Cert.quiescent_Reference7Ideal (hReference7Ideal := Cert.Reference7Ideal.Gen.facts) :=
  fun m g _ => (θ_run Cert.Reference7Ideal.defs _ _).mono
    (fun r h => ⟨fun c => (h c).2, sem_eq_zero_of_no_sems (by decide) r.2⟩) (Cert.Reference7Ideal.Value.run (F := Ideal) m g)

end Cert.Kernel7Ideal.Project

end
-- ==== Proof.P8.State.lean ====
/-
What the attention's body holds throughout: the six input blocks at given contents, and the output's block and the nine scratch buffers at some.
-/
module

public import proofs.«01_k».proof.Proof.Gen.Kernel8.Skeleton
public import proofs.«01_k».proof.Proof.Gen.Kernel8.Loops
public import Idealize.ShloMosaic.Lib.Ring
public import Idealize.ShloMosaic.Lib.Tactic
public import Idealize.ShloMosaic.Lib.Pipeline.Kit

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The inputs at their contents, everything else at some. -/
abbrev Held (c : Dev nD) (arg3 : Memref sig .tc .vmem S512x128 .bf16) (arg4 : Memref sig .tc .vmem S4096x128 .bf16) (arg5 : Memref sig .tc .vmem S4096x128 .bf16) (arg6 : Memref sig .tc .vmem S1x3x512x512 .f32) (arg7 : Memref sig .tc .vmem S4x64 .f32) (arg8 : Memref sig .tc .vmem S128x1 .f32) (arg9 : Memref sig .tc .vmem S512x128 .bf16) (arg10 : Memref sig .tc .vmem S8x128x512 .bf16) (arg11 : Memref sig .tc .vmem S2x512x128 .bf16) (arg12 : Memref sig .tc .vmem S2x1x512 .f32) (arg13 : Memref sig .tc .vmem S2x1x512 .f32) (arg14 : Memref sig .tc .vmem S2x128x512 .f32) (arg15 : Memref sig .tc .vmem S2x512x512 .f32) (arg16 : Memref sig .tc .vmem S2x512x512 .f32) (arg17 : Memref sig .tc .vmem S2x1x512 .f32) (arg18 : Memref sig .tc .vmem S2x1x512 .f32)
    (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ))) : sProp 𝕄 :=
  iprop((arg3.view.loc (c : Thread nD τ) ↦[arg3.view.set]{fullShare} x3)
    ∗ (arg4.view.loc (c : Thread nD τ) ↦[arg4.view.set]{fullShare} x4)
    ∗ (arg5.view.loc (c : Thread nD τ) ↦[arg5.view.set]{fullShare} x5)
    ∗ (arg6.view.loc (c : Thread nD τ) ↦[arg6.view.set]{fullShare} x6)
    ∗ (arg7.view.loc (c : Thread nD τ) ↦[arg7.view.set]{fullShare} x7)
    ∗ (arg8.view.loc (c : Thread nD τ) ↦[arg8.view.set]{fullShare} x8)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg18.view.loc (c : Thread nD τ) ↦[arg18.view.set]{fullShare} f))

/-- One stretch after the other. -/
theorem Held.seq {R : sProp 𝕄} {α β : Type} {c : Dev nD} {p : Prog (TpuEff nD τ sig (Elt F) Λ₀ .tc) α} {k : α → Prog (TpuEff nD τ sig (Elt F) Λ₀ .tc) β} {Q : β → sProp 𝕄}
    (h : R ⊢ wp frame (wpE (defs₀ (F := F)) Variants.none c none) Set.univ p (fun _ => R))
    (h' : ∀ a, R ⊢ wp frame (wpE (defs₀ (F := F)) Variants.none c none) Set.univ (k a) Q) :
    R ⊢ wp frame (wpE (defs₀ (F := F)) Variants.none c none) Set.univ (p >>= k) Q := by
  rw [wp_bind]; exact h.trans (wp_mono _ _ _ h')

end Cert.Kernel8

end
-- ==== Proof.P8.First.lean ====
/-
The first point's transposition of the value blocks keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part1  :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) (fun _ => Held c arg3 arg4 arg5 arg6 arg7 arg8 arg9 arg10 arg11 arg12 arg13 arg14 arg15 arg16 arg17 arg18 x3 x4 x5 x6 x7 x8) := by
  rw [k0_part1_eq_skeleton]; unfold k0_part1_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.Setup.lean ====
/-
The body's first stretches: the transposition of the value blocks at the first point, the scaled queries, and the first key block.
-/
module

public import proofs.«01_k».proof.Proof.P8.First

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part57  :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part57 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) (fun _ => Held c arg3 arg4 arg5 arg6 arg7 arg8 arg9 arg10 arg11 arg12 arg13 arg14 arg15 arg16 arg17 arg18 x3 x4 x5 x6 x7 x8) := by
  rw [k0_part57_eq_skeleton]; unfold k0_part57_skel
  dsimp only
  split
  · refine Held.seq (part1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8) ?_; intro v179
    iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  · iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

theorem part58 (arg2 : BitVec 32) (v32 : FVec F S2x1x512 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part58 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v32) (fun _ => Held c arg3 arg4 arg5 arg6 arg7 arg8 arg9 arg10 arg11 arg12 arg13 arg14 arg15 arg16 arg17 arg18 x3 x4 x5 x6 x7 x8) := by
  rw [k0_part58_eq_skeleton]; unfold k0_part58_skel
  · iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Kernel8

end
-- ==== Proof.P8.FarA.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part2 (c0_i32_53 : BitVec 32) (c1_i32_55 : BitVec 32) (k0_t1 : Fin (k0_t1_loop i).trips) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c0_i32_53 c1_i32_55 k0_t1) (fun _ => Held c arg3 arg4 arg5 arg6 arg7 arg8 arg9 arg10 arg11 arg12 arg13 arg14 arg15 arg16 arg17 arg18 x3 x4 x5 x6 x7 x8) := by
  rw [k0_part2_eq_skeleton]; unfold k0_part2_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part3 (k0_t1 : Fin (k0_t1_loop i).trips) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1) (fun _ => Held c arg3 arg4 arg5 arg6 arg7 arg8 arg9 arg10 arg11 arg12 arg13 arg14 arg15 arg16 arg17 arg18 x3 x4 x5 x6 x7 x8) := by
  rw [k0_part3_eq_skeleton]; unfold k0_part3_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part4 (v209 : FVec F S128x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v209) (fun _ => Held c arg3 arg4 arg5 arg6 arg7 arg8 arg9 arg10 arg11 arg12 arg13 arg14 arg15 arg16 arg17 arg18 x3 x4 x5 x6 x7 x8) := by
  rw [k0_part4_eq_skeleton]; unfold k0_part4_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part5 (v178 : FVec F S128x512 .bf16) (v240 : FVec F S128x256 .f32) (v241 : FVec F S512x256 .bf16) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v178 v240 v241) (fun _ => Held c arg3 arg4 arg5 arg6 arg7 arg8 arg9 arg10 arg11 arg12 arg13 arg14 arg15 arg16 arg17 arg18 x3 x4 x5 x6 x7 x8) := by
  rw [k0_part5_eq_skeleton]; unfold k0_part5_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part6 (v178 : FVec F S128x512 .bf16) (v256 : FVec F S512x256 .f32) (v258 : FVec F S1x256 .f32) (v272 : FVec F S128x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v178 v256 v258 v272) (fun _ => Held c arg3 arg4 arg5 arg6 arg7 arg8 arg9 arg10 arg11 arg12 arg13 arg14 arg15 arg16 arg17 arg18 x3 x4 x5 x6 x7 x8) := by
  rw [k0_part6_eq_skeleton]; unfold k0_part6_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.FarB.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part7 (k0_t1 : Fin (k0_t1_loop i).trips) (v148 : BitVec 32) (v178 : FVec F S128x512 .bf16) (v290 : FVec F S512x256 .f32) (v292 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 v148 v178 v290 v292) (fun _ => Held c arg3 arg4 arg5 arg6 arg7 arg8 arg9 arg10 arg11 arg12 arg13 arg14 arg15 arg16 arg17 arg18 x3 x4 x5 x6 x7 x8) := by
  rw [k0_part7_eq_skeleton]; unfold k0_part7_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part8 (k0_t1 : Fin (k0_t1_loop i).trips) (v148 : BitVec 32) (v333 : FVec F S512x512 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 v148 v333) (fun _ => Held c arg3 arg4 arg5 arg6 arg7 arg8 arg9 arg10 arg11 arg12 arg13 arg14 arg15 arg16 arg17 arg18 x3 x4 x5 x6 x7 x8) := by
  rw [k0_part8_eq_skeleton]; unfold k0_part8_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part9 (v345 : FVec F S128x512 .bf16) (v355 : FVec F S512x256 .f32) (v357 : FVec F S1x256 .f32) (v366 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v345 v355 v357 v366) (fun _ => Held c arg3 arg4 arg5 arg6 arg7 arg8 arg9 arg10 arg11 arg12 arg13 arg14 arg15 arg16 arg17 arg18 x3 x4 x5 x6 x7 x8) := by
  rw [k0_part9_eq_skeleton]; unfold k0_part9_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part10 (v345 : FVec F S128x512 .bf16) (v389 : FVec F S512x256 .f32) (v391 : FVec F S1x256 .f32) (v400 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v345 v389 v391 v400) (fun _ => Held c arg3 arg4 arg5 arg6 arg7 arg8 arg9 arg10 arg11 arg12 arg13 arg14 arg15 arg16 arg17 arg18 x3 x4 x5 x6 x7 x8) := by
  rw [k0_part10_eq_skeleton]; unfold k0_part10_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part11 (v345 : FVec F S128x512 .bf16) (v423 : FVec F S512x256 .f32) (v425 : FVec F S1x256 .f32) (v431 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v345 v423 v425 v431) (fun _ => Held c arg3 arg4 arg5 arg6 arg7 arg8 arg9 arg10 arg11 arg12 arg13 arg14 arg15 arg16 arg17 arg18 x3 x4 x5 x6 x7 x8) := by
  rw [k0_part11_eq_skeleton]; unfold k0_part11_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.Trip1.lean ====
/-
A trip of one of the four loops over the key blocks.
-/
module

public import proofs.«01_k».proof.Proof.P8.FarA
public import proofs.«01_k».proof.Proof.P8.FarB

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

/-- One trip of the loop keeps what the body holds. -/
theorem trip1 (arg2 : BitVec 32) (v42 : Vec F S512x128 .bf16) (v47 : FVec F S512x512 .f32) (v60 : Vec F S1x512x128 .bf16) (k : Fin (k0_t1_loop i).trips) (acc : Unit) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 k acc) (fun _ => Held c arg3 arg4 arg5 arg6 arg7 arg8 arg9 arg10 arg11 arg12 arg13 arg14 arg15 arg16 arg17 arg18 x3 x4 x5 x6 x7 x8) := by
  unfold k0_t1_body
  refine Held.seq (part2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 0#32 1#32 k) ?_; rintro v148
  refine Held.seq (part3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 k) ?_; rintro ⟨v178, v209⟩
  refine Held.seq (part4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v209) ?_; rintro ⟨v240, v241⟩
  refine Held.seq (part5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v178 v240 v241) ?_; rintro ⟨v256, v258, v272⟩
  refine Held.seq (part6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v178 v256 v258 v272) ?_; rintro ⟨v290, v292⟩
  refine Held.seq (part7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 k v148 v178 v290 v292) ?_; rintro v333
  refine Held.seq (part8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 k v148 v333) ?_; rintro ⟨v345, v355, v357, v366⟩
  refine Held.seq (part9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v345 v355 v357 v366) ?_; rintro ⟨v389, v391, v400⟩
  refine Held.seq (part10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v345 v389 v391 v400) ?_; rintro ⟨v423, v425, v431⟩
  refine Held.seq (part11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v345 v423 v425 v431) ?_; rintro ⟨v457, v459, v463⟩
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- The loop's invariant: what the body holds throughout. -/
@[sl_loop, instance_reducible] def loopInv1 (arg2 : BitVec 32) (v42 : Vec F S512x128 .bf16) (v47 : FVec F S512x512 .f32) (v60 : Vec F S1x512x128 .bf16) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 :=
  ⟨fun _ _ => Held c arg3 arg4 arg5 arg6 arg7 arg8 arg9 arg10 arg11 arg12 arg13 arg14 arg15 arg16 arg17 arg18 x3 x4 x5 x6 x7 x8, fun k acc => trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v42 v47 v60 k acc⟩

end Cert.Kernel8

end
-- ==== Proof.P8.Trip2.lean ====
/-
A trip of one of the four loops over the key blocks.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

/-- The loop makes no trip. -/
theorem trip2 (arg2 : BitVec 32) (v42 : Vec F S512x128 .bf16) (v47 : FVec F S512x512 .f32) (v60 : Vec F S1x512x128 .bf16) (v79 : BitVec 32) (k : Fin (k0_t2_loop i).trips) (acc : Unit) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 v79 k acc) (fun _ => Held c arg3 arg4 arg5 arg6 arg7 arg8 arg9 arg10 arg11 arg12 arg13 arg14 arg15 arg16 arg17 arg18 x3 x4 x5 x6 x7 x8) :=
  absurd k.isLt (Nat.not_lt.2 (Nat.le_trans (k0_t2_abs i).2.1 (Nat.zero_le _)))

/-- The loop's invariant: what the body holds throughout. -/
@[sl_loop, instance_reducible] def loopInv2 (arg2 : BitVec 32) (v42 : Vec F S512x128 .bf16) (v47 : FVec F S512x512 .f32) (v60 : Vec F S1x512x128 .bf16) (v79 : BitVec 32) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 v79 :=
  ⟨fun _ _ => Held c arg3 arg4 arg5 arg6 arg7 arg8 arg9 arg10 arg11 arg12 arg13 arg14 arg15 arg16 arg17 arg18 x3 x4 x5 x6 x7 x8, fun k acc => trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v42 v47 v60 v79 k acc⟩

end Cert.Kernel8

end
-- ==== Proof.P8.NearA.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part22 (arg2 : BitVec 32) (v74 : BitVec 32) (c1_i32_60 : BitVec 32) (k0_t3 : Fin (k0_t3_loop i).trips) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v74 c1_i32_60 k0_t3) (fun _ => Held c arg3 arg4 arg5 arg6 arg7 arg8 arg9 arg10 arg11 arg12 arg13 arg14 arg15 arg16 arg17 arg18 x3 x4 x5 x6 x7 x8) := by
  rw [k0_part22_eq_skeleton]; unfold k0_part22_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part23 (k0_t3 : Fin (k0_t3_loop i).trips) (v148 : BitVec 32) (v174 : FVec F S512x512 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t3 v148 v174) (fun _ => Held c arg3 arg4 arg5 arg6 arg7 arg8 arg9 arg10 arg11 arg12 arg13 arg14 arg15 arg16 arg17 arg18 x3 x4 x5 x6 x7 x8) := by
  rw [k0_part23_eq_skeleton]; unfold k0_part23_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part24 (v185 : FVec F S128x512 .bf16) (v195 : FVec F S512x256 .f32) (v197 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v185 v195 v197) (fun _ => Held c arg3 arg4 arg5 arg6 arg7 arg8 arg9 arg10 arg11 arg12 arg13 arg14 arg15 arg16 arg17 arg18 x3 x4 x5 x6 x7 x8) := by
  rw [k0_part24_eq_skeleton]; unfold k0_part24_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part25 (v185 : FVec F S128x512 .bf16) (v229 : FVec F S512x256 .f32) (v231 : FVec F S1x256 .f32) (v240 : FVec F S1x256 .f32) (v241 : Vec F S1x1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v185 v229 v231 v240 v241) (fun _ => Held c arg3 arg4 arg5 arg6 arg7 arg8 arg9 arg10 arg11 arg12 arg13 arg14 arg15 arg16 arg17 arg18 x3 x4 x5 x6 x7 x8) := by
  rw [k0_part25_eq_skeleton]; unfold k0_part25_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part26 (v185 : FVec F S128x512 .bf16) (v263 : FVec F S512x256 .f32) (v265 : FVec F S1x256 .f32) (v274 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v185 v263 v265 v274) (fun _ => Held c arg3 arg4 arg5 arg6 arg7 arg8 arg9 arg10 arg11 arg12 arg13 arg14 arg15 arg16 arg17 arg18 x3 x4 x5 x6 x7 x8) := by
  rw [k0_part26_eq_skeleton]; unfold k0_part26_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.NearB.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part27 (arg2 : BitVec 32) (k0_t3 : Fin (k0_t3_loop i).trips) (v148 : BitVec 32) (v185 : FVec F S128x512 .bf16) (v297 : FVec F S512x256 .f32) (v299 : FVec F S1x256 .f32) (v305 : FVec F S1x256 .f32) (v306 : FVec F S256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k0_t3 v148 v185 v297 v299 v305 v306) (fun _ => Held c arg3 arg4 arg5 arg6 arg7 arg8 arg9 arg10 arg11 arg12 arg13 arg14 arg15 arg16 arg17 arg18 x3 x4 x5 x6 x7 x8) := by
  rw [k0_part27_eq_skeleton]; unfold k0_part27_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part28 (k0_t3 : Fin (k0_t3_loop i).trips) (v148 : BitVec 32) (v326 : Vec F S512x128 .bf16) (v331 : FVec F S512x512 .f32) (v335 : FVec F S512x512 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t3 v148 v326 v331 v335) (fun _ => Held c arg3 arg4 arg5 arg6 arg7 arg8 arg9 arg10 arg11 arg12 arg13 arg14 arg15 arg16 arg17 arg18 x3 x4 x5 x6 x7 x8) := by
  rw [k0_part28_eq_skeleton]; unfold k0_part28_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part29 (v359 : FVec F S128x512 .bf16) (v361 : FVec F S1x256 .f32) (v364 : FVec F S1x256 .f32) (v369 : FVec F S512x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v359 v361 v364 v369) (fun _ => Held c arg3 arg4 arg5 arg6 arg7 arg8 arg9 arg10 arg11 arg12 arg13 arg14 arg15 arg16 arg17 arg18 x3 x4 x5 x6 x7 x8) := by
  rw [k0_part29_eq_skeleton]; unfold k0_part29_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part30 (v359 : FVec F S128x512 .bf16) (v395 : FVec F S1x256 .f32) (v398 : FVec F S1x256 .f32) (v400 : FVec F S512x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v359 v395 v398 v400) (fun _ => Held c arg3 arg4 arg5 arg6 arg7 arg8 arg9 arg10 arg11 arg12 arg13 arg14 arg15 arg16 arg17 arg18 x3 x4 x5 x6 x7 x8) := by
  rw [k0_part30_eq_skeleton]; unfold k0_part30_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part31 (v359 : FVec F S128x512 .bf16) (v429 : FVec F S1x256 .f32) (v432 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v359 v429 v432) (fun _ => Held c arg3 arg4 arg5 arg6 arg7 arg8 arg9 arg10 arg11 arg12 arg13 arg14 arg15 arg16 arg17 arg18 x3 x4 x5 x6 x7 x8) := by
  rw [k0_part31_eq_skeleton]; unfold k0_part31_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part32 (arg2 : BitVec 32) (v74 : BitVec 32) (c1_i32_60 : BitVec 32) (k0_t3 : Fin (k0_t3_loop i).trips) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v74 c1_i32_60 k0_t3) (fun _ => Held c arg3 arg4 arg5 arg6 arg7 arg8 arg9 arg10 arg11 arg12 arg13 arg14 arg15 arg16 arg17 arg18 x3 x4 x5 x6 x7 x8) := by
  rw [k0_part32_eq_skeleton]; unfold k0_part32_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.Trip3.lean ====
/-
A trip of one of the four loops over the key blocks.
-/
module

public import proofs.«01_k».proof.Proof.P8.NearA
public import proofs.«01_k».proof.Proof.P8.NearB

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

/-- One trip of the loop keeps what the body holds. -/
theorem trip3 (arg2 : BitVec 32) (v42 : Vec F S512x128 .bf16) (v47 : FVec F S512x512 .f32) (v60 : Vec F S1x512x128 .bf16) (v74 : BitVec 32) (k : Fin (k0_t3_loop i).trips) (acc : Unit) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 v74 k acc) (fun _ => Held c arg3 arg4 arg5 arg6 arg7 arg8 arg9 arg10 arg11 arg12 arg13 arg14 arg15 arg16 arg17 arg18 x3 x4 x5 x6 x7 x8) := by
  unfold k0_t3_body
  refine Held.seq (part32 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v74 1#32 k) ?_; rintro ⟨v492, v493⟩
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- The loop's invariant: what the body holds throughout. -/
@[sl_loop, instance_reducible] def loopInv3 (arg2 : BitVec 32) (v42 : Vec F S512x128 .bf16) (v47 : FVec F S512x512 .f32) (v60 : Vec F S1x512x128 .bf16) (v74 : BitVec 32) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 v74 :=
  ⟨fun _ _ => Held c arg3 arg4 arg5 arg6 arg7 arg8 arg9 arg10 arg11 arg12 arg13 arg14 arg15 arg16 arg17 arg18 x3 x4 x5 x6 x7 x8, fun k acc => trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v42 v47 v60 v74 k acc⟩

end Cert.Kernel8

end
-- ==== Proof.P8.Trip4.lean ====
/-
A trip of one of the four loops over the key blocks.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

/-- The loop makes no trip. -/
theorem trip4 (arg2 : BitVec 32) (v42 : Vec F S512x128 .bf16) (v47 : FVec F S512x512 .f32) (v60 : Vec F S1x512x128 .bf16) (v85 : BitVec 32) (k : Fin (k0_t4_loop i).trips) (acc : Unit) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 v85 k acc) (fun _ => Held c arg3 arg4 arg5 arg6 arg7 arg8 arg9 arg10 arg11 arg12 arg13 arg14 arg15 arg16 arg17 arg18 x3 x4 x5 x6 x7 x8) :=
  absurd k.isLt (Nat.not_lt.2 (Nat.le_trans (k0_t4_abs i).2.1 (Nat.zero_le _)))

/-- The loop's invariant: what the body holds throughout. -/
@[sl_loop, instance_reducible] def loopInv4 (arg2 : BitVec 32) (v42 : Vec F S512x128 .bf16) (v47 : FVec F S512x512 .f32) (v60 : Vec F S1x512x128 .bf16) (v85 : BitVec 32) :
    LoopInvTy_k0_t4 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60 v85 :=
  ⟨fun _ _ => Held c arg3 arg4 arg5 arg6 arg7 arg8 arg9 arg10 arg11 arg12 arg13 arg14 arg15 arg16 arg17 arg18 x3 x4 x5 x6 x7 x8, fun k acc => trip4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v42 v47 v60 v85 k acc⟩

end Cert.Kernel8

end
-- ==== Proof.P8.Even.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part44 (arg2 : BitVec 32) (k0_h2 : k0_cond2 i = 1#1) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k0_h2) (fun _ => Held c arg3 arg4 arg5 arg6 arg7 arg8 arg9 arg10 arg11 arg12 arg13 arg14 arg15 arg16 arg17 arg18 x3 x4 x5 x6 x7 x8) := by
  rw [k0_part44_eq_skeleton]; unfold k0_part44_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part45 (v178 : FVec F S128x256 .f32) (v180 : FVec F S128x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v178 v180) (fun _ => Held c arg3 arg4 arg5 arg6 arg7 arg8 arg9 arg10 arg11 arg12 arg13 arg14 arg15 arg16 arg17 arg18 x3 x4 x5 x6 x7 x8) := by
  rw [k0_part45_eq_skeleton]; unfold k0_part45_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part46 (v150 : FVec F S128x512 .bf16) (v194 : FVec F S512x256 .f32) (v212 : FVec F S128x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v150 v194 v212) (fun _ => Held c arg3 arg4 arg5 arg6 arg7 arg8 arg9 arg10 arg11 arg12 arg13 arg14 arg15 arg16 arg17 arg18 x3 x4 x5 x6 x7 x8) := by
  rw [k0_part46_eq_skeleton]; unfold k0_part46_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part47 (v150 : FVec F S128x512 .bf16) (v228 : FVec F S512x256 .f32) (v230 : FVec F S1x256 .f32) (v243 : Vec F S1x128x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part47 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v150 v228 v230 v243) (fun _ => Held c arg3 arg4 arg5 arg6 arg7 arg8 arg9 arg10 arg11 arg12 arg13 arg14 arg15 arg16 arg17 arg18 x3 x4 x5 x6 x7 x8) := by
  rw [k0_part47_eq_skeleton]; unfold k0_part47_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.Loops.lean ====
/-
The body's middle: the loops over the far and the near key blocks.
-/
module

public import proofs.«01_k».proof.Proof.P8.Trip1
public import proofs.«01_k».proof.Proof.P8.Trip2
public import proofs.«01_k».proof.Proof.P8.Trip3
public import proofs.«01_k».proof.Proof.P8.Trip4
public import proofs.«01_k».proof.Proof.P8.Even

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part59 (arg2 : BitVec 32) (v42 : Vec F S512x128 .bf16) (v47 : FVec F S512x512 .f32) (v60 : Vec F S1x512x128 .bf16) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part59 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v42 v47 v60) (fun _ => Held c arg3 arg4 arg5 arg6 arg7 arg8 arg9 arg10 arg11 arg12 arg13 arg14 arg15 arg16 arg17 arg18 x3 x4 x5 x6 x7 x8) := by
  rw [k0_part59_eq_skeleton]; unfold k0_part59_skel
  by_cases h : k0_cond2 i = 1#1
  · simp only [dif_pos h, k0_part44_eq_skeleton, k0_part45_eq_skeleton, k0_part46_eq_skeleton, k0_part47_eq_skeleton]; unfold k0_part44_skel k0_part45_skel k0_part46_skel k0_part47_skel
    iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  · simp only [dif_neg h]
    iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Kernel8

end
-- ==== Proof.P8.OddA.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part48 (arg2 : BitVec 32) (k0_h3 : k0_cond3 i = 1#1) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k0_h3) (fun _ => Held c arg3 arg4 arg5 arg6 arg7 arg8 arg9 arg10 arg11 arg12 arg13 arg14 arg15 arg16 arg17 arg18 x3 x4 x5 x6 x7 x8) := by
  rw [k0_part48_eq_skeleton]; unfold k0_part48_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part49 (arg2 : BitVec 32) (k0_h3 : k0_cond3 i = 1#1) (v177 : FVec F S1x512 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k0_h3 v177) (fun _ => Held c arg3 arg4 arg5 arg6 arg7 arg8 arg9 arg10 arg11 arg12 arg13 arg14 arg15 arg16 arg17 arg18 x3 x4 x5 x6 x7 x8) := by
  rw [k0_part49_eq_skeleton]; unfold k0_part49_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part50 (v184 : FVec F S128x512 .bf16) (v194 : FVec F S512x256 .f32) (v196 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v184 v194 v196) (fun _ => Held c arg3 arg4 arg5 arg6 arg7 arg8 arg9 arg10 arg11 arg12 arg13 arg14 arg15 arg16 arg17 arg18 x3 x4 x5 x6 x7 x8) := by
  rw [k0_part50_eq_skeleton]; unfold k0_part50_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part51 (v184 : FVec F S128x512 .bf16) (v228 : FVec F S512x256 .f32) (v230 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v184 v228 v230) (fun _ => Held c arg3 arg4 arg5 arg6 arg7 arg8 arg9 arg10 arg11 arg12 arg13 arg14 arg15 arg16 arg17 arg18 x3 x4 x5 x6 x7 x8) := by
  rw [k0_part51_eq_skeleton]; unfold k0_part51_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.OddB.lean ====
/-
Stretches of the attention's body: each keeps what the body holds.
-/
module

public import proofs.«01_k».proof.Proof.P8.State

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part52 (v184 : FVec F S128x512 .bf16) (v262 : FVec F S512x256 .f32) (v264 : FVec F S1x256 .f32) (v273 : FVec F S1x256 .f32) (v274 : Vec F S1x1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part52 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v184 v262 v264 v273 v274) (fun _ => Held c arg3 arg4 arg5 arg6 arg7 arg8 arg9 arg10 arg11 arg12 arg13 arg14 arg15 arg16 arg17 arg18 x3 x4 x5 x6 x7 x8) := by
  rw [k0_part52_eq_skeleton]; unfold k0_part52_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part53 (arg2 : BitVec 32) (k0_h3 : k0_cond3 i = 1#1) (v184 : FVec F S128x512 .bf16) (v296 : FVec F S512x256 .f32) (v298 : FVec F S1x256 .f32) (v307 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 k0_h3 v184 v296 v298 v307) (fun _ => Held c arg3 arg4 arg5 arg6 arg7 arg8 arg9 arg10 arg11 arg12 arg13 arg14 arg15 arg16 arg17 arg18 x3 x4 x5 x6 x7 x8) := by
  rw [k0_part53_eq_skeleton]; unfold k0_part53_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part54 (v323 : FVec F S128x512 .bf16) (v333 : FVec F S512x256 .f32) (v335 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part54 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v323 v333 v335) (fun _ => Held c arg3 arg4 arg5 arg6 arg7 arg8 arg9 arg10 arg11 arg12 arg13 arg14 arg15 arg16 arg17 arg18 x3 x4 x5 x6 x7 x8) := by
  rw [k0_part54_eq_skeleton]; unfold k0_part54_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part55 (v323 : FVec F S128x512 .bf16) (v367 : FVec F S512x256 .f32) (v369 : FVec F S1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part55 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v323 v367 v369) (fun _ => Held c arg3 arg4 arg5 arg6 arg7 arg8 arg9 arg10 arg11 arg12 arg13 arg14 arg15 arg16 arg17 arg18 x3 x4 x5 x6 x7 x8) := by
  rw [k0_part55_eq_skeleton]; unfold k0_part55_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

theorem part56 (v323 : FVec F S128x512 .bf16) (v396 : FVec F S1x256 .f32) (v401 : FVec F S512x256 .f32) (v403 : FVec F S1x256 .f32) (v404 : Vec F S1x1x256 .f32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v323 v396 v401 v403 v404) (fun _ => Held c arg3 arg4 arg5 arg6 arg7 arg8 arg9 arg10 arg11 arg12 arg13 arg14 arg15 arg16 arg17 arg18 x3 x4 x5 x6 x7 x8) := by
  rw [k0_part56_eq_skeleton]; unfold k0_part56_skel
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.Last.lean ====
/-
The body's last key blocks and the normalisation.
-/
module

public import proofs.«01_k».proof.Proof.P8.OddA
public import proofs.«01_k».proof.Proof.P8.OddB

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

theorem part60 (arg2 : BitVec 32) :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (k0_part60 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2) (fun _ => Held c arg3 arg4 arg5 arg6 arg7 arg8 arg9 arg10 arg11 arg12 arg13 arg14 arg15 arg16 arg17 arg18 x3 x4 x5 x6 x7 x8) := by
  rw [k0_part60_eq_skeleton]; unfold k0_part60_skel
  by_cases h : k0_cond3 i = 1#1
  · rw [dif_pos h]
    refine Held.seq (part48 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 h) ?_; rintro v177
    refine Held.seq (part49 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 h v177) ?_; rintro ⟨v184, v194, v196⟩
    refine Held.seq (part50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v184 v194 v196) ?_; rintro ⟨v228, v230⟩
    refine Held.seq (part51 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v184 v228 v230) ?_; rintro ⟨v262, v264, v273, v274⟩
    refine Held.seq (part52 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v184 v262 v264 v273 v274) ?_; rintro ⟨v296, v298, v307⟩
    refine Held.seq (part53 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 h v184 v296 v298 v307) ?_; rintro ⟨v323, v333, v335⟩
    refine Held.seq (part54 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v323 v333 v335) ?_; rintro ⟨v367, v369⟩
    refine Held.seq (part55 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v323 v367 v369) ?_; rintro ⟨v396, v401, v403, v404⟩
    refine Held.seq (part56 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 v323 v396 v401 v403 v404) ?_; rintro ⟨v430, v435, v437⟩
    iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  · rw [dif_neg h]
    iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Kernel8

end
-- ==== Proof.P8.Body.lean ====
/-
The attention's whole body.
-/
module

public import proofs.«01_k».proof.Proof.P8.Setup
public import proofs.«01_k».proof.Proof.P8.Loops
public import proofs.«01_k».proof.Proof.P8.Last

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x3x512x512 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S512x128 .bf16) (harg9 : arg9.IsWhole) (arg10 : Memref sig .tc .vmem S8x128x512 .bf16) (harg10 : arg10.IsWhole) (arg11 : Memref sig .tc .vmem S2x512x128 .bf16) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x128x512 .f32) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole)
  (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ)))

/-- The whole body keeps what it holds. -/
theorem whole :
    Held c arg3 arg4 arg5 arg6 arg7 arg8 arg9 arg10 arg11 arg12 arg13 arg14 arg15 arg16 arg17 arg18 x3 x4 x5 x6 x7 x8 ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => Held c arg3 arg4 arg5 arg6 arg7 arg8 arg9 arg10 arg11 arg12 arg13 arg14 arg15 arg16 arg17 arg18 x3 x4 x5 x6 x7 x8) := by
  rw [cc0_diff_attention_eq_skeleton]; unfold cc0_diff_attention_skel
  refine Held.seq (part57 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8) ?_; rintro ⟨arg2, v32⟩
  refine Held.seq (part58 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v32) ?_; rintro ⟨v42, v47, v60⟩
  refine Held.seq (part59 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2 v42 v47 v60) ?_; rintro -
  refine Held.seq (part60 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 arg2) ?_; rintro ⟨v117, v125, v126⟩
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel8

end
-- ==== Proof.P8.Frame.lean ====
/-
The attention's run on its grid: what the windows stage, the body's obligation at every point, and the claim that the arguments end unchanged. Nothing is said of the output.
-/
module

public import proofs.«01_k».proof.Proof.P8.Body
public import proofs.«01_k».proof.Proof.Gen.Kernel8.Launch
public import proofs.«01_k».proof.Proof.Gen.Kernel8.Points
public import Idealize.ShloMosaic.Lib.Pipeline.FrameBody

@[expose] public section

set_option maxRecDepth 16384

noncomputable section

namespace Cert.Kernel8

open Cert.Kernel8.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: after the reshape of the gains. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes no argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

/-- The reshape writes no argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-- The reshape writes no argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-- The reshape writes no argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-- The block of window `w` at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pipeline's proof data: the arrays as the region finds them, the inputs' blocks left in place, the output's unnamed, and the scratch at
some contents. The three windows on the first argument hold a share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The output's window, of whose contents nothing is said. -/
def forgot : Fin cfg0.W → Bool := fun w => decide (w.val = 6)

/-- A whole buffer held through its view, or as itself. -/
theorem heldWhole (c : Dev nD) (b : Ref sig .tc) (f : Buf (Elt F) ((c : Thread nD τ).loc b)) :
    ((((Memref.whole b).view.loc (c : Thread nD τ)) ↦[(Memref.whole b).view.set]{fullShare} f : sProp 𝕄)) = (((c : Thread nD τ).loc b) ↦{fullShare} f) := by
  rw [View.set_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5]
  unfold Pipeline.ΦA owns
  rw [scopedRest0_eq]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩, HR⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%X, %f6, -, H6⟩⟩
  iapply (wp_wand_r _ _ _)
  isplitl [S0 S1 S2 S3 S4 S5 S6 S7 S8 H0 H1 H2 H3 H4 H5 H6]
  · iapply (whole c (grid0.coords t) _ _ _ _ _ _ _ _ _ _ _ _ _ _ _ _ _ _ _ _ _ _ _ _ _ _ _ _ _ _ _ _ f0 f1 f2 f3 f4 f5)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexists g0; rw [heldWhole]; iexact S0
    isplitl [S1]; · iexists g1; rw [heldWhole]; iexact S1
    isplitl [S2]; · iexists g2; rw [heldWhole]; iexact S2
    isplitl [S3]; · iexists g3; rw [heldWhole]; iexact S3
    isplitl [S4]; · iexists g4; rw [heldWhole]; iexact S4
    isplitl [S5]; · iexists g5; rw [heldWhole]; iexact S5
    isplitl [S6]; · iexists g6; rw [heldWhole]; iexact S6
    isplitl [S7]; · iexists g7; rw [heldWhole]; iexact S7
    iexists g8; rw [heldWhole]; iexact S8
  iintro %u ⟨H0, H1, H2, H3, H4, H5, ⟨%e6, H6⟩, ⟨%e10, S0⟩, ⟨%e11, S1⟩, ⟨%e12, S2⟩, ⟨%e13, S3⟩, ⟨%e14, S4⟩, ⟨%e15, S5⟩, ⟨%e16, S6⟩, ⟨%e17, S7⟩, ⟨%e18, S8⟩⟩
  isplitl [S0 S1 S2 S3 S4 S5 S6 S7 S8 HR]
  · isplitr [HR]
    · isplitl [S0]; · iexists e10; rw [← heldWhole]; iexact S0
      isplitl [S1]; · iexists e11; rw [← heldWhole]; iexact S1
      isplitl [S2]; · iexists e12; rw [← heldWhole]; iexact S2
      isplitl [S3]; · iexists e13; rw [← heldWhole]; iexact S3
      isplitl [S4]; · iexists e14; rw [← heldWhole]; iexact S4
      isplitl [S5]; · iexists e15; rw [← heldWhole]; iexact S5
      isplitl [S6]; · iexists e16; rw [← heldWhole]; iexact S6
      isplitl [S7]; · iexists e17; rw [← heldWhole]; iexact S7
      iexists e18; rw [← heldWhole]; iexact S8
    · iexact HR
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _, e6; isplitr; · ipureintro; rfl
  iexact H6

theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ forgot := fun t => by
  rw [bigSep_W0, bigSep_W0, defs₀_row]
  exact triple_restated (sound_body m c t) rfl .rfl fun _ => .rfl

set_option backward.isDefEq.respectTransparency.types false in
/-- Every run of @main ends, with the arrays no window writes as the region found them and every counter at zero. -/
theorem run_main : θ_run defs (onTc (τ := τ) (main (F := F))) (s₀ m ρ)
    (fun r => (Pipeline.RDat.FramePost cfg0 (fun c => (dats m 0 c).toRForget forgot) (V m)) r ∧ r.2.sem = fun _ => 0) :=
  Pipeline.θ_run_frame_forget_shared (Q' := _) cfgs (dats m) (0 : Fin 1) launch₀0 defs₀ Variants.none forgot m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 0 rfl).trans ((A_eq m c 0).trans (V_main_arg0 m c)),
      (Pipeline.RDat.FramePost.arr_in h.1 c 3 rfl).trans ((A_eq m c 3).trans (V_main_arg1 m c)),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c)⟩, h.2⟩) (run_main m ρ)

end Cert.Kernel8

end
-- ==== Proof.PI8.Frame.lean ====
/-
The attention over the extended reals: the two printed programs are one and the same, so the frame proved for any reading of the
floats holds of this one.
-/
module

public import proofs.«01_k».proof.Defs
public import proofs.«01_k».proof.Proof.P8.Frame
public import proofs.«01_k».proof.Proof.Gen.Kernel8Ideal

@[expose] public section

set_option maxRecDepth 65536

noncomputable section

namespace Cert.Kernel8Ideal

open Idealize.ShloMosaic

/-- The two programs' body tables are equal. -/
theorem bodies_eq : Cert.Kernel8Ideal.defs₀ (F := Ideal) = Cert.Kernel8.defs₀ (F := Ideal) := by
  unfold Cert.Kernel8Ideal.defs₀ Cert.Kernel8.defs₀
  refine congrArg Defs.onTc (funext fun l => ?_)
  have hl : l = 0 := Subsingleton.elim _ _
  subst hl
  rfl

/-- Every run over the extended reals ends, with the arguments unchanged. -/
theorem frame : Cert.quiescent_Kernel8Ideal (hKernel8Ideal := Cert.Kernel8Ideal.Gen.facts) := by
  intro m g _
  have h := Cert.Kernel8.frame (F := Ideal) m g
  have e : Cert.Kernel8.defs (F := Ideal) = Cert.Kernel8Ideal.defs (F := Ideal) := congrArg (Pipeline.defs _) bodies_eq.symm
  rw [e] at h
  exact h

end Cert.Kernel8Ideal

end
-- ==== Proof.K9.Value.lean ====
/-
The last call: the experts' output added to the residual stream, and the norm of the sum, which is the model's result. What the
call leaves over the extended reals, and that the reference computes the same.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.K3.Value
public import Idealize.ShloMosaic.Lib.WholeRead

@[expose] public section

set_option maxRecDepth 16384

noncomputable section

namespace Cert.Kernel9Ideal.Last

open Cert.Kernel9Ideal Cert.Kernel9Ideal.Gen
open Idealize.ShloMosaic Idealize.ShloMosaic.TcCoe Idealize.ShloMosaic.Tactic
open Idealize.SL Idealize.SL.Sem
open Idealize.ShloMosaic.Pipeline (Dat Cfg Window)
open Cert.Layer
open Cert.Kernel3Ideal.Project (blockSum summed)

/-- The body's result: the norm of the sum that the call between the layers also makes. -/
theorem pay_at (v0 : Vec Ideal S512x1024 .f32) (v1 v2 v3 v4 v5 v6 v7 v8 : Vec Ideal S512x128 .f32) (x2 : Vec Ideal S1x1024 .f32) (r : Fin 512) (d : Fin 1024) :
    k0_pay1 (F := Ideal) v0 v1 v2 v3 v4 v5 v6 v7 v8 x2 (ix2 (n0 := 512) (n1 := 1024) r d)
      = normed (fun j => Cert.Kernel3Ideal.Gen.k0_pay1 (F := Ideal) v0 v1 v2 v3 v4 v5 v6 v7 v8 (ix2 (n0 := 512) (n1 := 1024) r j))
          (fun j => x2 (ix2 (n0 := 1) (n1 := 1024) 0 j)) d := by
  unfold normed
  pointwise [k0_pay1, Cert.Kernel3Ideal.Gen.k0_pay1]

/-- A load of row `s` of every token's eight rows, at a token and a lane. -/
theorem rows_at {M : Memref sig .tc .vmem S4096x128 .f32} (hM : M.IsWhole) (x1 : Vec Ideal S4096x128 .f32) (s : Fin 8) (inb) (r : Fin 512) (l : Fin 128) :
    View.readAt (Elt Ideal) M.view { off := ![s.val, 0], size := ![512, 128], stride := ![8, 1], inb := inb } (hM.unread x1) (ix2 (n0 := 512) (n1 := 128) r l)
      = x1 (ix2 (n0 := 4096) (n1 := 128) ⟨8 * r.val + s.val, by omega⟩ l) := by
  refine (hM.readAt_unread x1 _ _).trans (congrArg x1 (funext fun a => Fin.ext ?_))
  match a with
  | ⟨0, _⟩ => show s.val + 8 * r.val = 8 * r.val + s.val; omega
  | ⟨1, _⟩ => show 0 + 1 * l.val = l.val; omega

/-- A load of a whole buffer. -/
theorem load_whole {s : Shape} {e : EltTy} {off : Fin s.rank → ℕ} (h0 : off = fun _ => 0) {M : Memref sig .tc .vmem s e} (hM : M.IsWhole) (x : Vec Ideal s e) (inb) :
    View.readAt (Elt Ideal) M.view (Rect.unit (s := s) off s.size inb).toLoadRect (hM.unread x) = x := by
  subst h0
  refine funext fun y => (hM.readAt_unread x _ y).trans (congrArg x (funext fun a => Fin.ext ?_))
  show 0 + 1 * (y a).val = (y a).val
  omega

theorem out_at (c : Dev nD) (i : grid0.Coords) (arg1 : Memref sig .tc .vmem S512x1024 .f32) (harg1 : arg1.IsWhole) (arg2 : Memref sig .tc .vmem S4096x128 .f32)
    (harg2 : arg2.IsWhole) (arg3 : Memref sig .tc .vmem S1x1024 .f32) (harg3 : arg3.IsWhole) (arg4 : Memref sig .tc .vmem S512x1024 .f32)
    (harg4 : arg4.IsWhole) (x0 : Vec Ideal S512x1024 .f32) (x1 : Vec Ideal S4096x128 .f32) (x2 : Vec Ideal S1x1024 .f32) (r : Fin 512) (d : Fin 1024) :
    out0_A_3 (F := Ideal) c i arg1 harg1 arg2 harg2 arg3 harg3 arg4 harg4 x0 x1 x2 (ix2 (n0 := 512) (n1 := 1024) r d)
      = normed (blockSum x0 x1 r) (fun j => x2 (ix2 (n0 := 1) (n1 := 1024) 0 j)) d := by
  have zeros : (![0, 0] : Fin 2 → ℕ) = fun _ => 0 := funext fun a => match a with | ⟨0, _⟩ => rfl | ⟨1, _⟩ => rfl
  unfold out0_A_3
  rw [View.read_writes_junk_eq_canon]
  unfold kernelRun0_A
  dsimp only
  rw [View.canon_unit_zero zeros]
  refine (pay_at _ _ _ _ _ _ _ _ _ _ r d).trans (normed_congr (fun j => ?_) (fun j => ?_) d)
  · exact (Cert.Kernel3Ideal.Project.pay1_at _ x1 _ _ _ _ _ _ _ _ (fun r l => rows_at harg2 x1 0 _ r l) (fun r l => rows_at harg2 x1 1 _ r l)
      (fun r l => rows_at harg2 x1 2 _ r l) (fun r l => rows_at harg2 x1 3 _ r l) (fun r l => rows_at harg2 x1 4 _ r l) (fun r l => rows_at harg2 x1 5 _ r l)
      (fun r l => rows_at harg2 x1 6 _ r l) (fun r l => rows_at harg2 x1 7 _ r l) r j).trans
      (congrArg (blockSum · x1 r j) (load_whole (s := S512x1024) zeros harg1 x0 _))
  · exact congrFun (load_whole (s := S1x1024) zeros harg3 x2 _) _

/-- The norm of the residual stream plus the experts' output, at a token and a feature. -/
def final (x : S65536x1024.Idx → EReal) (e : S524288x128.Idx → EReal) (g : S1024.Idx → EReal) (n : Fin 65536) (d : Fin 1024) : EReal :=
  normed (summed x e n) (fun j => g (ix1 j)) d

variable (m : (ℓ : Loc nD τ sig) → Buf (Elt Ideal) ℓ)

def argX (c : Dev nD) : S65536x1024.Idx → EReal := m ((c : Thread nD τ).loc main_arg0)
def argE (c : Dev nD) : S524288x128.Idx → EReal := m ((c : Thread nD τ).loc main_arg1)
def argG (c : Dev nD) : S1024.Idx → EReal := m ((c : Thread nD τ).loc main_arg2)

theorem coord_lt (t : Fin grid0.N) : (grid0.coords t 0).val < 128 := (grid0.coords t 0).isLt

theorem word_of_coord (n : ℕ) (h : n < 128) : (BitVec.ofNat 32 n).toNat = n := by
  rw [BitVec.toNat_ofNat]; omega

/-- The row of the arrays that a row of a point's block is. -/
abbrev row (t : Fin grid0.N) (r : Fin 512) : Fin 65536 := ⟨512 * (grid0.coords t 0).val + r.val, by have := coord_lt t; omega⟩

/-- A point's block of the residual stream, -/
theorem stream_at (c : Dev nD) (t : Fin cfg0.N) (r : Fin 512) (d : Fin 1024) :
    (iblk m c 0 t : S512x1024.Idx → EReal) (ix2 r d) = argX m c (ix2 (row t r) d) := by
  unfold iblk argX
  refine congrArg (m ((c : Thread nD τ).loc main_arg0) : S65536x1024.Idx → EReal) (funext fun a => Fin.ext ?_)
  have h := Pipeline.Window.rect_emb_val (cfg0.win 0) t (ix2 (n0 := 512) (n1 := 1024) r d)
  match a with
  | ⟨0, p⟩ =>
    refine (h ⟨0, p⟩).trans ?_
    show (BitVec.ofNat 32 (grid0.coords t 0).val).toNat * 512 + r.val = 512 * (grid0.coords t 0).val + r.val
    rw [word_of_coord _ (coord_lt t)]; omega
  | ⟨1, p⟩ =>
    refine (h ⟨1, p⟩).trans ?_
    show 0 * 1024 + d.val = d.val
    omega

/-- of the experts' output, -/
theorem output_at (c : Dev nD) (t : Fin cfg0.N) (r : Fin 4096) (l : Fin 128) :
    (iblk m c 1 t : S4096x128.Idx → EReal) (ix2 r l) = argE m c (ix2 ⟨4096 * (grid0.coords t 0).val + r.val, by have := coord_lt t; omega⟩ l) := by
  unfold iblk argE
  refine congrArg (m ((c : Thread nD τ).loc main_arg1) : S524288x128.Idx → EReal) (funext fun a => Fin.ext ?_)
  have h := Pipeline.Window.rect_emb_val (cfg0.win 1) t (ix2 (n0 := 4096) (n1 := 128) r l)
  match a with
  | ⟨0, p⟩ =>
    refine (h ⟨0, p⟩).trans ?_
    show (BitVec.ofNat 32 (grid0.coords t 0).val).toNat * 4096 + r.val = 4096 * (grid0.coords t 0).val + r.val
    rw [word_of_coord _ (coord_lt t)]; omega
  | ⟨1, p⟩ =>
    refine (h ⟨1, p⟩).trans ?_
    show 0 * 128 + l.val = l.val
    omega

/-- The gains as one row, which the host makes of them before the call. -/
theorem gains (c : Dev nD) : V m c main_v0 = shapeCast S1x1024 (m ((c : Thread nD τ).loc main_arg2)) shapeCasts_S1024_S1x1024 := by
  unfold V
  after_results
  rfl

/-- and of the gains. -/
theorem gains_at (c : Dev nD) (t : Fin cfg0.N) (k : Fin 1024) :
    (iblk m c 2 t : S1x1024.Idx → EReal) (ix2 0 k) = argG m c (ix1 k) := by
  refine Eq.trans ?_ ((congrFun (gains m c) (ix2 (n0 := 1) (n1 := 1024) 0 k)).trans (ValueIdx.shapeCast_a_1a_apply (argG m c) _ 0 k))
  unfold iblk
  refine congrArg (V m c main_v0 : S1x1024.Idx → EReal) (funext fun a => Fin.ext ?_)
  have h := Pipeline.Window.rect_emb_val (cfg0.win 2) t (ix2 (n0 := 1) (n1 := 1024) 0 k)
  match a with
  | ⟨0, p⟩ => exact h ⟨0, p⟩
  | ⟨1, p⟩ =>
    refine (h ⟨1, p⟩).trans ?_
    show 0 * 1024 + k.val = k.val
    omega

/-- A row of a point's sum. -/
theorem sum_at (c : Dev nD) (t : Fin cfg0.N) (r : Fin 512) (d : Fin 1024) :
    blockSum (iblk m c 0 t) (iblk m c 1 t) r d = summed (argX m c) (argE m c) (row t r) d := by
  unfold blockSum summed
  refine congrArg₂ (· + ·) (stream_at m c t r d) ((output_at m c t _ _).trans (congrArg (argE m c) (congrArg₂ (ix2 (n0 := 524288) (n1 := 128)) (Fin.ext ?_) rfl)))
  show 4096 * (grid0.coords t 0).val + (8 * r.val + d.val / 128) = 8 * (512 * (grid0.coords t 0).val + r.val) + d.val / 128
  omega

/-- The blocks of the result cover it. -/
theorem covers : (cfg0.win 3).Covers := by
  have b0 : (cfg0.win 3).nblk (show Fin 2 from 0) = 128 := (rfl : (65536 + 512 - 1) / 512 = 128)
  have b1 : (cfg0.win 3).nblk (show Fin 2 from 1) = 1 := (rfl : (1024 + 1024 - 1) / 1024 = 1)
  refine Pipeline.Window.covers_of_indexMap_surj _ rfl (fun a => ?_) fun β => ?_
  · match a with
    | ⟨0, p⟩ => show 0 < 512; decide
    | ⟨1, p⟩ => show 0 < 1024; decide
  · have l0 : (β (show Fin 2 from 0)).val < 128 := lt_of_lt_of_eq (β (show Fin 2 from 0)).isLt b0
    have l1 : (β (show Fin 2 from 1)).val < 1 := lt_of_lt_of_eq (β (show Fin 2 from 1)).isLt b1
    refine ⟨fun b => match b with | ⟨0, _⟩ => ⟨(β (show Fin 2 from 0)).val, l0⟩, fun a => ?_⟩
    match a with
    | ⟨0, p⟩ => exact word_of_coord _ l0
    | ⟨1, p⟩ => exact (Nat.lt_one_iff.1 l1).symm

/-- The result after the run. -/
def result (c : Dev nD) : Buf (Elt Ideal) ((c : Thread nD τ).loc main_v1) := fun (y : S65536x1024.Idx) => final (argX m c) (argE m c) (argG m c) (y 0) (y 1)

/-- A point's block of the result, at a row and a feature. -/
theorem block_at (c : Dev nD) (t : Fin cfg0.N) (y : S512x1024.Idx) (n : Fin 65536) (d : Fin 1024)
    (hn : n.val = 512 * (grid0.coords t 0).val + (y 0).val) (hd : d.val = (y 1).val) :
    outsAt0 m c t y = final (argX m c) (argE m c) (argG m c) n d := by
  obtain rfl : n = row t (y 0) := Fin.ext hn
  obtain rfl : d = y 1 := Fin.ext hd
  have e : y = ix2 (n0 := 512) (n1 := 1024) (y 0) (y 1) := funext fun a => match a with | ⟨0, _⟩ => rfl | ⟨1, _⟩ => rfl
  refine (congrArg (outsAt0 m c t) e).trans ?_
  unfold outsAt0
  refine (out_at _ _ _ _ _ _ _ _ _ _ _ _ _ _ _).trans ?_
  exact normed_congr (fun j => sum_at m c t _ j) (fun j => gains_at m c t j) _

/-- A point's block lies in the result where its coordinate says. -/
theorem place0 (t : Fin cfg0.N) (y : S512x1024.Idx) :
    (((cfg0.win 3).rect t).emb y (show Fin 2 from 0)).val = 512 * (grid0.coords t 0).val + (y 0).val :=
  (Pipeline.Window.rect_emb_val (cfg0.win 3) t y (show Fin 2 from 0)).trans
    (show (BitVec.ofNat 32 (grid0.coords t 0).val).toNat * 512 + (y 0).val = 512 * (grid0.coords t 0).val + (y 0).val by
      rw [word_of_coord _ (coord_lt t), Nat.mul_comm])

theorem place1 (t : Fin cfg0.N) (y : S512x1024.Idx) : (((cfg0.win 3).rect t).emb y (show Fin 2 from 1)).val = (y 1).val :=
  (Pipeline.Window.rect_emb_val (cfg0.win 3) t y (show Fin 2 from 1)).trans
    (show 0 * 1024 + (y 1).val = (y 1).val by rw [Nat.zero_mul, Nat.zero_add])

theorem after_at (c : Dev nD) (t : Fin cfg0.N) (y : S512x1024.Idx) :
    (dats m 0 c).after 3 t y = result m c (((cfg0.win 3).rect t).emb y) := by
  rw [after0_3]
  exact block_at m c t y _ _ (place0 t y) (place1 t y)

/-- After the run the result array holds every row's norm. -/
theorem arr_eq (c : Dev nD) : (dats m 0 c).arrAt 3 cfg0.N = result m c :=
  (dats m 0 c).arrAt_eq_of_covers 3 _ covers fun t _ y => after_at m c t y

end Cert.Kernel9Ideal.Last

namespace Cert.Kernel9Ideal.Last

open Idealize.ShloMosaic Idealize.ShloMosaic.TcCoe Idealize.SL Idealize.SL.Sem Cert.Layer
open Cert.Kernel3Ideal.Project (summed)

/-- The reference's sum. -/
theorem ref_sum (x : Cert.Reference9Ideal.S65536x1024.Idx → EReal) (e : Cert.Reference9Ideal.S524288x128.Idx → EReal)
    (y : Cert.Reference9Ideal.S65536x1024.Idx) :
    Cert.Reference9Ideal.Read.val_main_v1 (F := Ideal) x e y = summed x e (y 0) (y 1) := by
  have h0 : (y 0).val < 65536 := (y 0).isLt
  have h1 : (y 1).val < 1024 := (y 1).isLt
  rw [Cert.Reference9Ideal.Read.val_main_v1_apply, Cert.Reference9Ideal.Read.val_main_v0_apply]
  unfold summed
  refine congrArg₂ (· + ·) (congrArg x (funext fun b => match b with | ⟨0, _⟩ => rfl | ⟨1, _⟩ => rfl)) (congrArg e (funext fun b => Fin.ext ?_))
  match b with
  | ⟨0, _⟩ => show ((y 0).val * 1024 + (y 1).val) / 128 = 8 * (y 0).val + (y 1).val / 128; omega
  | ⟨1, _⟩ => show ((y 0).val * 1024 + (y 1).val) % 128 = (y 1).val % 128; omega

/-- The reference's result. -/
theorem ref_eq (x : Cert.Reference9Ideal.S65536x1024.Idx → EReal) (e : Cert.Reference9Ideal.S524288x128.Idx → EReal) (g : Cert.Reference9Ideal.S1024.Idx → EReal)
    (y : Cert.Reference9Ideal.S65536x1024.Idx) :
    Cert.Reference9Ideal.Read.val_main_v14 (F := Ideal) x e g y = final x e g (y 0) (y 1) := by
  unfold final normed
  open Cert.Reference9Ideal.Read in
  rw [val_main_v14_apply, val_main_v13_apply, val_main_v12_apply, val_main_v11_apply, val_main_v10_apply, val_main_v9_apply, val_main_v8_apply, val_main_v7_apply,
    val_main_v6_apply, val_main_v5_apply, val_main_v4_apply, val_main_v3_apply, val_main_cst_apply, val_main_cst_0_apply,
    val_main_cst_1_apply]
  refine congrArg₂ (· * ·) (congrArg₂ (· * ·) (ref_sum x e _) (congrArg Ideal.rsqrt
    (congrArg (· + Ideal.ofBits .f32 0x358637BD#32) (congrArg (Ideal.div · (Ideal.ofBits .f32 0x44800000#32)) ?_))))
    (congrArg g (funext fun b => match b with | ⟨0, _⟩ => rfl))
  exact (congrArg (· + _) Ideal.ofBits_zero_f32).trans ((zero_add _).trans (Finset.sum_congr rfl fun j _ => congrArg₂ (· * ·) (ref_sum x e _) (ref_sum x e _)))

/-- Over the extended reals the call and the reference end with the same result. -/
theorem same : Cert.algebraic_Kernel9Ideal_Reference9Ideal (hKernel9Ideal := Cert.Kernel9Ideal.Gen.facts) (hReference9Ideal := Cert.Reference9Ideal.Gen.facts) := by
  intro m g m' g' _ hagree
  refine ⟨fun c => result m c, ?_, ?_⟩
  · refine (θ_run Cert.Kernel9Ideal.defs _ _).mono (fun r h c => ?_) (Cert.Kernel9Ideal.Value.run_blocks (F := Ideal) m g)
    exact ⟨(h c).1.trans (arr_eq m c), (h c).2⟩
  · refine (θ_run Cert.Reference9Ideal.defs _ _).mono (fun r h c => ⟨(h c).1.trans ?_, (h c).2⟩) (Cert.Reference9Ideal.Value.run (F := Ideal) m' g')
    obtain ⟨h0, h1, h2⟩ := hagree c
    refine (Cert.Reference9Ideal.Read.val_main_v14_eq (F := Ideal) _ _ _).trans (funext fun y => ?_)
    rw [h0, h1, h2]
    exact ref_eq _ _ _ y

/-- Every run of the reference ends, with the arguments unchanged. -/
theorem frame_reference : Cert.quiescent_Reference9Ideal (hReference9Ideal := Cert.Reference9Ideal.Gen.facts) :=
  fun m g _ => (θ_run Cert.Reference9Ideal.defs _ _).mono
    (fun r h => ⟨fun c => (h c).2, sem_eq_zero_of_no_sems (by decide) r.2⟩) (Cert.Reference9Ideal.Value.run (F := Ideal) m g)

end Cert.Kernel9Ideal.Last

end
-- ==== Proof.K10.Body.lean ====
/-
What the gated convolution's body computes on a block, over the extended reals: the taps' sum over the rows kept from the block before and
the block's own, its norm over the channels, and the swish of that.
-/
module

public import proofs.«01_k».proof.Proof.Gen.Kernel10Ideal.Value
public import Idealize.ShloMosaic.Lib.WholeRead
public import Idealize.ShloMosaic.Lib.ValueIdx
public import Idealize.ShloMosaic.Lib.Pipeline.ValueKit

@[expose] public section

set_option maxRecDepth 16384

noncomputable section

namespace Cert.Kernel10Ideal.Conv

open Cert.Kernel10Ideal Cert.Kernel10Ideal.Gen
open Idealize.ShloMosaic Idealize.ShloMosaic.TcCoe Idealize.ShloMosaic.Tactic
open Idealize.SL Idealize.SL.Sem

/-- The first `n` terms added to `z` in order. -/
def addUp (z : EReal) (f : ℕ → EReal) : ℕ → EReal
  | 0 => z
  | n + 1 => addUp z f n + f n

/-- What the sum starts from may be added at the end. -/
theorem addUp_zero (z : EReal) (f : ℕ → EReal) (n : ℕ) : addUp 0 f n + z = addUp z f n := by
  induction n with
  | zero => exact zero_add z
  | succ n ih => exact (add_right_comm _ _ _).trans (congrArg (· + f n) ih)

theorem addUp_congr {z z' : EReal} {f f' : ℕ → EReal} (hz : z = z') (n : ℕ) (hf : ∀ j, j < n → f j = f' j) : addUp z f n = addUp z' f' n := by
  induction n with
  | zero => exact hz
  | succ n ih => exact congrArg₂ (· + ·) (ih fun j h => hf j (Nat.lt_succ_of_lt h)) (hf n (Nat.lt_succ_self n))

/-- A channel less the channels' mean, -/
def centred (x : Fin 512 → EReal) (k : Fin 512) : EReal := x k - Ideal.div (∑ j, x j) (Ideal.ofBits .f32 0x44000000#32)

/-- and the layer norm of the channels. -/
def layerNorm (x g b : Fin 512 → EReal) (k : Fin 512) : EReal :=
  centred x k * Ideal.rsqrt (Ideal.div (∑ j, centred x j * centred x j) (Ideal.ofBits .f32 0x44000000#32) + Ideal.ofBits .f32 0x358637BD#32) * g k + b k

/-- The layer norm times its own logistic. -/
def swished (x g b : Fin 512 → EReal) (k : Fin 512) : EReal := layerNorm x g b k * Ideal.logistic (layerNorm x g b k)

theorem swished_congr {x x' g g' b b' : Fin 512 → EReal} (hx : ∀ k, x k = x' k) (hg : ∀ k, g k = g' k) (hb : ∀ k, b k = b' k) (k : Fin 512) :
    swished x g b k = swished x' g' b' k := by
  rw [funext hx, funext hg, funext hb]

/-- The body's last step, of the taps' sum so far and the last two taps. -/
theorem pay21_at (v212 v217 : FVec Ideal S512x512 .f32) (v219 : Vec Ideal S1x512x512 .f32) (v221 : Vec Ideal S1x512 .f32) (v225 : Vec Ideal S512x512 .f32)
    (v226 v246 v250 : Vec Ideal S1x512 .f32) (r d : Fin 512) :
    k0_pay21 (F := Ideal) v212 v217 v219 v221 v225 v226 v246 v250 (ix2 (n0 := 512) (n1 := 512) r d)
      = swished (fun j => v212 (ix2 (n0 := 512) (n1 := 512) r j) + v217 (ix2 (n0 := 512) (n1 := 512) r j)
            + v221 (ix2 (n0 := 1) (n1 := 512) 0 j) * v219 (ix3 (n0 := 1) (n1 := 512) (n2 := 512) 0 r j)
            + v226 (ix2 (n0 := 1) (n1 := 512) 0 j) * v225 (ix2 (n0 := 512) (n1 := 512) r j))
          (fun j => v246 (ix2 (n0 := 1) (n1 := 512) 0 j)) (fun j => v250 (ix2 (n0 := 1) (n1 := 512) 0 j)) d := by
  unfold swished layerNorm centred
  pointwise [k0_pay21]

/-- The rows that the body reads: those kept from the block before, then the block's. -/
theorem rows_at (p : Vec Ideal S32x512 .f32) (q : Vec Ideal S512x512 .f32) (inb inb') (i : Fin 544) (d : Fin 512) :
    View.canon (Val := Elt Ideal) (s := S544x512) (e := .f32) [⟨Rect.unit ![32, 0] S512x512.size inb, q⟩, ⟨Rect.unit ![0, 0] S32x512.size inb', p⟩] (ix2 (n0 := 544) (n1 := 512) i d)
      = if h : i.val < 32 then p (ix2 (n0 := 32) (n1 := 512) ⟨i.val, h⟩ d) else q (ix2 (n0 := 512) (n1 := 512) ⟨i.val - 32, by omega⟩ d) := by
  refine View.canon_eq_of_allAt _ _ _ ?_ (View.allAt_cons_unit _ _ _ _ _ (fun x hx => ?_) (View.allAt_cons_unit _ _ _ _ _ (fun x hx => ?_) (View.allAt_nil _ _)))
  · by_cases h : i.val < 32
    · refine ⟨⟨Rect.unit ![0, 0] S32x512.size inb', p⟩, List.mem_cons_of_mem _ List.mem_cons_self, (Rect.mem_set_unit (inb := inb')).mpr fun a => ?_⟩
      match a with
      | ⟨0, _⟩ => exact ⟨Nat.zero_le _, by show i.val < 0 + 32; omega⟩
      | ⟨1, _⟩ => exact ⟨Nat.zero_le _, by show d.val < 0 + 512; omega⟩
    · refine ⟨⟨Rect.unit ![32, 0] S512x512.size inb, q⟩, List.mem_cons_self, (Rect.mem_set_unit (inb := inb)).mpr fun a => ?_⟩
      match a with
      | ⟨0, _⟩ => exact ⟨by show 32 ≤ i.val; omega, by show i.val < 32 + 512; omega⟩
      | ⟨1, _⟩ => exact ⟨Nat.zero_le _, by show d.val < 0 + 512; omega⟩
  · have h0 : i.val = 32 + (x 0).val := hx 0
    have h1 : d.val = 0 + (x 1).val := hx 1
    rw [dif_neg (by omega)]
    exact congrArg q (funext fun a => Fin.ext (match a with
      | ⟨0, _⟩ => by show (x 0).val = i.val - 32; omega
      | ⟨1, _⟩ => by show (x 1).val = d.val; omega))
  · have h0 : i.val = 0 + (x 0).val := hx 0
    have h1 : d.val = 0 + (x 1).val := hx 1
    have h2 : (x 0).val < 32 := (x 0).isLt
    rw [dif_pos (by omega)]
    exact congrArg p (funext fun a => Fin.ext (match a with
      | ⟨0, _⟩ => by show (x 0).val = i.val; omega
      | ⟨1, _⟩ => by show (x 1).val = d.val; omega))

theorem inb_copy (k : Fin 7) : ∀ a, (![6 - k.val, 0, 0] : Fin 3 → ℕ) a + S1x536x512.size a ≤ S7x536x512.size a := fun a => match a with
  | ⟨0, _⟩ => by show 6 - k.val + 1 ≤ 7; omega
  | ⟨1, _⟩ => by show 0 + 536 ≤ 536; omega
  | ⟨2, _⟩ => by show 0 + 512 ≤ 512; omega

theorem inb_rows (k : Fin 7) : ∀ a, (![7 - k.val, 0] : Fin 2 → ℕ) a + S536x512.size a ≤ S544x512.size a := fun a => match a with
  | ⟨0, _⟩ => by show 7 - k.val + 536 ≤ 544; omega
  | ⟨1, _⟩ => by show 0 + 512 ≤ 512; omega

/-- One of the shifted copies of the rows: from row `7 - k` on. -/
def copy (E : Vec Ideal S544x512 .f32) (k : Fin 7) : Vec Ideal S1x536x512 .f32 :=
  k0_pay4 (F := Ideal) fun y => E ((Rect.unit (s := S544x512) ![7 - k.val, 0] S536x512.size (inb_rows k)).toLoadRect.idx y)

theorem copy_at (E : Vec Ideal S544x512 .f32) (k : Fin 7) (i : Fin 536) (d : Fin 512) :
    copy E k (ix3 (n0 := 1) (n1 := 536) (n2 := 512) 0 i d) = E (ix2 (n0 := 544) (n1 := 512) ⟨i.val + (6 - k.val) + 1, by omega⟩ d) := by
  unfold copy
  pointwise [k0_pay4]
  refine congrArg E (funext fun a => Fin.ext ?_)
  match a with
  | ⟨0, _⟩ => show 7 - k.val + i.val = i.val + (6 - k.val) + 1; omega
  | ⟨1, _⟩ => rfl

/-- The seven shifted copies of the rows, the last one first, as the stores that make them. -/
def copies (E : Vec Ideal S544x512 .f32) : List (View.Piece (Elt Ideal) S7x536x512 .f32) :=
  List.ofFn fun k : Fin 7 => ⟨Rect.unit ![6 - k.val, 0, 0] S1x536x512.size (inb_copy k), copy E k⟩

/-- Row `i` of copy `q` is row `i + q + 1`. -/
theorem copies_at (E : Vec Ideal S544x512 .f32) (q : Fin 7) (i : Fin 536) (d : Fin 512) :
    View.canon (copies E) (ix3 (n0 := 7) (n1 := 536) (n2 := 512) q i d) = E (ix2 (n0 := 544) (n1 := 512) ⟨i.val + q.val + 1, by omega⟩ d) := by
  have hc : ∃ k : Fin 7, ∀ a, (![6 - k.val, 0, 0] : Fin 3 → ℕ) a ≤ (ix3 (n0 := 7) (n1 := 536) (n2 := 512) q i d a).val
      ∧ (ix3 (n0 := 7) (n1 := 536) (n2 := 512) q i d a).val < (![6 - k.val, 0, 0] : Fin 3 → ℕ) a + S1x536x512.size a := by
    refine ⟨⟨6 - q.val, by omega⟩, fun a => ?_⟩
    match a with
    | ⟨0, _⟩ => exact ⟨by show 6 - (6 - q.val) ≤ q.val; omega, by show q.val < 6 - (6 - q.val) + 1; omega⟩
    | ⟨1, _⟩ => exact ⟨Nat.zero_le _, by show i.val < 0 + 536; omega⟩
    | ⟨2, _⟩ => exact ⟨Nat.zero_le _, by show d.val < 0 + 512; omega⟩
  have hv : ∀ k : Fin 7, View.TileAt (S := S7x536x512) (ix3 (n0 := 7) (n1 := 536) (n2 := 512) q i d) ![6 - k.val, 0, 0] S1x536x512.size (copy E k)
      (E (ix2 (n0 := 544) (n1 := 512) ⟨i.val + q.val + 1, by omega⟩ d)) := by
    intro k x hx
    have h0 : q.val = 6 - k.val + (x 0).val := hx 0
    have h1 : i.val = 0 + (x 1).val := hx 1
    have h2 : d.val = 0 + (x 2).val := hx 2
    have l0 : (x 0).val < 1 := (x 0).isLt
    have e : x = ix3 (n0 := 1) (n1 := 536) (n2 := 512) 0 i d := funext fun a => Fin.ext (match a with
      | ⟨0, _⟩ => by show (x 0).val = 0; omega
      | ⟨1, _⟩ => by show (x 1).val = i.val; omega
      | ⟨2, _⟩ => by show (x 2).val = d.val; omega)
    refine (congrArg (copy E k) e).trans ((copy_at E k i d).trans (congrArg (fun n => E (ix2 (n0 := 544) (n1 := 512) n d)) (Fin.ext ?_)))
    show i.val + (6 - k.val) + 1 = i.val + q.val + 1
    omega
  exact View.canon_ofFn_unit_eq_of_forall (Val := Elt Ideal) (S := S7x536x512) (e := .f32) (fun k : Fin 7 => ![6 - k.val, 0, 0]) S1x536x512.size inb_copy
    (fun k => copy E k) _ _ hc hv

end Cert.Kernel10Ideal.Conv

end
-- ==== Proof.K10.Run.lean ====
/-
What the gated convolution's body leaves, in its first case (a sequence's first block: the rows kept from before are zeros) and its second (they
are the block before's last rows): the swish of the norm of the taps' sum, and the rows for the next block.
-/
module

public import proofs.«01_k».proof.Proof.K10.Body

@[expose] public section

set_option maxRecDepth 16384

noncomputable section

namespace Cert.Kernel10Ideal.Conv

open Cert.Kernel10Ideal Cert.Kernel10Ideal.Gen
open Idealize.ShloMosaic Idealize.ShloMosaic.TcCoe Idealize.ShloMosaic.Tactic
open Idealize.SL Idealize.SL.Sem

/-- The row that tap `j` reads for row `r`, in a channel, -/
def tapRow (E : Vec Ideal S544x512 .f32) (j : ℕ) (r d : Fin 512) : EReal := E (ix2 (n0 := 544) (n1 := 512) ⟨(r.val + (j + 2)) % 544, Nat.mod_lt _ (by decide)⟩ d)

/-- its weight, -/
def weight (W : Vec Ideal S31x512 .f32) (j : ℕ) (d : Fin 512) : EReal := W (ix2 (n0 := 31) (n1 := 512) ⟨j % 31, Nat.mod_lt _ (by decide)⟩ d)

/-- and the sum of the bias and the 31 taps. -/
def tapSum (E : Vec Ideal S544x512 .f32) (W : Vec Ideal S31x512 .f32) (b : Fin 512 → EReal) (r d : Fin 512) : EReal :=
  addUp (b d) (fun j => weight W j d * tapRow E j r d) 31

/-- 512 rows from row `a + q + 1` on, as a load of copy `q` gives them, -/
def T (E : Vec Ideal S544x512 .f32) (a q : ℕ) : Vec Ideal S1x512x512 .f32 :=
  fun y => E (ix2 (n0 := 544) (n1 := 512) ⟨((y 1).val + (a + q + 1)) % 544, Nat.mod_lt _ (by decide)⟩ (y 2))

/-- 512 rows from row `a` on, -/
def S (E : Vec Ideal S544x512 .f32) (a : ℕ) : Vec Ideal S512x512 .f32 :=
  fun y => E (ix2 (n0 := 544) (n1 := 512) ⟨((y 0).val + a) % 544, Nat.mod_lt _ (by decide)⟩ (y 1))

/-- and the weights of one tap. -/
def Wt (W : Vec Ideal S31x512 .f32) (j : ℕ) : Vec Ideal S1x512 .f32 := fun y => W (ix2 (n0 := 31) (n1 := 512) ⟨j % 31, Nat.mod_lt _ (by decide)⟩ (y 1))

theorem load_copy (M : Memref sig .tc .vmem S7x536x512 .f32) (E : Vec Ideal S544x512 .f32) (o : Fin 3 → ℕ) (inb) :
    M.view.readCov (copies E) (Rect.unit (s := S7x536x512) o ![1, 512, 512] inb).toLoadRect = T E (o 1) (o 0) := by
  unfold View.readCov
  rw [View.readAt_writes_junk_eq_canon]
  refine funext fun y => ?_
  have b0 : o 0 + 1 ≤ 7 := inb 0
  have b1 : o 1 + 512 ≤ 536 := inb 1
  have b2 : o 2 + 512 ≤ 512 := inb 2
  have l0 : (y 0).val < 1 := (y 0).isLt
  have l1 : (y 1).val < 512 := (y 1).isLt
  have l2 : (y 2).val < 512 := (y 2).isLt
  have e : (Rect.unit (s := S7x536x512) o S1x512x512.size inb).toLoadRect.idx y
      = ix3 (n0 := 7) (n1 := 536) (n2 := 512) ⟨o 0, by omega⟩ ⟨o 1 + (y 1).val, by omega⟩ ⟨(y 2).val, l2⟩ := funext fun a => Fin.ext (match a with
    | ⟨0, _⟩ => by show o 0 + 1 * (y 0).val = o 0; omega
    | ⟨1, _⟩ => by show o 1 + 1 * (y 1).val = o 1 + (y 1).val; omega
    | ⟨2, _⟩ => by show o 2 + 1 * (y 2).val = (y 2).val; omega)
  refine (congrArg (View.canon (copies E)) e).trans ((copies_at E _ _ _).trans (congrArg E (congrArg₂ (ix2 (n0 := 544) (n1 := 512)) (Fin.ext ?_) rfl)))
  show o 1 + (y 1).val + o 0 + 1 = ((y 1).val + (o 1 + o 0 + 1)) % 544
  omega

theorem load_rows (M : Memref sig .tc .vmem S544x512 .f32) (L : List (View.Piece (Elt Ideal) S544x512 .f32)) (o : Fin 2 → ℕ) (inb) :
    M.view.readCov L (Rect.unit (s := S544x512) o ![512, 512] inb).toLoadRect = S (View.canon L) (o 0) := by
  unfold View.readCov
  rw [View.readAt_writes_junk_eq_canon]
  refine funext fun y => congrArg (View.canon L) (funext fun a => Fin.ext ?_)
  have b0 : o 0 + 512 ≤ 544 := inb 0
  have b1 : o 1 + 512 ≤ 512 := inb 1
  have l0 : (y 0).val < 512 := (y 0).isLt
  match a with
  | ⟨0, _⟩ => show o 0 + 1 * (y 0).val = ((y 0).val + o 0) % 544; omega
  | ⟨1, _⟩ => show o 1 + 1 * (y 1).val = (y 1).val; omega

theorem load_weight {M : Memref sig .tc .vmem S31x512 .f32} (hM : M.IsWhole) (W : Vec Ideal S31x512 .f32) (o : Fin 2 → ℕ) (inb) :
    View.readAt (Elt Ideal) M.view (Rect.unit (s := S31x512) o ![1, 512] inb).toLoadRect (hM.unread W) = Wt W (o 0) := by
  refine funext fun y => (hM.readAt_unread W _ y).trans (congrArg W (funext fun a => Fin.ext ?_))
  have b0 : o 0 + 1 ≤ 31 := inb 0
  have b1 : o 1 + 512 ≤ 512 := inb 1
  have l0 : (y 0).val < 1 := (y 0).isLt
  match a with
  | ⟨0, _⟩ => show o 0 + 1 * (y 0).val = o 0 % 31; omega
  | ⟨1, _⟩ => show o 1 + 1 * (y 1).val = (y 1).val; omega

/-- A load of a whole buffer. -/
theorem load_whole {s : Shape} {e : EltTy} {off : Fin s.rank → ℕ} (h0 : off = fun _ => 0) {M : Memref sig .tc .vmem s e} (hM : M.IsWhole) (x : Vec Ideal s e) (inb) :
    View.readAt (Elt Ideal) M.view (Rect.unit (s := s) off s.size inb).toLoadRect (hM.unread x) = x := by
  subst h0
  refine funext fun y => (hM.readAt_unread x _ y).trans (congrArg x (funext fun a => Fin.ext ?_))
  show 0 + 1 * (y a).val = (y a).val
  omega

/-- A load of a whole row. -/
theorem load_row {M : Memref sig .tc .vmem S1x512 .f32} (hM : M.IsWhole) (x : Vec Ideal S1x512 .f32) (inb) :
    View.readAt (Elt Ideal) M.view (Rect.unit (s := S1x512) ![0, 0] ![1, 512] inb).toLoadRect (hM.unread x) = x :=
  load_whole (s := S1x512) (funext fun a => match a with | ⟨0, _⟩ => rfl | ⟨1, _⟩ => rfl) hM x inb

theorem zeros : (![0, 0] : Fin 2 → ℕ) = fun _ => 0 := funext fun a => match a with | ⟨0, _⟩ => rfl | ⟨1, _⟩ => rfl

/-- The sum of the bias and the first 28 taps, as the body makes it, -/
def most (E : Vec Ideal S544x512 .f32) (W : Vec Ideal S31x512 .f32) (b : Vec Ideal S1x512 .f32) : FVec Ideal S512x512 .f32 :=
  k0_pay19 (F := Ideal) (k0_pay17 (F := Ideal) (k0_pay14 (F := Ideal) (k0_pay13 (F := Ideal) (k0_pay12 (F := Ideal) (k0_pay11 (F := Ideal) b (T E 0 1) (Wt W 0)) (T E 0 2) (Wt W 1) (T E 0 3) (Wt W 2) (T E 0 4) (Wt W 3) (T E 0 5) (Wt W 4) (T E 0 6) (Wt W 5))
          (S E 8) (Wt W 6) (T E 8 0) (Wt W 7) (T E 8 1) (Wt W 8) (T E 8 2) (Wt W 9) (T E 8 3) (Wt W 10) (T E 8 4) (Wt W 11))
        (T E 8 5) (Wt W 12) (T E 8 6) (Wt W 13) (S E 16) (Wt W 14) (T E 16 0) (Wt W 15) (T E 16 1) (Wt W 16))
        (k0_pay15 (F := Ideal) (T E 16 2)) (k0_pay16 (F := Ideal) (Wt W 17))
      (T E 16 3) (Wt W 18) (T E 16 4) (Wt W 19) (T E 16 5) (Wt W 20) (T E 16 6) (Wt W 21) (S E 24) (Wt W 22))
      (k0_pay18 (F := Ideal) (T E 24 0)) (Wt W 23) (T E 24 1) (Wt W 24) (T E 24 2) (Wt W 25) (T E 24 3) (Wt W 26) (T E 24 4) (Wt W 27)

/-- and with the last three. -/
theorem taps_at (E : Vec Ideal S544x512 .f32) (W : Vec Ideal S31x512 .f32) (b : Vec Ideal S1x512 .f32) (r d : Fin 512) :
    most E W b (ix2 (n0 := 512) (n1 := 512) r d) + k0_pay20 (F := Ideal) (T E 24 5) (Wt W 28) (ix2 (n0 := 512) (n1 := 512) r d)
        + Wt W 29 (ix2 (n0 := 1) (n1 := 512) 0 d) * T E 24 6 (ix3 (n0 := 1) (n1 := 512) (n2 := 512) 0 r d)
        + Wt W 30 (ix2 (n0 := 1) (n1 := 512) 0 d) * S E 32 (ix2 (n0 := 512) (n1 := 512) r d)
      = tapSum E W (fun j => b (ix2 (n0 := 1) (n1 := 512) 0 j)) r d := by
  unfold most
  pointwise [k0_pay11, k0_pay12, k0_pay13, k0_pay14, k0_pay15, k0_pay16, k0_pay17, k0_pay18, k0_pay19, k0_pay20]
  rfl

/-- A block's gated channels. -/
def gated (x0 x1 : Vec Ideal S512x512 .bf16) (y : S512x512.Idx) : EReal := x0 y * Ideal.logistic (x1 y)

section CaseA

variable (c : Dev nD) (i : grid0.Coords) (arg2 : Memref sig .tc .vmem S512x512 .bf16) (harg2 : arg2.IsWhole) (arg3 : Memref sig .tc .vmem S512x512 .bf16)
  (harg3 : arg3.IsWhole) (arg4 : Memref sig .tc .vmem S31x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S512x512 .bf16) (harg8 : arg8.IsWhole) (arg9 : Memref sig .tc .vmem S544x512 .f32) (harg9 : arg9.IsWhole)
  (arg10 : Memref sig .tc .vmem S7x536x512 .f32) (harg10 : arg10.IsWhole) (hc0 : cond0_0 i) (hc1 : ¬cond0_1 i)
  (x0 x1 : Vec Ideal S512x512 .bf16) (x2 : Vec Ideal S31x512 .f32) (x3 x4 x5 : Vec Ideal S1x512 .f32)

set_option maxHeartbeats 1000000 in
/-- A sequence's first block. -/
theorem outA_at (r d : Fin 512) :
    out0_A_6 (F := Ideal) c i arg2 harg2 arg3 harg3 arg4 harg4 arg5 harg5 arg6 harg6 arg7 harg7 arg8 harg8 arg9 harg9 arg10 harg10 hc0 hc1 x0 x1 x2 x3 x4 x5
        (ix2 (n0 := 512) (n1 := 512) r d)
      = swished (tapSum (sout0_A_0 (F := Ideal) c i arg2 harg2 arg3 harg3 arg4 harg4 arg5 harg5 arg6 harg6 arg7 harg7 arg8 harg8 arg9 harg9 arg10 harg10 hc0 hc1 x0 x1 x2 x3 x4 x5)
            x2 (fun j => x3 (ix2 (n0 := 1) (n1 := 512) 0 j)) r)
          (fun j => x4 (ix2 (n0 := 1) (n1 := 512) 0 j)) (fun j => x5 (ix2 (n0 := 1) (n1 := 512) 0 j)) d := by
  have hE : sout0_A_0 (F := Ideal) c i arg2 harg2 arg3 harg3 arg4 harg4 arg5 harg5 arg6 harg6 arg7 harg7 arg8 harg8 arg9 harg9 arg10 harg10 hc0 hc1 x0 x1 x2 x3 x4 x5
      = View.canon (kernelRun0_A.sl.HS0_2 (F := Ideal) c arg2 harg2 arg3 harg3 x0 x1) := by
    unfold sout0_A_0
    rw [View.read_writes_junk_eq_canon]
    rfl
  have hC : kernelRun0_A.sl.HS1_7 (F := Ideal) c arg2 harg2 arg3 harg3 arg9 x0 x1 = copies (View.canon (kernelRun0_A.sl.HS0_2 (F := Ideal) c arg2 harg2 arg3 harg3 x0 x1)) := by
    unfold kernelRun0_A.sl.HS1_7 kernelRun0_A.sl.v15 kernelRun0_A.sl.v19 kernelRun0_A.sl.v23 kernelRun0_A.sl.v27 kernelRun0_A.sl.v31
      kernelRun0_A.sl.v35 kernelRun0_A.sl.v39 View.readCov
    simp only [View.readAt_writes_junk_eq_canon]
    rfl
  rw [hE]
  unfold out0_A_6
  rw [View.read_writes_junk_eq_canon]
  unfold kernelRun0_A
  dsimp only
  rw [View.canon_unit_zero zeros]
  unfold kernelRun0_A.sl.r_11
  refine (pay21_at _ _ _ _ _ _ _ _ r d).trans (swished_congr (fun j => ?_) (fun j => ?_) (fun j => ?_) d)
  · refine Eq.trans ?_ (taps_at (View.canon (kernelRun0_A.sl.HS0_2 (F := Ideal) c arg2 harg2 arg3 harg3 x0 x1)) x2 x3 r j)
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.v48, kernelRun0_A.sl.v54, kernelRun0_A.sl.v60, kernelRun0_A.sl.v66, kernelRun0_A.sl.v72, kernelRun0_A.sl.v78, kernelRun0_A.sl.v84, kernelRun0_A.sl.v89, kernelRun0_A.sl.v95, kernelRun0_A.sl.v101, kernelRun0_A.sl.v107, kernelRun0_A.sl.v113, kernelRun0_A.sl.v119, kernelRun0_A.sl.v125, kernelRun0_A.sl.v131, kernelRun0_A.sl.v136, kernelRun0_A.sl.v142, kernelRun0_A.sl.v148, kernelRun0_A.sl.v154, kernelRun0_A.sl.v160, kernelRun0_A.sl.v166, kernelRun0_A.sl.v172, kernelRun0_A.sl.v178, kernelRun0_A.sl.v183, kernelRun0_A.sl.v189, kernelRun0_A.sl.v195, kernelRun0_A.sl.v201, kernelRun0_A.sl.v207, kernelRun0_A.sl.v213, kernelRun0_A.sl.v219, kernelRun0_A.sl.v225, hC, load_copy, load_rows, load_weight, load_row, Matrix.cons_val, most]
  · exact congrFun (load_whole (s := S1x512) zeros harg6 x4 _) _
  · exact congrFun (load_whole (s := S1x512) zeros harg7 x5 _) _

theorem keptA_at (i' : Fin 544) (d : Fin 512) :
    sout0_A_0 (F := Ideal) c i arg2 harg2 arg3 harg3 arg4 harg4 arg5 harg5 arg6 harg6 arg7 harg7 arg8 harg8 arg9 harg9 arg10 harg10 hc0 hc1 x0 x1 x2 x3 x4 x5
        (ix2 (n0 := 544) (n1 := 512) i' d)
      = if i'.val < 32 then 0 else gated x0 x1 (ix2 (n0 := 512) (n1 := 512) ⟨i'.val - 32, by omega⟩ d) := by
  unfold sout0_A_0
  rw [View.read_writes_junk_eq_canon]
  unfold kernelRun0_A
  dsimp only
  unfold kernelRun0_A.sl.HS0_2
  refine (rows_at _ _ _ _ i' d).trans ?_
  by_cases h : i'.val < 32
  · rw [dif_pos h, if_pos h]
    pointwise [k0_pay1]
  · rw [dif_neg h, if_neg h]
    rw [load_whole zeros, load_whole zeros]
    unfold gated
    pointwise [k0_pay3]

end CaseA

section CaseB

variable (c : Dev nD) (i : grid0.Coords) (arg2 : Memref sig .tc .vmem S512x512 .bf16) (harg2 : arg2.IsWhole) (arg3 : Memref sig .tc .vmem S512x512 .bf16)
  (harg3 : arg3.IsWhole) (arg4 : Memref sig .tc .vmem S31x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S512x512 .bf16) (harg8 : arg8.IsWhole) (arg9 : Memref sig .tc .vmem S544x512 .f32) (harg9 : arg9.IsWhole)
  (arg10 : Memref sig .tc .vmem S7x536x512 .f32) (harg10 : arg10.IsWhole) (hc0 : ¬cond0_0 i) (hc1 : cond0_1 i)
  (x0 x1 : Vec Ideal S512x512 .bf16) (x2 : Vec Ideal S31x512 .f32) (x3 x4 x5 : Vec Ideal S1x512 .f32)
  (xs0 : Vec Ideal S544x512 .f32)

set_option maxHeartbeats 1000000 in
/-- A later block. -/
theorem outB_at (r d : Fin 512) :
    out0_B_6 (F := Ideal) c i arg2 harg2 arg3 harg3 arg4 harg4 arg5 harg5 arg6 harg6 arg7 harg7 arg8 harg8 arg9 harg9 arg10 harg10 hc0 hc1 x0 x1 x2 x3 x4 x5 xs0
        (ix2 (n0 := 512) (n1 := 512) r d)
      = swished (tapSum (sout0_B_0 (F := Ideal) c i arg2 harg2 arg3 harg3 arg4 harg4 arg5 harg5 arg6 harg6 arg7 harg7 arg8 harg8 arg9 harg9 arg10 harg10 hc0 hc1 x0 x1 x2 x3 x4 x5 xs0)
            x2 (fun j => x3 (ix2 (n0 := 1) (n1 := 512) 0 j)) r)
          (fun j => x4 (ix2 (n0 := 1) (n1 := 512) 0 j)) (fun j => x5 (ix2 (n0 := 1) (n1 := 512) 0 j)) d := by
  have hE : sout0_B_0 (F := Ideal) c i arg2 harg2 arg3 harg3 arg4 harg4 arg5 harg5 arg6 harg6 arg7 harg7 arg8 harg8 arg9 harg9 arg10 harg10 hc0 hc1 x0 x1 x2 x3 x4 x5 xs0
      = View.canon (kernelRun0_B.sl.HS0_2 (F := Ideal) c arg2 harg2 arg3 harg3 arg9 harg9 x0 x1 xs0) := by
    unfold sout0_B_0
    rw [View.read_writes_junk_eq_canon]
    rfl
  have hC : kernelRun0_B.sl.HS1_7 (F := Ideal) c arg2 harg2 arg3 harg3 arg9 harg9 x0 x1 xs0 = copies (View.canon (kernelRun0_B.sl.HS0_2 (F := Ideal) c arg2 harg2 arg3 harg3 arg9 harg9 x0 x1 xs0)) := by
    unfold kernelRun0_B.sl.HS1_7 kernelRun0_B.sl.v15 kernelRun0_B.sl.v19 kernelRun0_B.sl.v23 kernelRun0_B.sl.v27 kernelRun0_B.sl.v31
      kernelRun0_B.sl.v35 kernelRun0_B.sl.v39 View.readCov
    simp only [View.readAt_writes_junk_eq_canon]
    rfl
  rw [hE]
  unfold out0_B_6
  rw [View.read_writes_junk_eq_canon]
  unfold kernelRun0_B
  dsimp only
  rw [View.canon_unit_zero zeros]
  unfold kernelRun0_B.sl.r_11
  refine (pay21_at _ _ _ _ _ _ _ _ r d).trans (swished_congr (fun j => ?_) (fun j => ?_) (fun j => ?_) d)
  · refine Eq.trans ?_ (taps_at (View.canon (kernelRun0_B.sl.HS0_2 (F := Ideal) c arg2 harg2 arg3 harg3 arg9 harg9 x0 x1 xs0)) x2 x3 r j)
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.v48, kernelRun0_B.sl.v54, kernelRun0_B.sl.v60, kernelRun0_B.sl.v66, kernelRun0_B.sl.v72, kernelRun0_B.sl.v78, kernelRun0_B.sl.v84, kernelRun0_B.sl.v89, kernelRun0_B.sl.v95, kernelRun0_B.sl.v101, kernelRun0_B.sl.v107, kernelRun0_B.sl.v113, kernelRun0_B.sl.v119, kernelRun0_B.sl.v125, kernelRun0_B.sl.v131, kernelRun0_B.sl.v136, kernelRun0_B.sl.v142, kernelRun0_B.sl.v148, kernelRun0_B.sl.v154, kernelRun0_B.sl.v160, kernelRun0_B.sl.v166, kernelRun0_B.sl.v172, kernelRun0_B.sl.v178, kernelRun0_B.sl.v183, kernelRun0_B.sl.v189, kernelRun0_B.sl.v195, kernelRun0_B.sl.v201, kernelRun0_B.sl.v207, kernelRun0_B.sl.v213, kernelRun0_B.sl.v219, kernelRun0_B.sl.v225, hC, load_copy, load_rows, load_weight, load_row, Matrix.cons_val, most]
  · exact congrFun (load_whole (s := S1x512) zeros harg6 x4 _) _
  · exact congrFun (load_whole (s := S1x512) zeros harg7 x5 _) _

theorem keptB_at (i' : Fin 544) (d : Fin 512) :
    sout0_B_0 (F := Ideal) c i arg2 harg2 arg3 harg3 arg4 harg4 arg5 harg5 arg6 harg6 arg7 harg7 arg8 harg8 arg9 harg9 arg10 harg10 hc0 hc1 x0 x1 x2 x3 x4 x5 xs0
        (ix2 (n0 := 544) (n1 := 512) i' d)
      = if h : i'.val < 32 then xs0 (ix2 (n0 := 544) (n1 := 512) ⟨i'.val + 512, by omega⟩ d) else gated x0 x1 (ix2 (n0 := 512) (n1 := 512) ⟨i'.val - 32, by omega⟩ d) := by
  unfold sout0_B_0
  rw [View.read_writes_junk_eq_canon]
  unfold kernelRun0_B
  dsimp only
  unfold kernelRun0_B.sl.HS0_2
  refine (rows_at _ _ _ _ i' d).trans ?_
  by_cases h : i'.val < 32
  · rw [dif_pos h, dif_pos h]
    pointwise [k0_pay2]
    refine (harg9.readAt_unread xs0 _ _).trans (congrArg xs0 (funext fun a => Fin.ext ?_))
    match a with
    | ⟨0, _⟩ => show 512 + 1 * i'.val = i'.val + 512; omega
    | ⟨1, _⟩ => show 0 + 1 * d.val = d.val; omega
  · rw [dif_neg h, dif_neg h]
    rw [load_whole zeros, load_whole zeros]
    unfold gated
    pointwise [k0_pay3]

end CaseB

end Cert.Kernel10Ideal.Conv

end
-- ==== Proof.K10.Grid.lean ====
/-
The gated convolution over the whole grid: the rows that a block reads from the block before, and what the call leaves, over the extended
reals.
-/
module

public import proofs.«01_k».proof.Proof.K10.Run
public import Idealize.ShloMosaic.Lib.ValueLayout
public import Idealize.ShloMosaic.Lib.Pipeline.Covers

@[expose] public section

set_option maxRecDepth 16384

noncomputable section

namespace Cert.Kernel10Ideal.Conv

open Cert.Kernel10Ideal Cert.Kernel10Ideal.Gen
open Idealize.ShloMosaic Idealize.ShloMosaic.TcCoe Idealize.ShloMosaic.Tactic
open Idealize.SL Idealize.SL.Sem
open Idealize.ShloMosaic.Pipeline (Dat Cfg Window)

/-- A token's gated channel, -/
def gatedAt (P : S65536x3072.Idx → EReal) (n : ℕ) (d : Fin 512) : EReal :=
  P (ix2 (n0 := 65536) (n1 := 3072) ⟨n % 65536, Nat.mod_lt _ (by decide)⟩ ⟨2048 + d.val, by omega⟩)
    * Ideal.logistic (P (ix2 (n0 := 65536) (n1 := 3072) ⟨n % 65536, Nat.mod_lt _ (by decide)⟩ ⟨2560 + d.val, by omega⟩))

/-- what a tap reads for it: that of the token `30 - j` before in the sequence, or zero if there is none, -/
def past (P : S65536x3072.Idx → EReal) (n j : ℕ) (d : Fin 512) : EReal := if 30 ≤ n % 4096 + j then gatedAt P (n + j - 30) d else 0

/-- the convolution's result, -/
def convolved (P : S65536x3072.Idx → EReal) (W : S31x512.Idx → EReal) (b : S512.Idx → EReal) (n : ℕ) (d : Fin 512) : EReal :=
  addUp (b (ix1 (n0 := 512) d)) (fun j => W (ix2 (n0 := 31) (n1 := 512) ⟨j % 31, Nat.mod_lt _ (by decide)⟩ d) * past P n j d) 31

/-- and the swish of its norm. -/
def final (P : S65536x3072.Idx → EReal) (W : S31x512.Idx → EReal) (b g h : S512.Idx → EReal) (n : ℕ) (d : Fin 512) : EReal :=
  swished (convolved P W b n) (fun j => g (ix1 (n0 := 512) j)) (fun j => h (ix1 (n0 := 512) j)) d

variable (m : (ℓ : Loc nD τ sig) → Buf (Elt Ideal) ℓ)

def argP (c : Dev nD) : S65536x3072.Idx → EReal := m ((c : Thread nD τ).loc main_arg0)
def argW (c : Dev nD) : S31x512.Idx → EReal := m ((c : Thread nD τ).loc main_arg1)
def argB (c : Dev nD) : S512.Idx → EReal := m ((c : Thread nD τ).loc main_arg2)
def argG (c : Dev nD) : S512.Idx → EReal := m ((c : Thread nD τ).loc main_arg3)
def argH (c : Dev nD) : S512.Idx → EReal := m ((c : Thread nD τ).loc main_arg4)

theorem t_lt (t : Fin cfg0.N) : t.val < 128 := lt_of_lt_of_eq t.isLt N_0

/-- Which blocks a point reads: -/
theorem index_0 : ∀ t : Fin cfg0.N, win0_0.index t = ![t.val, 4] := (by decide +kernel : ∀ t : Fin grid0.N, win0_0.index t = ![t.val, 4])
theorem index_1 : ∀ t : Fin cfg0.N, win0_1.index t = ![t.val, 5] := (by decide +kernel : ∀ t : Fin grid0.N, win0_1.index t = ![t.val, 5])

/-- of the channels, -/
theorem channels_at (c : Dev nD) (t : Fin cfg0.N) (r d : Fin 512) :
    (iblk m c 0 t : S512x512.Idx → EReal) (ix2 r d)
      = argP m c (ix2 (n0 := 65536) (n1 := 3072) ⟨512 * t.val + r.val, by have := t_lt t; omega⟩ ⟨2048 + d.val, by omega⟩) := by
  unfold iblk argP
  refine congrArg (m ((c : Thread nD τ).loc main_arg0) : S65536x3072.Idx → EReal) (funext fun a => Fin.ext ?_)
  have h := Pipeline.Window.rect_emb_val (cfg0.win 0) t (ix2 (n0 := 512) (n1 := 512) r d)
  match a with
  | ⟨0, p⟩ =>
    refine (h ⟨0, p⟩).trans ?_
    show win0_0.index t (0 : Fin 2) * 512 + r.val = 512 * t.val + r.val
    rw [show win0_0.index t (0 : Fin 2) = t.val from congrFun (index_0 t) 0]; omega
  | ⟨1, p⟩ =>
    refine (h ⟨1, p⟩).trans ?_
    show win0_0.index t (1 : Fin 2) * 512 + d.val = 2048 + d.val
    rw [show win0_0.index t (1 : Fin 2) = 4 from congrFun (index_0 t) 1]

/-- of their gates, -/
theorem gates_at (c : Dev nD) (t : Fin cfg0.N) (r d : Fin 512) :
    (iblk m c 1 t : S512x512.Idx → EReal) (ix2 r d)
      = argP m c (ix2 (n0 := 65536) (n1 := 3072) ⟨512 * t.val + r.val, by have := t_lt t; omega⟩ ⟨2560 + d.val, by omega⟩) := by
  unfold iblk argP
  refine congrArg (m ((c : Thread nD τ).loc main_arg0) : S65536x3072.Idx → EReal) (funext fun a => Fin.ext ?_)
  have h := Pipeline.Window.rect_emb_val (cfg0.win 1) t (ix2 (n0 := 512) (n1 := 512) r d)
  match a with
  | ⟨0, p⟩ =>
    refine (h ⟨0, p⟩).trans ?_
    show win0_1.index t (0 : Fin 2) * 512 + r.val = 512 * t.val + r.val
    rw [show win0_1.index t (0 : Fin 2) = t.val from congrFun (index_1 t) 0]; omega
  | ⟨1, p⟩ =>
    refine (h ⟨1, p⟩).trans ?_
    show win0_1.index t (1 : Fin 2) * 512 + d.val = 2560 + d.val
    rw [show win0_1.index t (1 : Fin 2) = 5 from congrFun (index_1 t) 1]

/-- of the weights, -/
theorem weights_at (c : Dev nD) (t : Fin cfg0.N) (j : Fin 31) (d : Fin 512) :
    (iblk m c 2 t : S31x512.Idx → EReal) (ix2 j d) = argW m c (ix2 j d) := by
  unfold iblk argW
  refine congrArg (m ((c : Thread nD τ).loc main_arg1) : S31x512.Idx → EReal) (funext fun a => Fin.ext ?_)
  have h := Pipeline.Window.rect_emb_val (cfg0.win 2) t (ix2 (n0 := 31) (n1 := 512) j d)
  match a with
  | ⟨0, p⟩ => exact (h ⟨0, p⟩).trans (show 0 * 31 + j.val = j.val by omega)
  | ⟨1, p⟩ => exact (h ⟨1, p⟩).trans (show 0 * 512 + d.val = d.val by omega)

/-- The bias and the norm's gains and shifts as one row each, which the host makes of them before the call, -/
theorem row0 (c : Dev nD) : V m c main_v0 = shapeCast S1x512 (m ((c : Thread nD τ).loc main_arg2)) shapeCasts_S512_S1x512 := by
  unfold V
  after_results
  rfl
theorem row1 (c : Dev nD) : V m c main_v1 = shapeCast S1x512 (m ((c : Thread nD τ).loc main_arg3)) shapeCasts_S512_S1x512 := by
  unfold V
  after_results
  rfl
theorem row2 (c : Dev nD) : V m c main_v2 = shapeCast S1x512 (m ((c : Thread nD τ).loc main_arg4)) shapeCasts_S512_S1x512 := by
  unfold V
  after_results
  rfl

/-- and a point's blocks of them. -/
theorem bias_at (c : Dev nD) (t : Fin cfg0.N) (k : Fin 512) : (iblk m c 3 t : S1x512.Idx → EReal) (ix2 0 k) = argB m c (ix1 k) := by
  refine Eq.trans ?_ ((congrFun (row0 m c) (ix2 (n0 := 1) (n1 := 512) 0 k)).trans (ValueIdx.shapeCast_a_1a_apply (argB m c) _ 0 k))
  unfold iblk
  refine congrArg (V m c main_v0 : S1x512.Idx → EReal) (funext fun a => Fin.ext ?_)
  have h := Pipeline.Window.rect_emb_val (cfg0.win 3) t (ix2 (n0 := 1) (n1 := 512) 0 k)
  match a with
  | ⟨0, p⟩ => exact h ⟨0, p⟩
  | ⟨1, p⟩ => exact (h ⟨1, p⟩).trans (show 0 * 512 + k.val = k.val by omega)

theorem gains_at (c : Dev nD) (t : Fin cfg0.N) (k : Fin 512) : (iblk m c 4 t : S1x512.Idx → EReal) (ix2 0 k) = argG m c (ix1 k) := by
  refine Eq.trans ?_ ((congrFun (row1 m c) (ix2 (n0 := 1) (n1 := 512) 0 k)).trans (ValueIdx.shapeCast_a_1a_apply (argG m c) _ 0 k))
  unfold iblk
  refine congrArg (V m c main_v1 : S1x512.Idx → EReal) (funext fun a => Fin.ext ?_)
  have h := Pipeline.Window.rect_emb_val (cfg0.win 4) t (ix2 (n0 := 1) (n1 := 512) 0 k)
  match a with
  | ⟨0, p⟩ => exact h ⟨0, p⟩
  | ⟨1, p⟩ => exact (h ⟨1, p⟩).trans (show 0 * 512 + k.val = k.val by omega)

theorem shifts_at (c : Dev nD) (t : Fin cfg0.N) (k : Fin 512) : (iblk m c 5 t : S1x512.Idx → EReal) (ix2 0 k) = argH m c (ix1 k) := by
  refine Eq.trans ?_ ((congrFun (row2 m c) (ix2 (n0 := 1) (n1 := 512) 0 k)).trans (ValueIdx.shapeCast_a_1a_apply (argH m c) _ 0 k))
  unfold iblk
  refine congrArg (V m c main_v2 : S1x512.Idx → EReal) (funext fun a => Fin.ext ?_)
  have h := Pipeline.Window.rect_emb_val (cfg0.win 5) t (ix2 (n0 := 1) (n1 := 512) 0 k)
  match a with
  | ⟨0, p⟩ => exact h ⟨0, p⟩
  | ⟨1, p⟩ => exact (h ⟨1, p⟩).trans (show 0 * 512 + k.val = k.val by omega)

/-- A point's gated channels are the array's. -/
theorem gated_at (c : Dev nD) (t : Fin cfg0.N) (n : ℕ) (r d : Fin 512) (hn : n = 512 * t.val + r.val) :
    gated (iblk m c 0 t) (iblk m c 1 t) (ix2 (n0 := 512) (n1 := 512) r d) = gatedAt (argP m c) n d := by
  have ht := t_lt t
  have e : (⟨512 * t.val + r.val, by omega⟩ : Fin 65536) = ⟨n % 65536, Nat.mod_lt _ (by decide)⟩ := Fin.ext (by show 512 * t.val + r.val = n % 65536; omega)
  unfold gated gatedAt
  rw [← e]
  exact congrArg₂ (· * ·) (channels_at m c t r d) (congrArg Ideal.logistic (gates_at m c t r d))

/-- What a sequence's first point keeps and leaves, -/
theorem first_point (c : Dev nD) (t : Fin cfg0.N) (h0 : t.val % 8 = 0) (d : Fin 512) :
    (∀ i : Fin 544, (outsAt0 m c t.val t.isLt).2 (ix2 (n0 := 544) (n1 := 512) i d)
        = if i.val < 32 then 0 else gated (iblk m c 0 t) (iblk m c 1 t) (ix2 (n0 := 512) (n1 := 512) ⟨i.val - 32, by omega⟩ d))
    ∧ ∀ r : Fin 512, (outsAt0 m c t.val t.isLt).1 (ix2 (n0 := 512) (n1 := 512) r d)
        = swished (tapSum (outsAt0 m c t.val t.isLt).2 (iblk m c 2 t) (fun j => (iblk m c 3 t : S1x512.Idx → EReal) (ix2 (n0 := 1) (n1 := 512) 0 j)) r)
            (fun j => (iblk m c 4 t : S1x512.Idx → EReal) (ix2 (n0 := 1) (n1 := 512) 0 j)) (fun j => (iblk m c 5 t : S1x512.Idx → EReal) (ix2 (n0 := 1) (n1 := 512) 0 j)) d := by
  have h1 : ¬1 ≤ t.val % 8 := by omega
  rw [outsAt0_A m c t h0 h1]
  dsimp only
  exact ⟨fun i => keptA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      scM0_1 (Memref.isWhole_whole _) ((hcond0_0 t).mpr h0) (fun h => h1 ((hcond0_1 t).mp h))
      (iblk m c 0 t) (iblk m c 1 t) (iblk m c 2 t) (iblk m c 3 t) (iblk m c 4 t) (iblk m c 5 t) i d,
    fun r => outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      scM0_1 (Memref.isWhole_whole _) ((hcond0_0 t).mpr h0) (fun h => h1 ((hcond0_1 t).mp h))
      (iblk m c 0 t) (iblk m c 1 t) (iblk m c 2 t) (iblk m c 3 t) (iblk m c 4 t) (iblk m c 5 t) r d⟩

/-- and what a later one does. -/
theorem later_point (c : Dev nD) (t : Fin cfg0.N) (h0 : ¬t.val % 8 = 0) (d : Fin 512) :
    (∀ i : Fin 544, (outsAt0 m c t.val t.isLt).2 (ix2 (n0 := 544) (n1 := 512) i d)
        = if h : i.val < 32 then (outsAt0 m c (t.val - 1) (Nat.lt_of_le_of_lt (Nat.sub_le _ _) t.isLt)).2 (ix2 (n0 := 544) (n1 := 512) ⟨i.val + 512, by omega⟩ d)
          else gated (iblk m c 0 t) (iblk m c 1 t) (ix2 (n0 := 512) (n1 := 512) ⟨i.val - 32, by omega⟩ d))
    ∧ ∀ r : Fin 512, (outsAt0 m c t.val t.isLt).1 (ix2 (n0 := 512) (n1 := 512) r d)
        = swished (tapSum (outsAt0 m c t.val t.isLt).2 (iblk m c 2 t) (fun j => (iblk m c 3 t : S1x512.Idx → EReal) (ix2 (n0 := 1) (n1 := 512) 0 j)) r)
            (fun j => (iblk m c 4 t : S1x512.Idx → EReal) (ix2 (n0 := 1) (n1 := 512) 0 j)) (fun j => (iblk m c 5 t : S1x512.Idx → EReal) (ix2 (n0 := 1) (n1 := 512) 0 j)) d := by
  have h1 : 1 ≤ t.val % 8 := by omega
  rw [outsAt0_B m c t h0 h1]
  dsimp only
  exact ⟨fun i => keptB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      scM0_1 (Memref.isWhole_whole _) (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2 i d,
    fun r => outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      scM0_1 (Memref.isWhole_whole _) (fun h => h0 ((hcond0_0 t).mp h)) ((hcond0_1 t).mpr h1)
      (iblk m c 0 t) (iblk m c 1 t) (iblk m c 2 t) (iblk m c 3 t) (iblk m c 4 t) (iblk m c 5 t)
      (outsAt0 m c (t.val - 1) (Nat.lt_of_le_of_lt (Nat.sub_le _ _) t.isLt)).2 r d⟩

/-- The rows after the first 32 that a point keeps are its own block's. -/
theorem kept_own (c : Dev nD) (t : Fin cfg0.N) (i : Fin 544) (d : Fin 512) (h : 32 ≤ i.val) :
    (outsAt0 m c t.val t.isLt).2 (ix2 (n0 := 544) (n1 := 512) i d) = gatedAt (argP m c) (512 * t.val + (i.val - 32)) d := by
  by_cases h0 : t.val % 8 = 0
  · rw [(first_point m c t h0 d).1 i]
    rw [if_neg (by omega)]
    exact gated_at m c t _ _ d rfl
  · rw [(later_point m c t h0 d).1 i]
    rw [dif_neg (by omega)]
    exact gated_at m c t _ _ d rfl

/-- Every row that a point keeps: zero before the sequence's start. -/
theorem kept_at (c : Dev nD) (t : Fin cfg0.N) (i : Fin 544) (d : Fin 512) :
    (outsAt0 m c t.val t.isLt).2 (ix2 (n0 := 544) (n1 := 512) i d)
      = if 32 ≤ 512 * (t.val % 8) + i.val then gatedAt (argP m c) (512 * t.val + i.val - 32) d else 0 := by
  have ht := t_lt t
  by_cases hi : 32 ≤ i.val
  · rw [if_pos (by omega), kept_own m c t i d hi]
    exact congrArg (fun n => gatedAt (argP m c) n d) (by omega)
  · by_cases h0 : t.val % 8 = 0
    · rw [if_neg (by omega), (first_point m c t h0 d).1 i, if_pos (by omega)]
    · rw [if_pos (by omega), (later_point m c t h0 d).1 i, dif_pos (by omega)]
      refine (kept_own m c ⟨t.val - 1, by have := t.isLt; omega⟩ ⟨i.val + 512, by omega⟩ d (by show 32 ≤ i.val + 512; omega)).trans (congrArg (fun n => gatedAt (argP m c) n d) ?_)
      show 512 * (t.val - 1) + (i.val + 512 - 32) = 512 * t.val + i.val - 32
      omega

/-- A point's sum of the taps is the convolution. -/
theorem sum_at (c : Dev nD) (t : Fin cfg0.N) (r d : Fin 512) :
    tapSum (outsAt0 m c t.val t.isLt).2 (iblk m c 2 t) (fun j => (iblk m c 3 t : S1x512.Idx → EReal) (ix2 (n0 := 1) (n1 := 512) 0 j)) r d
      = convolved (argP m c) (argW m c) (argB m c) (512 * t.val + r.val) d := by
  unfold tapSum convolved
  refine addUp_congr (bias_at m c t d) 31 fun j hj => congrArg₂ (· * ·) (weights_at m c t _ d) ?_
  unfold tapRow past
  refine (kept_at m c t _ d).trans ?_
  have ht := t_lt t
  have e : (r.val + (j + 2)) % 544 = r.val + j + 2 := by omega
  show (if 32 ≤ 512 * (t.val % 8) + (r.val + (j + 2)) % 544 then gatedAt (argP m c) (512 * t.val + (r.val + (j + 2)) % 544 - 32) d else 0)
    = if 30 ≤ (512 * t.val + r.val) % 4096 + j then gatedAt (argP m c) (512 * t.val + r.val + j - 30) d else 0
  rw [e]
  by_cases h : 32 ≤ 512 * (t.val % 8) + (r.val + j + 2)
  · rw [if_pos h, if_pos (by omega)]
    exact congrArg (fun n => gatedAt (argP m c) n d) (by omega)
  · rw [if_neg h, if_neg (by omega)]

/-- What a point leaves at a row and a channel. -/
theorem out_at (c : Dev nD) (t : Fin cfg0.N) (r d : Fin 512) :
    (outsAt0 m c t.val t.isLt).1 (ix2 (n0 := 512) (n1 := 512) r d)
      = final (argP m c) (argW m c) (argB m c) (argG m c) (argH m c) (512 * t.val + r.val) d := by
  have hs : swished (tapSum (outsAt0 m c t.val t.isLt).2 (iblk m c 2 t) (fun j => (iblk m c 3 t : S1x512.Idx → EReal) (ix2 (n0 := 1) (n1 := 512) 0 j)) r)
      (fun j => (iblk m c 4 t : S1x512.Idx → EReal) (ix2 (n0 := 1) (n1 := 512) 0 j)) (fun j => (iblk m c 5 t : S1x512.Idx → EReal) (ix2 (n0 := 1) (n1 := 512) 0 j)) d
      = final (argP m c) (argW m c) (argB m c) (argG m c) (argH m c) (512 * t.val + r.val) d :=
    swished_congr (fun j => sum_at m c t r j) (fun j => gains_at m c t j) (fun j => shifts_at m c t j) d
  refine Eq.trans ?_ hs
  by_cases h0 : t.val % 8 = 0
  · exact (first_point m c t h0 d).2 r
  · exact (later_point m c t h0 d).2 r

/-- The result after the run. -/
def result (c : Dev nD) : Buf (Elt Ideal) ((c : Thread nD τ).loc main_v3) :=
  fun (y : S65536x512.Idx) => final (argP m c) (argW m c) (argB m c) (argG m c) (argH m c) (y 0).val (y 1)

theorem index_6 : ∀ t : Fin cfg0.N, win0_6.index t = ![t.val, 0] := (by decide +kernel : ∀ t : Fin grid0.N, win0_6.index t = ![t.val, 0])

theorem after_at (c : Dev nD) (t : Fin cfg0.N) (y : S512x512.Idx) :
    (dats m 0 c).after 6 t y = result m c (((cfg0.win 6).rect t).emb y) := by
  rw [after0_6]
  have e : y = ix2 (n0 := 512) (n1 := 512) (y 0) (y 1) := funext fun a => match a with | ⟨0, _⟩ => rfl | ⟨1, _⟩ => rfl
  have h := Pipeline.Window.rect_emb_val (cfg0.win 6) t y
  have p0 : (((cfg0.win 6).rect t).emb y (show Fin 2 from 0)).val = 512 * t.val + (y 0).val := by
    refine (h (show Fin 2 from 0)).trans ?_
    show win0_6.index t (0 : Fin 2) * 512 + (y 0).val = 512 * t.val + (y 0).val
    rw [show win0_6.index t (0 : Fin 2) = t.val from congrFun (index_6 t) 0]; omega
  have p1 : (((cfg0.win 6).rect t).emb y (show Fin 2 from 1)) = y 1 := by
    refine Fin.ext ((h (show Fin 2 from 1)).trans ?_)
    show win0_6.index t (1 : Fin 2) * 512 + (y 1).val = (y 1).val
    rw [show win0_6.index t (1 : Fin 2) = 0 from congrFun (index_6 t) 1]; omega
  refine (congrArg (outsAt0 m c t.val t.isLt).1 e).trans ((out_at m c t (y 0) (y 1)).trans ?_)
  exact (congrArg₂ (final (argP m c) (argW m c) (argB m c) (argG m c) (argH m c)) p0 p1).symm

/-- The blocks of the result cover it. -/
theorem covers : (cfg0.win 6).Covers := by decide +kernel

/-- After the run the result array holds every token's channels. -/
theorem arr_eq (c : Dev nD) : (dats m 0 c).arrAt 6 cfg0.N = result m c :=
  (dats m 0 c).arrAt_eq_of_covers 6 _ covers fun t _ y => after_at m c t y

end Cert.Kernel10Ideal.Conv

end
-- ==== Proof.K10.Ref.lean ====
/-
The reference's gated convolution, over the extended reals: what it computes for a token and a channel.
-/
module

public import proofs.«01_k».proof.Defs
public import proofs.«01_k».proof.Proof.Gen.Reference10Ideal.Run
public import proofs.«01_k».proof.Proof.Gen.Reference10Ideal.Read
public import proofs.«01_k».proof.Proof.K10.Grid
public import Idealize.ShloMosaic.Lib.KernelVsHost
public import Idealize.ShloMosaic.Lib.IdealHost

@[expose] public section

set_option maxRecDepth 16384

noncomputable section

namespace Cert.Kernel10Ideal.Conv

open Idealize.ShloMosaic Idealize.ShloMosaic.TcCoe Idealize.SL Idealize.SL.Sem
open Cert.Reference10Ideal Cert.Reference10Ideal.Gen Cert.Reference10Ideal.Read

variable (P : S65536x3072.Idx → EReal) (W : S31x512.Idx → EReal) (b g h : S512.Idx → EReal)

/-- The gated channels. -/
theorem ref_gated (y : S16x4096x512.Idx) : val_main_v10 (F := Ideal) P y = gatedAt P (4096 * (y 0).val + (y 1).val) (y 2) := by
  have h0 : (y 0).val < 16 := (y 0).isLt
  have h1 : (y 1).val < 4096 := (y 1).isLt
  have h2 : (y 2).val < 512 := (y 2).isLt
  rw [val_main_v10_apply, val_main_v9_apply, val_main_v8_apply, val_main_v7_apply, val_main_v6_apply, val_main_v5_apply, val_main_v4_apply, val_main_v3_apply,
    val_main_v2_apply, val_main_v1_apply, val_main_v1_apply, val_main_v0_apply, val_main_v0_apply, val_main_cst_apply, val_main_cst_0_apply]
  have one : Ideal.ofBits .f32 0x3F800000#32 = 1 := Ideal.ofBits_one_f32
  have e : ∀ (o : ℕ) (ho : o + 512 ≤ 3072) (z : S65536x3072.Idx), (z 0).val = ((y 0).val * 4096 + (y 1).val) → (z 1).val = o + (y 2).val →
      P z = P (ix2 (n0 := 65536) (n1 := 3072) ⟨(4096 * (y 0).val + (y 1).val) % 65536, Nat.mod_lt _ (by decide)⟩ ⟨o + (y 2).val, by omega⟩) := fun o ho z z0 z1 =>
    congrArg P (funext fun a => Fin.ext (match a with
      | ⟨0, _⟩ => by show (z 0).val = (4096 * (y 0).val + (y 1).val) % 65536; omega
      | ⟨1, _⟩ => z1))
  unfold gatedAt
  refine congrArg₂ (· * ·) (e 2048 (by decide) _ ?_ ?_) ?_
  · show (((y 0).val * 4096 + (y 1).val) * 3072 + (2048 + (y 2).val)) / 3072 = (y 0).val * 4096 + (y 1).val
    omega
  · show (((y 0).val * 4096 + (y 1).val) * 3072 + (2048 + (y 2).val)) % 3072 = 2048 + (y 2).val
    omega
  · have hg := e 2560 (by decide) (idx_main_v1 (idx_main_v3 y))
      (by show (((y 0).val * 4096 + (y 1).val) * 3072 + (2560 + (y 2).val)) / 3072 = (y 0).val * 4096 + (y 1).val; omega)
      (by show (((y 0).val * 4096 + (y 1).val) * 3072 + (2560 + (y 2).val)) % 3072 = 2560 + (y 2).val; omega)
    rw [← hg]
    show Ideal.div (Ideal.ofBits .f32 0x3F800000#32) (Ideal.ofBits .f32 0x3F800000#32 + Ideal.exp (-(P (idx_main_v1 (idx_main_v3 y))))) = Ideal.logistic (P (idx_main_v1 (idx_main_v3 y)))
    rw [one]
    rfl

/-- A row of the padded channels: of sequence `s`, the row `i`. -/
def padRow (s i : ℕ) (d : Fin 512) : EReal := if 30 ≤ i then gatedAt P (4096 * s + i - 30) d else 0

theorem ref_padded (z : S16x4126x512.Idx) : val_main_v11 (F := Ideal) P z = padRow P (z 0).val (z 1).val (z 2) := by
  have h1 : (z 1).val < 4126 := (z 1).isLt
  unfold val_main_v11 padRow
  by_cases hz : 30 ≤ (z 1).val
  · rw [if_pos hz]
    refine (pad_apply_of_inside _ _ _ _ _ _ _ z (ix3 (n0 := 16) (n1 := 4096) (n2 := 512) (z 0) ⟨(z 1).val - 30, by omega⟩ (z 2)) fun a => ?_).trans
      ((ref_gated P _).trans (congrArg (fun n => gatedAt P n (z 2)) ?_))
    · match a with
      | ⟨0, _⟩ => show (z 0).val = 0 + (z 0).val * (0 + 1); omega
      | ⟨1, _⟩ => show (z 1).val = 30 + ((z 1).val - 30) * (0 + 1); omega
      | ⟨2, _⟩ => show (z 2).val = 0 + (z 2).val * (0 + 1); omega
    · show 4096 * (z 0).val + ((z 1).val - 30) = 4096 * (z 0).val + (z 1).val - 30
      omega
  · rw [if_neg hz]
    refine (pad_apply_of_not_inside _ _ _ _ _ _ _ z (1 : Fin 3) fun hh => hz hh.1).trans ?_
    rw [val_main_call0_v0_apply, val_main_c_apply]
    show (((0#32 : BitVec 32).toInt : ℝ) : EReal) = 0
    simp

/-- A weight, by its tap and channel. -/
def weightAt (j : ℕ) (d : Fin 512) : EReal := W (ix2 (n0 := 31) (n1 := 512) ⟨j % 31, Nat.mod_lt _ (by decide)⟩ d)

theorem weight_read (z : S31x512.Idx) : W z = weightAt W (z 0).val ⟨(z 1).val % 512, Nat.mod_lt _ (by decide)⟩ := by
  have h0 : (z 0).val < 31 := (z 0).isLt
  have h1 : (z 1).val < 512 := (z 1).isLt
  exact congrArg W (funext fun a => Fin.ext (match a with
    | ⟨0, _⟩ => by show (z 0).val = (z 0).val % 31; omega
    | ⟨1, _⟩ => by show (z 1).val = (z 1).val % 512; omega))

/-- A tap's term: the row it reads times its weight. -/
def tapTerm (s i : ℕ) (d d' : Fin 512) : ℕ → EReal
  | 0 => padRow P s i d * weightAt W 0 d'
  | j + 1 => padRow P s (j + 1 + i) d * weightAt W (j + 1) d'

/-- The reference's sum of the 31 taps' terms. -/
theorem ref_taps (y : S16x4096x512.Idx) :
    val_main_v229 (F := Ideal) P W y = addUp 0 (tapTerm P W (y 0).val (y 1).val (y 2) ⟨(y 2).val % 512 % 512, Nat.mod_lt _ (by decide)⟩) 31 := by
  have hz : val_main_v18 (F := Ideal) y = 0 := by rw [val_main_v18_apply, val_main_cst_1_apply]; exact Ideal.ofBits_zero_f32
  simp only [hz, ref_padded P, weight_read W,
    val_main_v12_apply, val_main_v13_apply, val_main_v14_apply, val_main_v15_apply, val_main_v16_apply, val_main_v17_apply, val_main_v19_apply, val_main_v20_apply,
    val_main_v21_apply, val_main_v22_apply, val_main_v23_apply, val_main_v24_apply, val_main_v25_apply, val_main_v26_apply, val_main_v27_apply, val_main_v28_apply,
    val_main_v29_apply, val_main_v30_apply, val_main_v31_apply, val_main_v32_apply, val_main_v33_apply, val_main_v34_apply, val_main_v35_apply, val_main_v36_apply,
    val_main_v37_apply, val_main_v38_apply, val_main_v39_apply, val_main_v40_apply, val_main_v41_apply, val_main_v42_apply, val_main_v43_apply, val_main_v44_apply,
    val_main_v45_apply, val_main_v46_apply, val_main_v47_apply, val_main_v48_apply, val_main_v49_apply, val_main_v50_apply, val_main_v51_apply, val_main_v52_apply,
    val_main_v53_apply, val_main_v54_apply, val_main_v55_apply, val_main_v56_apply, val_main_v57_apply, val_main_v58_apply, val_main_v59_apply, val_main_v60_apply,
    val_main_v61_apply, val_main_v62_apply, val_main_v63_apply, val_main_v64_apply, val_main_v65_apply, val_main_v66_apply, val_main_v67_apply, val_main_v68_apply,
    val_main_v69_apply, val_main_v70_apply, val_main_v71_apply, val_main_v72_apply, val_main_v73_apply, val_main_v74_apply, val_main_v75_apply, val_main_v76_apply,
    val_main_v77_apply, val_main_v78_apply, val_main_v79_apply, val_main_v80_apply, val_main_v81_apply, val_main_v82_apply, val_main_v83_apply, val_main_v84_apply,
    val_main_v85_apply, val_main_v86_apply, val_main_v87_apply, val_main_v88_apply, val_main_v89_apply, val_main_v90_apply, val_main_v91_apply, val_main_v92_apply,
    val_main_v93_apply, val_main_v94_apply, val_main_v95_apply, val_main_v96_apply, val_main_v97_apply, val_main_v98_apply, val_main_v99_apply, val_main_v100_apply,
    val_main_v101_apply, val_main_v102_apply, val_main_v103_apply, val_main_v104_apply, val_main_v105_apply, val_main_v106_apply, val_main_v107_apply, val_main_v108_apply,
    val_main_v109_apply, val_main_v110_apply, val_main_v111_apply, val_main_v112_apply, val_main_v113_apply, val_main_v114_apply, val_main_v115_apply, val_main_v116_apply,
    val_main_v117_apply, val_main_v118_apply, val_main_v119_apply, val_main_v120_apply, val_main_v121_apply, val_main_v122_apply, val_main_v123_apply, val_main_v124_apply,
    val_main_v125_apply, val_main_v126_apply, val_main_v127_apply, val_main_v128_apply, val_main_v129_apply, val_main_v130_apply, val_main_v131_apply, val_main_v132_apply,
    val_main_v133_apply, val_main_v134_apply, val_main_v135_apply, val_main_v136_apply, val_main_v137_apply, val_main_v138_apply, val_main_v139_apply, val_main_v140_apply,
    val_main_v141_apply, val_main_v142_apply, val_main_v143_apply, val_main_v144_apply, val_main_v145_apply, val_main_v146_apply, val_main_v147_apply, val_main_v148_apply,
    val_main_v149_apply, val_main_v150_apply, val_main_v151_apply, val_main_v152_apply, val_main_v153_apply, val_main_v154_apply, val_main_v155_apply, val_main_v156_apply,
    val_main_v157_apply, val_main_v158_apply, val_main_v159_apply, val_main_v160_apply, val_main_v161_apply, val_main_v162_apply, val_main_v163_apply, val_main_v164_apply,
    val_main_v165_apply, val_main_v166_apply, val_main_v167_apply, val_main_v168_apply, val_main_v169_apply, val_main_v170_apply, val_main_v171_apply, val_main_v172_apply,
    val_main_v173_apply, val_main_v174_apply, val_main_v175_apply, val_main_v176_apply, val_main_v177_apply, val_main_v178_apply, val_main_v179_apply, val_main_v180_apply,
    val_main_v181_apply, val_main_v182_apply, val_main_v183_apply, val_main_v184_apply, val_main_v185_apply, val_main_v186_apply, val_main_v187_apply, val_main_v188_apply,
    val_main_v189_apply, val_main_v190_apply, val_main_v191_apply, val_main_v192_apply, val_main_v193_apply, val_main_v194_apply, val_main_v195_apply, val_main_v196_apply,
    val_main_v197_apply, val_main_v198_apply, val_main_v199_apply, val_main_v200_apply, val_main_v201_apply, val_main_v202_apply, val_main_v203_apply, val_main_v204_apply,
    val_main_v205_apply, val_main_v206_apply, val_main_v207_apply, val_main_v208_apply, val_main_v209_apply, val_main_v210_apply, val_main_v211_apply, val_main_v212_apply,
    val_main_v213_apply, val_main_v214_apply, val_main_v215_apply, val_main_v216_apply, val_main_v217_apply, val_main_v218_apply, val_main_v219_apply, val_main_v220_apply,
    val_main_v221_apply, val_main_v222_apply, val_main_v223_apply, val_main_v224_apply, val_main_v225_apply, val_main_v226_apply, val_main_v227_apply, val_main_v228_apply,
    val_main_v229_apply]
  rfl

/-- A tap's term is what the kernel's tap adds. -/
theorem tapTerm_eq (s i : ℕ) (d d' : Fin 512) (hd : d' = d) (hi : i < 4096) (j : ℕ) :
    tapTerm P W s i d d' j = weightAt W j d * past P (4096 * s + i) j d := by
  subst hd
  have hr : padRow P s (j + i) d' = past P (4096 * s + i) j d' := by
    unfold padRow past
    by_cases hh : 30 ≤ j + i
    · rw [if_pos hh, if_pos (by omega)]
      exact congrArg (fun n => gatedAt P n d') (by omega)
    · rw [if_neg hh, if_neg (by omega)]
  rw [mul_comm, ← hr]
  cases j with
  | zero => rw [Nat.zero_add]; rfl
  | succ j => rfl

theorem convolved_eq (s i : ℕ) (d d' : Fin 512) (hd : d' = d) (hi : i < 4096) :
    addUp 0 (tapTerm P W s i d d') 31 + b (ix1 (n0 := 512) d) = convolved P W b (4096 * s + i) d := by
  unfold convolved
  rw [addUp_zero]
  exact addUp_congr rfl _ fun j _ => tapTerm_eq P W s i d d' hd hi j

/-- The convolution's result. -/
theorem ref_convolved (y : S16x4096x512.Idx) : val_main_v232 (F := Ideal) P W b y = convolved P W b (4096 * (y 0).val + (y 1).val) (y 2) := by
  have h1 : (y 1).val < 4096 := (y 1).isLt
  have h2 : (y 2).val < 512 := (y 2).isLt
  have e : (⟨(y 2).val % 512 % 512, Nat.mod_lt _ (by decide)⟩ : Fin 512) = y 2 := Fin.ext (by show (y 2).val % 512 % 512 = (y 2).val; omega)
  have hb : idx_main_v230 (idx_main_v231 y) = ix1 (n0 := 512) (y 2) := funext fun a => match a with | ⟨0, _⟩ => rfl
  rw [val_main_v232_apply, val_main_v231_apply, val_main_v230_apply, ref_taps, hb]
  exact convolved_eq P W b (y 0).val (y 1).val (y 2) _ e h1

/-- A channel less the channels' mean, -/
theorem ref_centred (y : S16x4096x512.Idx) :
    val_main_v238 (F := Ideal) P W b y = centred (convolved P W b (4096 * (y 0).val + (y 1).val)) (y 2) := by
  rw [val_main_v238_apply, val_main_v237_apply, val_main_v236_apply, val_main_v235_apply, val_main_v234_apply, val_main_v233_apply, val_main_cst_2_apply,
    val_main_cst_3_apply]
  unfold centred
  refine congrArg₂ (· - ·) (ref_convolved P W b y) (congrArg (Ideal.div · (Ideal.ofBits .f32 0x44000000#32)) ?_)
  exact (congrArg (· + _) Ideal.ofBits_zero_f32).trans ((zero_add _).trans (Finset.sum_congr rfl fun j _ => ref_convolved P W b _))

/-- the layer norm of the channels, -/
theorem ref_norm (y : S16x4096x512.Idx) :
    val_main_v254 (F := Ideal) P W b g h y = layerNorm (convolved P W b (4096 * (y 0).val + (y 1).val)) (fun j => g (ix1 (n0 := 512) j)) (fun j => h (ix1 (n0 := 512) j)) (y 2) := by
  rw [val_main_v254_apply, val_main_v253_apply, val_main_v252_apply, val_main_v251_apply, val_main_v250_apply, val_main_v249_apply, val_main_v248_apply,
    val_main_v247_apply, val_main_v246_apply, val_main_v245_apply, val_main_v244_apply, val_main_v243_apply, val_main_v242_apply, val_main_v241_apply,
    val_main_v240_apply, val_main_cst_4_apply, val_main_cst_5_apply, val_main_cst_6_apply]
  unfold layerNorm
  refine congrArg₂ (· + ·) (congrArg₂ (· * ·) (congrArg₂ (· * ·) (ref_centred P W b y) (congrArg Ideal.rsqrt
    (congrArg (· + Ideal.ofBits .f32 0x358637BD#32) (congrArg (Ideal.div · (Ideal.ofBits .f32 0x44000000#32)) ?_))))
    (congrArg g (funext fun a => match a with | ⟨0, _⟩ => rfl))) (congrArg h (funext fun a => match a with | ⟨0, _⟩ => rfl))
  exact (congrArg (· + _) Ideal.ofBits_zero_f32).trans ((zero_add _).trans (Finset.sum_congr rfl fun j _ =>
    (val_main_v239_apply (F := Ideal) P W b _).trans (congrArg₂ (· * ·) (ref_centred P W b _) (ref_centred P W b _))))

/-- and its swish. -/
theorem ref_eq (y : S65536x512.Idx) : val_main_v257 (F := Ideal) P W b g h y = final P W b g h (y 0).val (y 1) := by
  have h0 : (y 0).val < 65536 := (y 0).isLt
  have h1 : (y 1).val < 512 := (y 1).isLt
  have one : Ideal.ofBits .f32 0x3F800000#32 = 1 := Ideal.ofBits_one_f32
  rw [val_main_v257_apply, val_main_v256_apply, val_main_v255_apply, val_main_call1_v5_apply, val_main_call1_v4_apply, val_main_call1_v3_apply,
    val_main_call1_v2_apply, val_main_call1_v1_apply, val_main_call1_v0_apply, val_main_call1_cst_apply, val_main_call1_cst_0_apply, ref_norm]
  have n0 : 4096 * (idx_main_v256 y 0).val + (idx_main_v256 y 1).val = (y 0).val := by
    show 4096 * (((y 0).val * 512 + (y 1).val) / 2097152) + ((y 0).val * 512 + (y 1).val) / 512 % 4096 = (y 0).val
    omega
  have n1 : idx_main_v256 y 2 = y 1 := Fin.ext (by show ((y 0).val * 512 + (y 1).val) % 512 = (y 1).val; omega)
  rw [n0, n1]
  unfold final swished
  generalize layerNorm (convolved P W b (y 0).val) (fun j => g (ix1 (n0 := 512) j)) (fun j => h (ix1 (n0 := 512) j)) (y 1) = x
  show x * Ideal.div (Ideal.ofBits .f32 0x3F800000#32) (Ideal.ofBits .f32 0x3F800000#32 + Ideal.exp (-x)) = x * Ideal.logistic x
  rw [one]
  rfl

end Cert.Kernel10Ideal.Conv

end
-- ==== Proof.K10.Value.lean ====
/-
The gated convolution: over the extended reals the call and the reference leave the same result.
-/
module

public import proofs.«01_k».proof.Proof.K10.Ref

@[expose] public section

set_option maxRecDepth 16384

noncomputable section

namespace Cert.Kernel10Ideal.Conv

open Idealize.ShloMosaic Idealize.ShloMosaic.TcCoe Idealize.SL Idealize.SL.Sem

/-- Over the extended reals the call and the reference end with the same result. -/
theorem same : Cert.algebraic_Kernel10Ideal_Reference10Ideal (hKernel10Ideal := Cert.Kernel10Ideal.Gen.facts) (hReference10Ideal := Cert.Reference10Ideal.Gen.facts) := by
  intro m g m' g' _ hagree
  refine ⟨fun c => result m c, ?_, ?_⟩
  · refine (θ_run Cert.Kernel10Ideal.defs _ _).mono (fun r h c => ?_) (Cert.Kernel10Ideal.Value.run_blocks (F := Ideal) m g)
    exact ⟨(h c).1.trans (arr_eq m c), (h c).2⟩
  · refine (θ_run Cert.Reference10Ideal.defs _ _).mono (fun r h c => ⟨(h c).1.trans ?_, (h c).2⟩) (Cert.Reference10Ideal.Value.run (F := Ideal) m' g')
    obtain ⟨h0, h1, h2, h3, h4⟩ := hagree c
    refine (Cert.Reference10Ideal.Read.val_main_v257_eq (F := Ideal) _).trans (funext fun y => ?_)
    refine (ref_eq _ _ _ _ _ y).trans ?_
    show final (m' ((c : Thread Cert.Reference10Ideal.nD Cert.Reference10Ideal.τ).loc Cert.Reference10Ideal.main_arg0)) (m' ((c : Thread Cert.Reference10Ideal.nD Cert.Reference10Ideal.τ).loc Cert.Reference10Ideal.main_arg1))
      (m' ((c : Thread Cert.Reference10Ideal.nD Cert.Reference10Ideal.τ).loc Cert.Reference10Ideal.main_arg2)) (m' ((c : Thread Cert.Reference10Ideal.nD Cert.Reference10Ideal.τ).loc Cert.Reference10Ideal.main_arg3))
      (m' ((c : Thread Cert.Reference10Ideal.nD Cert.Reference10Ideal.τ).loc Cert.Reference10Ideal.main_arg4)) (y 0).val (y 1) = _
    rw [h0, h1, h2, h3, h4]
    rfl

/-- Every run of the reference ends, with the arguments unchanged. -/
theorem frame_reference : Cert.quiescent_Reference10Ideal (hReference10Ideal := Cert.Reference10Ideal.Gen.facts) :=
  fun m g _ => (θ_run Cert.Reference10Ideal.defs _ _).mono
    (fun r h => ⟨fun c => (h c).2, sem_eq_zero_of_no_sems (by decide) r.2⟩) (Cert.Reference10Ideal.Value.run (F := Ideal) m g)

end Cert.Kernel10Ideal.Conv

end
-- ==== Proof.lean ====
/-
The claims, put together: for every call its frame as it is and over the extended reals, the reference's, and the equality of
the two programs' results over the extended reals; for the differential attention the two frames alone.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_groups
public import proofs.«01_k».proof.Proof.Gen.Pre_pre
public import proofs.«01_k».proof.Proof.Gen.ReferenceIdeal.Run
public import proofs.«01_k».proof.Proof.P.Tables
public import proofs.«01_k».proof.Proof.PI.Tables
public import proofs.«01_k».proof.Proof.PI.Value
public import proofs.«01_k».proof.Proof.RI.Value
public import proofs.«01_k».proof.Proof.Pre
public import proofs.«01_k».proof.Proof.Gen.Kernel2
public import proofs.«01_k».proof.Proof.Gen.Kernel2.Frame
public import proofs.«01_k».proof.Proof.Gen.Kernel2Ideal.Frame
public import proofs.«01_k».proof.Proof.K2.Value
public import proofs.«01_k».proof.Proof.Gen.Kernel3
public import proofs.«01_k».proof.Proof.Gen.Kernel3.Frame
public import proofs.«01_k».proof.Proof.Gen.Kernel3Ideal.Frame
public import proofs.«01_k».proof.Proof.K3.Value
public import proofs.«01_k».proof.Proof.Gen.Kernel4
public import proofs.«01_k».proof.Proof.Gen.Kernel4.Frame
public import proofs.«01_k».proof.Proof.Gen.Kernel4Ideal.Frame
public import proofs.«01_k».proof.Proof.K4.Value
public import proofs.«01_k».proof.Proof.Gen.Kernel5
public import proofs.«01_k».proof.Proof.Gen.Kernel5.Frame
public import proofs.«01_k».proof.Proof.Gen.Kernel5Ideal.Frame
public import proofs.«01_k».proof.Proof.K5.Value
public import proofs.«01_k».proof.Proof.Gen.Kernel6
public import proofs.«01_k».proof.Proof.Gen.Kernel6.Frame
public import proofs.«01_k».proof.Proof.Gen.Kernel6Ideal.Frame
public import proofs.«01_k».proof.Proof.K6.Value
public import proofs.«01_k».proof.Proof.Gen.Kernel7
public import proofs.«01_k».proof.Proof.Gen.Kernel7.Frame
public import proofs.«01_k».proof.Proof.Gen.Kernel7Ideal.Frame
public import proofs.«01_k».proof.Proof.K7.Value
public import proofs.«01_k».proof.Proof.Gen.Kernel8
public import proofs.«01_k».proof.Proof.Gen.Kernel8Ideal
public import proofs.«01_k».proof.Proof.P8.Frame
public import proofs.«01_k».proof.Proof.PI8.Frame
public import proofs.«01_k».proof.Proof.Gen.Kernel9
public import proofs.«01_k».proof.Proof.Gen.Kernel9.Frame
public import proofs.«01_k».proof.Proof.Gen.Kernel9Ideal.Frame
public import proofs.«01_k».proof.Proof.K9.Value
public import proofs.«01_k».proof.Proof.Gen.Kernel10
public import proofs.«01_k».proof.Proof.Gen.Kernel10.Frame
public import proofs.«01_k».proof.Proof.Gen.Kernel10Ideal.Frame
public import proofs.«01_k».proof.Proof.K10.Value
public import Idealize.ShloMosaic.Adequacy
public import Idealize.ShloMosaic.Init

@[expose] public section

set_option maxRecDepth 16384

noncomputable section

namespace Cert.Proof

open Idealize.ShloMosaic Idealize.SL.Sem Cert.Experts

/-- With the groups in range the call's tables pick blocks inside the weights: as it is, -/
theorem ok_kernel (m : (ℓ : Loc Cert.Kernel.nD Cert.Kernel.τ Cert.Kernel.sig) → Buf (Elt Bits) ℓ)
    (h : Cert.Pre_Kernel (hPre_groups := Cert.Pre_groups.Gen.facts) m) : Cert.Kernel.Experts.Ok m :=
  Cert.Kernel.Experts.ok_of _ (groups_at _ _ _ _ _ _ (h 0))

/-- over the extended reals, -/
theorem ok_ideal (m : (ℓ : Loc Cert.KernelIdeal.nD Cert.KernelIdeal.τ Cert.KernelIdeal.sig) → Buf (Elt Ideal) ℓ)
    (h : Cert.Pre_KernelIdeal (hPre_groups := Cert.Pre_groups.Gen.facts) m) : Cert.KernelIdeal.Experts.Ok m :=
  Cert.KernelIdeal.Experts.ok_of _ (groups_at _ _ _ _ _ _ (h 0))

/-- every group of the table, -/
theorem group_lt (m : (ℓ : Loc Cert.KernelIdeal.nD Cert.KernelIdeal.τ Cert.KernelIdeal.sig) → Buf (Elt Ideal) ℓ)
    (h : Cert.Pre_KernelIdeal_pre (hPre_pre := Cert.Pre_pre.Gen.facts) m) (c : Dev Cert.KernelIdeal.nD) (b : Fin 68) :
    (Cert.KernelIdeal.Experts.argB m c b).toNat < 4 :=
  pre_group _ _ _ _ _ _ (h c) b

/-- and with the gates probabilities too. -/
theorem ok_pre (m : (ℓ : Loc Cert.KernelIdeal.nD Cert.KernelIdeal.τ Cert.KernelIdeal.sig) → Buf (Elt Ideal) ℓ)
    (h : Cert.Pre_KernelIdeal_pre (hPre_pre := Cert.Pre_pre.Gen.facts) m) : Cert.KernelIdeal.Experts.Ok m :=
  Cert.KernelIdeal.Experts.ok_of _ fun y => by
    have e : y = ix1 (n0 := 68) (y 0) := funext fun a => match a with | ⟨0, _⟩ => rfl
    rw [e]
    exact group_lt m h 0 (y 0)

/-- The frames. -/
theorem frame_kernel : Cert.quiescent_Kernel (hKernel := Cert.Kernel.Gen.facts) (hPre_groups := Cert.Pre_groups.Gen.facts) :=
  fun m g h => Cert.Kernel.Experts.frame m g (ok_kernel m h)

theorem frame_ideal : Cert.quiescent_KernelIdeal (hKernelIdeal := Cert.KernelIdeal.Gen.facts) (hPre_groups := Cert.Pre_groups.Gen.facts) :=
  fun m g h => Cert.KernelIdeal.Experts.frame m g (ok_ideal m h)

theorem frame_ideal_pre : Cert.quiescent_KernelIdeal_pre_pre (hKernelIdeal := Cert.KernelIdeal.Gen.facts) (hPre_pre := Cert.Pre_pre.Gen.facts) :=
  fun m g h => Cert.KernelIdeal.Experts.frame m g (ok_pre m h)

theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

theorem frame_reference_pre : Cert.quiescent_ReferenceIdeal_pre_pre (hReferenceIdeal := Cert.ReferenceIdeal.Gen.facts) (hPre_pre := Cert.Pre_pre.Gen.facts) :=
  fun m g _ => frame_reference m g trivial

/-- Over the extended reals the call and the reference end with the same result. -/
theorem same : Cert.algebraic_KernelIdeal_ReferenceIdeal_pre_pre (hKernelIdeal := Cert.KernelIdeal.Gen.facts) (hReferenceIdeal := Cert.ReferenceIdeal.Gen.facts)
    (hPre_pre := Cert.Pre_pre.Gen.facts) := by
  intro m g m' g' hpre hagree
  have hO := ok_pre m hpre
  refine ⟨fun c => Cert.KernelIdeal.Experts.result m c, ?_, ?_⟩
  · refine (θ_run Cert.KernelIdeal.defs _ _).mono (fun r h c => ?_) (Cert.KernelIdeal.Experts.run_main m g hO)
    exact ⟨((h.1 c).1 4).trans (Cert.KernelIdeal.Experts.arr_eq m hO c (group_lt m hpre c)),
      Cert.KernelIdeal.Experts.unchanged_of m hO (Cert.KernelIdeal.Experts.dats m hO) (Cert.KernelIdeal.Experts.A_eq m hO) r h.1 c⟩
  · refine (θ_run Cert.ReferenceIdeal.defs _ _).mono (fun r h c => ⟨(h c).1.trans ?_, (h c).2⟩) (Cert.ReferenceIdeal.Value.run (F := Ideal) m' g')
    obtain ⟨h0, h1, h2, h3, h4, h5⟩ := hagree c
    exact funext fun y => Cert.ReferenceIdeal.Experts.res_at m' c _ _ _ _ _ _ h0 h1 h2 h3 h4 h5 (group_lt m hpre c)
      (pre_gate _ _ _ _ _ _ (hpre c)) y

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_groups.Gen.facts, Cert.Pre_pre.Gen.facts, Cert.Pre_finite.Gen.facts,
  frame_kernel, frame_ideal, frame_ideal_pre, frame_reference, frame_reference_pre,
  fun m g _ => Cert.Kernel2.Gen.frame m g, fun m g _ => Cert.Kernel2Ideal.Gen.frame m g, Cert.Kernel2Ideal.Project.frame_ideal,
  Cert.Kernel2Ideal.Project.frame_reference, Cert.Kernel2Ideal.Project.frame_reference_pre,
  fun m g _ => Cert.Kernel3.Gen.frame m g, fun m g _ => Cert.Kernel3Ideal.Gen.frame m g, Cert.Kernel3Ideal.Project.frame_reference,
  fun m g _ => Cert.Kernel4.Gen.frame m g, fun m g _ => Cert.Kernel4Ideal.Gen.frame m g, Cert.Kernel4Ideal.Project.frame_reference,
  fun m g _ => Cert.Kernel5.Gen.frame m g, fun m g _ => Cert.Kernel5Ideal.Gen.frame m g, Cert.Kernel5Ideal.Project.frame_reference,
  fun m g _ => Cert.Kernel6.Gen.frame m g, fun m g _ => Cert.Kernel6Ideal.Gen.frame m g, Cert.Kernel6Ideal.Project.frame_reference,
  fun m g _ => Cert.Kernel7.Gen.frame m g, fun m g _ => Cert.Kernel7Ideal.Gen.frame m g, Cert.Kernel7Ideal.Project.frame_reference,
  fun m g _ => Cert.Kernel8.frame m g, Cert.Kernel8Ideal.frame,
  fun m g _ => Cert.Kernel9.Gen.frame m g, fun m g _ => Cert.Kernel9Ideal.Gen.frame m g, Cert.Kernel9Ideal.Last.frame_reference,
  fun m g _ => Cert.Kernel10.Gen.frame m g, fun m g _ => Cert.Kernel10Ideal.Gen.frame m g, Cert.Kernel10Ideal.Conv.frame_reference,
  trivial, same,
  trivial, Cert.Kernel2Ideal.Project.same,
  trivial, Cert.Kernel3Ideal.Project.same,
  trivial, Cert.Kernel4Ideal.Project.same,
  trivial, Cert.Kernel5Ideal.Project.same,
  trivial, Cert.Kernel6Ideal.Project.same,
  trivial, Cert.Kernel7Ideal.Project.same,
  trivial,
  trivial, Cert.Kernel9Ideal.Last.same,
  trivial, Cert.Kernel10Ideal.Conv.same⟩

end Cert.Proof

end
